-- ==== Defs.lean ====
def Pre_Kernel [hPre_colours_in_range : Cert.Pre_colours_in_range.Facts] (m : (ℓ : Loc Cert.Kernel.nD Cert.Kernel.τ Cert.Kernel.sig) → Buf (Elt Bits) ℓ) : Prop :=
  ∀ c : Dev Cert.Kernel.nD,
    (Cert.Pre_colours_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_colours_in_range : Cert.Pre_colours_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_colours_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_colours_in_range : Cert.Pre_colours_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_colours_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_colours_in_range : Cert.Pre_colours_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_colours_in_range : Cert.Pre_colours_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_colours_in_range : Cert.Pre_colours_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_colours_in_range : Cert.Pre_colours_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_colours_in_range : Cert.Pre_colours_in_range.Facts),
    quiescent_Kernel (hKernel := hKernel) (hPre_colours_in_range := hPre_colours_in_range)
    ∧ quiescent_KernelIdeal (hKernelIdeal := hKernelIdeal) (hPre_colours_in_range := hPre_colours_in_range)
    ∧ quiescent_ReferenceIdeal (hReferenceIdeal := hReferenceIdeal) (hPre_colours_in_range := hPre_colours_in_range)
    ∧ preserves_Kernel_KernelIdeal
    ∧ algebraic_KernelIdeal_ReferenceIdeal (hKernelIdeal := hKernelIdeal) (hReferenceIdeal := hReferenceIdeal) (hPre_colours_in_range := hPre_colours_in_range)
-- ==== Pre_colours_in_range.lean ====
abbrev S16x200x27x48x3 : Shape := ⟨5, ![16, 200, 27, 48, 3]⟩
abbrev S128x101 : Shape := ⟨2, ![128, 101]⟩
abbrev S128 : Shape := ⟨1, ![128]⟩
abbrev S_ : Shape := ⟨0, ![]⟩

class Facts : Prop where
  bcast_S_S16x200x27x48x3 : S_.BroadcastsInDim S16x200x27x48x3 (![] : Fin 0 → Fin S16x200x27x48x3.rank)
  reducesTo_S16x200x27x48x3_S_d0_1_2_3_4 : S16x200x27x48x3.ReducesTo [0, 1, 2, 3, 4] S_
  h_S_ : 0 < S_.numel

variable [Facts]

def fn {F : FTy → Type} [FloatOps F] (main_arg0 : IVec S16x200x27x48x3 32) (main_arg1 : FVec F S128x101 .f32) (main_arg2 : FVec F S128 .f32) : IVec S_ 1 :=
  let main_c : IVec S_ 32 := constantI S_ 32 0#32
  let main_v0 : IVec S16x200x27x48x3 32 := broadcastInDim S16x200x27x48x3 ![] bcast_S_S16x200x27x48x3 main_c
  let main_v1 : IVec S16x200x27x48x3 1 := cmpi .sge main_arg0 main_v0
  let main_c_0 : IVec S_ 32 := constantI S_ 32 256#32
  let main_v2 : IVec S16x200x27x48x3 32 := broadcastInDim S16x200x27x48x3 ![] bcast_S_S16x200x27x48x3 main_c_0
  let main_v3 : IVec S16x200x27x48x3 1 := cmpi .slt main_arg0 main_v2
  let main_v4 : IVec S16x200x27x48x3 1 := andi main_v1 main_v3
  let main_c_1 : IVec S_ 1 := constantI S_ 1 1#1
  let main_v5 : IVec S_ 1 := (fun x v => Host.reduce IntOp.andi x v reducesTo_S16x200x27x48x3_S_d0_1_2_3_4 h_S_) main_v4 main_c_1
  main_v5
-- ==== Kernel.lean ====
abbrev S16x200x27x48x3 : Shape := ⟨5, ![16, 200, 27, 48, 3]⟩
abbrev S128x101 : Shape := ⟨2, ![128, 101]⟩
abbrev S128 : Shape := ⟨1, ![128]⟩
abbrev S16x27x3x48x200 : Shape := ⟨5, ![16, 27, 3, 48, 200]⟩
abbrev S3276800 : Shape := ⟨1, ![3276800]⟩
abbrev S3x16x200 : Shape := ⟨3, ![3, 16, 200]⟩
abbrev S102400 : Shape := ⟨1, ![102400]⟩
abbrev S_ : Shape := ⟨0, ![]⟩
abbrev S16 : Shape := ⟨1, ![16]⟩
abbrev S1x1x3x16x200 : Shape := ⟨5, ![1, 1, 3, 16, 200]⟩
abbrev S1x1x16 : Shape := ⟨3, ![1, 1, 16]⟩
abbrev S2x16x200x512 : Shape := ⟨4, ![2, 16, 200, 512]⟩
abbrev S101x128 : Shape := ⟨2, ![101, 128]⟩
abbrev S27x128 : Shape := ⟨2, ![27, 128]⟩
abbrev S128x128 : Shape := ⟨2, ![128, 128]⟩
abbrev S1x128 : Shape := ⟨2, ![1, 128]⟩
abbrev S16x200x128 : Shape := ⟨3, ![16, 200, 128]⟩
abbrev S2x1x200x512 : Shape := ⟨4, ![2, 1, 200, 512]⟩
abbrev S1x200x128 : Shape := ⟨3, ![1, 200, 128]⟩
abbrev S1x1x200x512 : Shape := ⟨4, ![1, 1, 200, 512]⟩
abbrev S200x512 : Shape := ⟨2, ![200, 512]⟩
abbrev S200 : Shape := ⟨1, ![200]⟩
abbrev S200x1 : Shape := ⟨2, ![200, 1]⟩
abbrev S200x200 : Shape := ⟨2, ![200, 200]⟩
abbrev S200x50 : Shape := ⟨2, ![200, 50]⟩
abbrev S200x70 : Shape := ⟨2, ![200, 70]⟩
abbrev S200x320 : Shape := ⟨2, ![200, 320]⟩
abbrev S8x128 : Shape := ⟨2, ![8, 128]⟩
abbrev S8x127 : Shape := ⟨2, ![8, 127]⟩
abbrev S8x1 : Shape := ⟨2, ![8, 1]⟩
abbrev S8x126 : Shape := ⟨2, ![8, 126]⟩
abbrev S8x2 : Shape := ⟨2, ![8, 2]⟩
abbrev S8x124 : Shape := ⟨2, ![8, 124]⟩
abbrev S8x4 : Shape := ⟨2, ![8, 4]⟩
abbrev S200x128 : Shape := ⟨2, ![200, 128]⟩

abbrev nBuf : Table → Nat
  | .hbm => 12
  | .local .tc .vmem => 6
  | .local .scVector .vmem => 3
  | _ => 0

abbrev bufTy : (tb : Table) → Fin (nBuf tb) → BufTy
  | .hbm, ⟨0, _⟩ => ⟨S16x200x27x48x3, .i32⟩
  | .hbm, ⟨1, _⟩ => ⟨S128x101, .f32⟩
  | .hbm, ⟨2, _⟩ => ⟨S128, .f32⟩
  | .hbm, ⟨3, _⟩ => ⟨S16x27x3x48x200, .i32⟩
  | .hbm, ⟨4, _⟩ => ⟨S3276800, .f32⟩
  | .hbm, ⟨5, _⟩ => ⟨S2x16x200x512, .f32⟩
  | .hbm, ⟨6, _⟩ => ⟨S101x128, .f32⟩
  | .hbm, ⟨7, _⟩ => ⟨S_, .f32⟩
  | .hbm, ⟨8, _⟩ => ⟨S27x128, .f32⟩
  | .hbm, ⟨9, _⟩ => ⟨S128x128, .f32⟩
  | .hbm, ⟨10, _⟩ => ⟨S1x128, .f32⟩
  | .hbm, ⟨11, _⟩ => ⟨S16x200x128, .f32⟩
  | .local .tc .vmem, ⟨0, _⟩ => ⟨S2x1x200x512, .f32⟩
  | .local .tc .vmem, ⟨1, _⟩ => ⟨S2x1x200x512, .f32⟩
  | .local .tc .vmem, ⟨2, _⟩ => ⟨S128x128, .f32⟩
  | .local .tc .vmem, ⟨3, _⟩ => ⟨S1x128, .f32⟩
  | .local .tc .vmem, ⟨4, _⟩ => ⟨S1x200x128, .f32⟩
  | .local .tc .vmem, ⟨5, _⟩ => ⟨S1x200x128, .f32⟩
  | .local .scVector .vmem, ⟨0, _⟩ => ⟨S3x16x200, .i32⟩
  | .local .scVector .vmem, ⟨1, _⟩ => ⟨S3x16x200, .i32⟩
  | .local .scVector .vmem, ⟨2, _⟩ => ⟨S102400, .f32⟩
  | _, _ => ⟨S16x200x27x48x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_3 : BitVec 32 := 0#32
  let c800_i32 : BitVec 32 := 800#32
  let v10 : BitVec 32 := Scalar.addi c0_i32_3 c800_i32
  let c1_i32_4 : BitVec 32 := 1#32
  ⟨c0_i32_3, v10, c1_i32_4⟩
def k0_off1 (k0_t1 : Fin k0_t1_loop.trips) (c0_i32_816 : BitVec 32) : Fin 1 → Nat :=
  let c0_i32_3 : BitVec 32 := 0#32
  let c1_i32_4 : BitVec 32 := 1#32
  let arg10 : BitVec 32 := Scf.iv c0_i32_3 c1_i32_4 k0_t1
  let c128_i32 : BitVec 32 := 128#32
  let v533 : BitVec 32 := Scalar.muli arg10 c128_i32
  let v534 : BitVec 32 := Scalar.addi v533 c0_i32_816
  let v535 : Index := Scalar.indexCast v534
  ![v535.toNat]
def k0_off2 (i : grid0.Coords) (c0_i32_6 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32 : BitVec 32 := 14#32
  let c1_i32_0 : BitVec 32 := 1#32
  let v3 : BitVec 32 := Scalar.andi v1 c1_i32_0
  let v11 : BitVec 32 := Scalar.muli c14_i32 v3
  let v12 : BitVec 32 := Scalar.addi v11 c0_i32_6
  let c0_i32_7 : BitVec 32 := 0#32
  let c0_i32_8 : BitVec 32 := 0#32
  let c0_i32_9 : BitVec 32 := 0#32
  ![v2.toNat, v12.toNat, 0, 0, 0]
def k0_off3 (i : grid0.Coords) (c0_i32_22 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_21 : BitVec 32 := 14#32
  let c1_i32_0 : BitVec 32 := 1#32
  let v3 : BitVec 32 := Scalar.andi v1 c1_i32_0
  let v23 : BitVec 32 := Scalar.muli c14_i32_21 v3
  let v24 : BitVec 32 := Scalar.addi v23 c0_i32_22
  let c0_i32_23 : BitVec 32 := 0#32
  let c16_i32 : BitVec 32 := 16#32
  let c0_i32_24 : BitVec 32 := 0#32
  ![v2.toNat, v24.toNat, 0, 16, 0]
@[reducible] def k0_t2_loop : Scf.Loop 32 :=
  let c0_i32_29 : BitVec 32 := 0#32
  let c256_i32 : BitVec 32 := 256#32
  let v29 : BitVec 32 := Scalar.addi c0_i32_29 c256_i32
  let c1_i32_30 : BitVec 32 := 1#32
  ⟨c0_i32_29, v29, c1_i32_30⟩
def k0_off4 (k0_t2 : Fin k0_t2_loop.trips) : Fin 3 → Nat :=
  let c0_i32_818 : BitVec 32 := 0#32
  let v537 : Index := Scalar.indexCast c0_i32_818
  let c0_i32_29 : BitVec 32 := 0#32
  let c1_i32_30 : BitVec 32 := 1#32
  let arg10 : BitVec 32 := Scf.iv c0_i32_29 c1_i32_30 k0_t2
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off5 (k0_t2 : Fin k0_t2_loop.trips) : Fin 3 → Nat :=
  let c1_i32_819 : BitVec 32 := 1#32
  let v541 : Index := Scalar.indexCast c1_i32_819
  let c0_i32_29 : BitVec 32 := 0#32
  let c1_i32_30 : BitVec 32 := 1#32
  let arg10 : BitVec 32 := Scf.iv c0_i32_29 c1_i32_30 k0_t2
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off6 (k0_t2 : Fin k0_t2_loop.trips) : Fin 3 → Nat :=
  let c2_i32_820 : BitVec 32 := 2#32
  let v545 : Index := Scalar.indexCast c2_i32_820
  let c0_i32_29 : BitVec 32 := 0#32
  let c1_i32_30 : BitVec 32 := 1#32
  let arg10 : BitVec 32 := Scf.iv c0_i32_29 c1_i32_30 k0_t2
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk1 (v564 : IVec S16 32) : Prop :=
  (∀ a x, ((![v564] : Fin 1 → IVec S16 32) a x).toNat < S102400.size a)
theorem k0_idx1_inb : ∀ (v564 : IVec S16 32) (k0_hw1 : k0_chk1 v564), ∀ a x, ((![v564] : Fin 1 → IVec S16 32) a x).toNat < S102400.size a := fun v564 k0_hw1 => k0_hw1
def k0_off7 (i : grid0.Coords) (c0_i32_41 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_40 : BitVec 32 := 14#32
  let c1_i32_0 : BitVec 32 := 1#32
  let v3 : BitVec 32 := Scalar.andi v1 c1_i32_0
  let v36 : BitVec 32 := Scalar.muli c14_i32_40 v3
  let v37 : BitVec 32 := Scalar.addi v36 c0_i32_41
  let c0_i32_42 : BitVec 32 := 0#32
  let c32_i32 : BitVec 32 := 32#32
  let c0_i32_43 : BitVec 32 := 0#32
  ![v2.toNat, v37.toNat, 0, 32, 0]
@[reducible] def k0_t3_loop : Scf.Loop 32 :=
  let c0_i32_48 : BitVec 32 := 0#32
  let c256_i32_49 : BitVec 32 := 256#32
  let v42 : BitVec 32 := Scalar.addi c0_i32_48 c256_i32_49
  let c1_i32_50 : BitVec 32 := 1#32
  ⟨c0_i32_48, v42, c1_i32_50⟩
def k0_off8 (k0_t3 : Fin k0_t3_loop.trips) : Fin 3 → Nat :=
  let c0_i32_818 : BitVec 32 := 0#32
  let v537 : Index := Scalar.indexCast c0_i32_818
  let c0_i32_48 : BitVec 32 := 0#32
  let c1_i32_50 : BitVec 32 := 1#32
  let arg10 : BitVec 32 := Scf.iv c0_i32_48 c1_i32_50 k0_t3
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off9 (k0_t3 : Fin k0_t3_loop.trips) : Fin 3 → Nat :=
  let c1_i32_819 : BitVec 32 := 1#32
  let v541 : Index := Scalar.indexCast c1_i32_819
  let c0_i32_48 : BitVec 32 := 0#32
  let c1_i32_50 : BitVec 32 := 1#32
  let arg10 : BitVec 32 := Scf.iv c0_i32_48 c1_i32_50 k0_t3
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off10 (k0_t3 : Fin k0_t3_loop.trips) : Fin 3 → Nat :=
  let c2_i32_820 : BitVec 32 := 2#32
  let v545 : Index := Scalar.indexCast c2_i32_820
  let c0_i32_48 : BitVec 32 := 0#32
  let c1_i32_50 : BitVec 32 := 1#32
  let arg10 : BitVec 32 := Scf.iv c0_i32_48 c1_i32_50 k0_t3
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk2 (v564 : IVec S16 32) : Prop :=
  (∀ a x, ((![v564] : Fin 1 → IVec S16 32) a x).toNat < S102400.size a)
theorem k0_idx2_inb : ∀ (v564 : IVec S16 32) (k0_hw2 : k0_chk2 v564), ∀ a x, ((![v564] : Fin 1 → IVec S16 32) a x).toNat < S102400.size a := fun v564 k0_hw2 => k0_hw2
@[reducible] def k0_t4_loop : Scf.Loop 32 :=
  let c0_i32_69 : BitVec 32 := 0#32
  let c256_i32_70 : BitVec 32 := 256#32
  let v55 : BitVec 32 := Scalar.addi c0_i32_69 c256_i32_70
  let c1_i32_71 : BitVec 32 := 1#32
  ⟨c0_i32_69, v55, c1_i32_71⟩
def k0_off11 (k0_t4 : Fin k0_t4_loop.trips) : Fin 3 → Nat :=
  let c0_i32_818 : BitVec 32 := 0#32
  let v537 : Index := Scalar.indexCast c0_i32_818
  let c0_i32_69 : BitVec 32 := 0#32
  let c1_i32_71 : BitVec 32 := 1#32
  let arg10 : BitVec 32 := Scf.iv c0_i32_69 c1_i32_71 k0_t4
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off12 (k0_t4 : Fin k0_t4_loop.trips) : Fin 3 → Nat :=
  let c1_i32_819 : BitVec 32 := 1#32
  let v541 : Index := Scalar.indexCast c1_i32_819
  let c0_i32_69 : BitVec 32 := 0#32
  let c1_i32_71 : BitVec 32 := 1#32
  let arg10 : BitVec 32 := Scf.iv c0_i32_69 c1_i32_71 k0_t4
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off13 (k0_t4 : Fin k0_t4_loop.trips) : Fin 3 → Nat :=
  let c2_i32_820 : BitVec 32 := 2#32
  let v545 : Index := Scalar.indexCast c2_i32_820
  let c0_i32_69 : BitVec 32 := 0#32
  let c1_i32_71 : BitVec 32 := 1#32
  let arg10 : BitVec 32 := Scf.iv c0_i32_69 c1_i32_71 k0_t4
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk3 (v564 : IVec S16 32) : Prop :=
  (∀ a x, ((![v564] : Fin 1 → IVec S16 32) a x).toNat < S102400.size a)
theorem k0_idx3_inb : ∀ (v564 : IVec S16 32) (k0_hw3 : k0_chk3 v564), ∀ a x, ((![v564] : Fin 1 → IVec S16 32) a x).toNat < S102400.size a := fun v564 k0_hw3 => k0_hw3
@[reducible] def k0_t5_loop : Scf.Loop 32 :=
  let c0_i32_90 : BitVec 32 := 0#32
  let c256_i32_91 : BitVec 32 := 256#32
  let v68 : BitVec 32 := Scalar.addi c0_i32_90 c256_i32_91
  let c1_i32_92 : BitVec 32 := 1#32
  ⟨c0_i32_90, v68, c1_i32_92⟩
def k0_off14 (k0_t5 : Fin k0_t5_loop.trips) : Fin 3 → Nat :=
  let c0_i32_818 : BitVec 32 := 0#32
  let v537 : Index := Scalar.indexCast c0_i32_818
  let c0_i32_90 : BitVec 32 := 0#32
  let c1_i32_92 : BitVec 32 := 1#32
  let arg10 : BitVec 32 := Scf.iv c0_i32_90 c1_i32_92 k0_t5
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off15 (k0_t5 : Fin k0_t5_loop.trips) : Fin 3 → Nat :=
  let c1_i32_819 : BitVec 32 := 1#32
  let v541 : Index := Scalar.indexCast c1_i32_819
  let c0_i32_90 : BitVec 32 := 0#32
  let c1_i32_92 : BitVec 32 := 1#32
  let arg10 : BitVec 32 := Scf.iv c0_i32_90 c1_i32_92 k0_t5
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off16 (k0_t5 : Fin k0_t5_loop.trips) : Fin 3 → Nat :=
  let c2_i32_820 : BitVec 32 := 2#32
  let v545 : Index := Scalar.indexCast c2_i32_820
  let c0_i32_90 : BitVec 32 := 0#32
  let c1_i32_92 : BitVec 32 := 1#32
  let arg10 : BitVec 32 := Scf.iv c0_i32_90 c1_i32_92 k0_t5
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk4 (v564 : IVec S16 32) : Prop :=
  (∀ a x, ((![v564] : Fin 1 → IVec S16 32) a x).toNat < S102400.size a)
theorem k0_idx4_inb : ∀ (v564 : IVec S16 32) (k0_hw4 : k0_chk4 v564), ∀ a x, ((![v564] : Fin 1 → IVec S16 32) a x).toNat < S102400.size a := fun v564 k0_hw4 => k0_hw4
@[reducible] def k0_t6_loop : Scf.Loop 32 :=
  let c0_i32_111 : BitVec 32 := 0#32
  let c256_i32_112 : BitVec 32 := 256#32
  let v81 : BitVec 32 := Scalar.addi c0_i32_111 c256_i32_112
  let c1_i32_113 : BitVec 32 := 1#32
  ⟨c0_i32_111, v81, c1_i32_113⟩
def k0_off17 (k0_t6 : Fin k0_t6_loop.trips) : Fin 3 → Nat :=
  let c0_i32_818 : BitVec 32 := 0#32
  let v537 : Index := Scalar.indexCast c0_i32_818
  let c0_i32_111 : BitVec 32 := 0#32
  let c1_i32_113 : BitVec 32 := 1#32
  let arg10 : BitVec 32 := Scf.iv c0_i32_111 c1_i32_113 k0_t6
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off18 (k0_t6 : Fin k0_t6_loop.trips) : Fin 3 → Nat :=
  let c1_i32_819 : BitVec 32 := 1#32
  let v541 : Index := Scalar.indexCast c1_i32_819
  let c0_i32_111 : BitVec 32 := 0#32
  let c1_i32_113 : BitVec 32 := 1#32
  let arg10 : BitVec 32 := Scf.iv c0_i32_111 c1_i32_113 k0_t6
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off19 (k0_t6 : Fin k0_t6_loop.trips) : Fin 3 → Nat :=
  let c2_i32_820 : BitVec 32 := 2#32
  let v545 : Index := Scalar.indexCast c2_i32_820
  let c0_i32_111 : BitVec 32 := 0#32
  let c1_i32_113 : BitVec 32 := 1#32
  let arg10 : BitVec 32 := Scf.iv c0_i32_111 c1_i32_113 k0_t6
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk5 (v564 : IVec S16 32) : Prop :=
  (∀ a x, ((![v564] : Fin 1 → IVec S16 32) a x).toNat < S102400.size a)
theorem k0_idx5_inb : ∀ (v564 : IVec S16 32) (k0_hw5 : k0_chk5 v564), ∀ a x, ((![v564] : Fin 1 → IVec S16 32) a x).toNat < S102400.size a := fun v564 k0_hw5 => k0_hw5
@[reducible] def k0_t7_loop : Scf.Loop 32 :=
  let c0_i32_132 : BitVec 32 := 0#32
  let c256_i32_133 : BitVec 32 := 256#32
  let v94 : BitVec 32 := Scalar.addi c0_i32_132 c256_i32_133
  let c1_i32_134 : BitVec 32 := 1#32
  ⟨c0_i32_132, v94, c1_i32_134⟩
def k0_off20 (k0_t7 : Fin k0_t7_loop.trips) : Fin 3 → Nat :=
  let c0_i32_818 : BitVec 32 := 0#32
  let v537 : Index := Scalar.indexCast c0_i32_818
  let c0_i32_132 : BitVec 32 := 0#32
  let c1_i32_134 : BitVec 32 := 1#32
  let arg10 : BitVec 32 := Scf.iv c0_i32_132 c1_i32_134 k0_t7
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off21 (k0_t7 : Fin k0_t7_loop.trips) : Fin 3 → Nat :=
  let c1_i32_819 : BitVec 32 := 1#32
  let v541 : Index := Scalar.indexCast c1_i32_819
  let c0_i32_132 : BitVec 32 := 0#32
  let c1_i32_134 : BitVec 32 := 1#32
  let arg10 : BitVec 32 := Scf.iv c0_i32_132 c1_i32_134 k0_t7
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off22 (k0_t7 : Fin k0_t7_loop.trips) : Fin 3 → Nat :=
  let c2_i32_820 : BitVec 32 := 2#32
  let v545 : Index := Scalar.indexCast c2_i32_820
  let c0_i32_132 : BitVec 32 := 0#32
  let c1_i32_134 : BitVec 32 := 1#32
  let arg10 : BitVec 32 := Scf.iv c0_i32_132 c1_i32_134 k0_t7
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk6 (v564 : IVec S16 32) : Prop :=
  (∀ a x, ((![v564] : Fin 1 → IVec S16 32) a x).toNat < S102400.size a)
theorem k0_idx6_inb : ∀ (v564 : IVec S16 32) (k0_hw6 : k0_chk6 v564), ∀ a x, ((![v564] : Fin 1 → IVec S16 32) a x).toNat < S102400.size a := fun v564 k0_hw6 => k0_hw6
@[reducible] def k0_t8_loop : Scf.Loop 32 :=
  let c0_i32_153 : BitVec 32 := 0#32
  let c256_i32_154 : BitVec 32 := 256#32
  let v107 : BitVec 32 := Scalar.addi c0_i32_153 c256_i32_154
  let c1_i32_155 : BitVec 32 := 1#32
  ⟨c0_i32_153, v107, c1_i32_155⟩
def k0_off23 (k0_t8 : Fin k0_t8_loop.trips) : Fin 3 → Nat :=
  let c0_i32_818 : BitVec 32 := 0#32
  let v537 : Index := Scalar.indexCast c0_i32_818
  let c0_i32_153 : BitVec 32 := 0#32
  let c1_i32_155 : BitVec 32 := 1#32
  let arg10 : BitVec 32 := Scf.iv c0_i32_153 c1_i32_155 k0_t8
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off24 (k0_t8 : Fin k0_t8_loop.trips) : Fin 3 → Nat :=
  let c1_i32_819 : BitVec 32 := 1#32
  let v541 : Index := Scalar.indexCast c1_i32_819
  let c0_i32_153 : BitVec 32 := 0#32
  let c1_i32_155 : BitVec 32 := 1#32
  let arg10 : BitVec 32 := Scf.iv c0_i32_153 c1_i32_155 k0_t8
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off25 (k0_t8 : Fin k0_t8_loop.trips) : Fin 3 → Nat :=
  let c2_i32_820 : BitVec 32 := 2#32
  let v545 : Index := Scalar.indexCast c2_i32_820
  let c0_i32_153 : BitVec 32 := 0#32
  let c1_i32_155 : BitVec 32 := 1#32
  let arg10 : BitVec 32 := Scf.iv c0_i32_153 c1_i32_155 k0_t8
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk7 (v564 : IVec S16 32) : Prop :=
  (∀ a x, ((![v564] : Fin 1 → IVec S16 32) a x).toNat < S102400.size a)
theorem k0_idx7_inb : ∀ (v564 : IVec S16 32) (k0_hw7 : k0_chk7 v564), ∀ a x, ((![v564] : Fin 1 → IVec S16 32) a x).toNat < S102400.size a := fun v564 k0_hw7 => k0_hw7
@[reducible] def k0_t9_loop : Scf.Loop 32 :=
  let c0_i32_174 : BitVec 32 := 0#32
  let c256_i32_175 : BitVec 32 := 256#32
  let v120 : BitVec 32 := Scalar.addi c0_i32_174 c256_i32_175
  let c1_i32_176 : BitVec 32 := 1#32
  ⟨c0_i32_174, v120, c1_i32_176⟩
def k0_off26 (k0_t9 : Fin k0_t9_loop.trips) : Fin 3 → Nat :=
  let c0_i32_818 : BitVec 32 := 0#32
  let v537 : Index := Scalar.indexCast c0_i32_818
  let c0_i32_174 : BitVec 32 := 0#32
  let c1_i32_176 : BitVec 32 := 1#32
  let arg10 : BitVec 32 := Scf.iv c0_i32_174 c1_i32_176 k0_t9
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off27 (k0_t9 : Fin k0_t9_loop.trips) : Fin 3 → Nat :=
  let c1_i32_819 : BitVec 32 := 1#32
  let v541 : Index := Scalar.indexCast c1_i32_819
  let c0_i32_174 : BitVec 32 := 0#32
  let c1_i32_176 : BitVec 32 := 1#32
  let arg10 : BitVec 32 := Scf.iv c0_i32_174 c1_i32_176 k0_t9
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off28 (k0_t9 : Fin k0_t9_loop.trips) : Fin 3 → Nat :=
  let c2_i32_820 : BitVec 32 := 2#32
  let v545 : Index := Scalar.indexCast c2_i32_820
  let c0_i32_174 : BitVec 32 := 0#32
  let c1_i32_176 : BitVec 32 := 1#32
  let arg10 : BitVec 32 := Scf.iv c0_i32_174 c1_i32_176 k0_t9
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk8 (v564 : IVec S16 32) : Prop :=
  (∀ a x, ((![v564] : Fin 1 → IVec S16 32) a x).toNat < S102400.size a)
theorem k0_idx8_inb : ∀ (v564 : IVec S16 32) (k0_hw8 : k0_chk8 v564), ∀ a x, ((![v564] : Fin 1 → IVec S16 32) a x).toNat < S102400.size a := fun v564 k0_hw8 => k0_hw8
@[reducible] def k0_t10_loop : Scf.Loop 32 :=
  let c0_i32_194 : BitVec 32 := 0#32
  let c256_i32_195 : BitVec 32 := 256#32
  let v133 : BitVec 32 := Scalar.addi c0_i32_194 c256_i32_195
  let c1_i32_196 : BitVec 32 := 1#32
  ⟨c0_i32_194, v133, c1_i32_196⟩
def k0_off29 (k0_t10 : Fin k0_t10_loop.trips) : Fin 3 → Nat :=
  let c0_i32_818 : BitVec 32 := 0#32
  let v537 : Index := Scalar.indexCast c0_i32_818
  let c0_i32_194 : BitVec 32 := 0#32
  let c1_i32_196 : BitVec 32 := 1#32
  let arg10 : BitVec 32 := Scf.iv c0_i32_194 c1_i32_196 k0_t10
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off30 (k0_t10 : Fin k0_t10_loop.trips) : Fin 3 → Nat :=
  let c1_i32_819 : BitVec 32 := 1#32
  let v541 : Index := Scalar.indexCast c1_i32_819
  let c0_i32_194 : BitVec 32 := 0#32
  let c1_i32_196 : BitVec 32 := 1#32
  let arg10 : BitVec 32 := Scf.iv c0_i32_194 c1_i32_196 k0_t10
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off31 (k0_t10 : Fin k0_t10_loop.trips) : Fin 3 → Nat :=
  let c2_i32_820 : BitVec 32 := 2#32
  let v545 : Index := Scalar.indexCast c2_i32_820
  let c0_i32_194 : BitVec 32 := 0#32
  let c1_i32_196 : BitVec 32 := 1#32
  let arg10 : BitVec 32 := Scf.iv c0_i32_194 c1_i32_196 k0_t10
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk9 (v564 : IVec S16 32) : Prop :=
  (∀ a x, ((![v564] : Fin 1 → IVec S16 32) a x).toNat < S102400.size a)
theorem k0_idx9_inb : ∀ (v564 : IVec S16 32) (k0_hw9 : k0_chk9 v564), ∀ a x, ((![v564] : Fin 1 → IVec S16 32) a x).toNat < S102400.size a := fun v564 k0_hw9 => k0_hw9
@[reducible] def k0_t11_loop : Scf.Loop 32 :=
  let c0_i32_215 : BitVec 32 := 0#32
  let c256_i32_216 : BitVec 32 := 256#32
  let v146 : BitVec 32 := Scalar.addi c0_i32_215 c256_i32_216
  let c1_i32_217 : BitVec 32 := 1#32
  ⟨c0_i32_215, v146, c1_i32_217⟩
def k0_off32 (k0_t11 : Fin k0_t11_loop.trips) : Fin 3 → Nat :=
  let c0_i32_818 : BitVec 32 := 0#32
  let v537 : Index := Scalar.indexCast c0_i32_818
  let c0_i32_215 : BitVec 32 := 0#32
  let c1_i32_217 : BitVec 32 := 1#32
  let arg10 : BitVec 32 := Scf.iv c0_i32_215 c1_i32_217 k0_t11
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off33 (k0_t11 : Fin k0_t11_loop.trips) : Fin 3 → Nat :=
  let c1_i32_819 : BitVec 32 := 1#32
  let v541 : Index := Scalar.indexCast c1_i32_819
  let c0_i32_215 : BitVec 32 := 0#32
  let c1_i32_217 : BitVec 32 := 1#32
  let arg10 : BitVec 32 := Scf.iv c0_i32_215 c1_i32_217 k0_t11
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off34 (k0_t11 : Fin k0_t11_loop.trips) : Fin 3 → Nat :=
  let c2_i32_820 : BitVec 32 := 2#32
  let v545 : Index := Scalar.indexCast c2_i32_820
  let c0_i32_215 : BitVec 32 := 0#32
  let c1_i32_217 : BitVec 32 := 1#32
  let arg10 : BitVec 32 := Scf.iv c0_i32_215 c1_i32_217 k0_t11
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk10 (v564 : IVec S16 32) : Prop :=
  (∀ a x, ((![v564] : Fin 1 → IVec S16 32) a x).toNat < S102400.size a)
theorem k0_idx10_inb : ∀ (v564 : IVec S16 32) (k0_hw10 : k0_chk10 v564), ∀ a x, ((![v564] : Fin 1 → IVec S16 32) a x).toNat < S102400.size a := fun v564 k0_hw10 => k0_hw10
@[reducible] def k0_t12_loop : Scf.Loop 32 :=
  let c0_i32_236 : BitVec 32 := 0#32
  let c256_i32_237 : BitVec 32 := 256#32
  let v159 : BitVec 32 := Scalar.addi c0_i32_236 c256_i32_237
  let c1_i32_238 : BitVec 32 := 1#32
  ⟨c0_i32_236, v159, c1_i32_238⟩
def k0_off35 (k0_t12 : Fin k0_t12_loop.trips) : Fin 3 → Nat :=
  let c0_i32_818 : BitVec 32 := 0#32
  let v537 : Index := Scalar.indexCast c0_i32_818
  let c0_i32_236 : BitVec 32 := 0#32
  let c1_i32_238 : BitVec 32 := 1#32
  let arg10 : BitVec 32 := Scf.iv c0_i32_236 c1_i32_238 k0_t12
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off36 (k0_t12 : Fin k0_t12_loop.trips) : Fin 3 → Nat :=
  let c1_i32_819 : BitVec 32 := 1#32
  let v541 : Index := Scalar.indexCast c1_i32_819
  let c0_i32_236 : BitVec 32 := 0#32
  let c1_i32_238 : BitVec 32 := 1#32
  let arg10 : BitVec 32 := Scf.iv c0_i32_236 c1_i32_238 k0_t12
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off37 (k0_t12 : Fin k0_t12_loop.trips) : Fin 3 → Nat :=
  let c2_i32_820 : BitVec 32 := 2#32
  let v545 : Index := Scalar.indexCast c2_i32_820
  let c0_i32_236 : BitVec 32 := 0#32
  let c1_i32_238 : BitVec 32 := 1#32
  let arg10 : BitVec 32 := Scf.iv c0_i32_236 c1_i32_238 k0_t12
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk11 (v564 : IVec S16 32) : Prop :=
  (∀ a x, ((![v564] : Fin 1 → IVec S16 32) a x).toNat < S102400.size a)
theorem k0_idx11_inb : ∀ (v564 : IVec S16 32) (k0_hw11 : k0_chk11 v564), ∀ a x, ((![v564] : Fin 1 → IVec S16 32) a x).toNat < S102400.size a := fun v564 k0_hw11 => k0_hw11
@[reducible] def k0_t13_loop : Scf.Loop 32 :=
  let c0_i32_256 : BitVec 32 := 0#32
  let c256_i32_257 : BitVec 32 := 256#32
  let v172 : BitVec 32 := Scalar.addi c0_i32_256 c256_i32_257
  let c1_i32_258 : BitVec 32 := 1#32
  ⟨c0_i32_256, v172, c1_i32_258⟩
def k0_off38 (k0_t13 : Fin k0_t13_loop.trips) : Fin 3 → Nat :=
  let c0_i32_818 : BitVec 32 := 0#32
  let v537 : Index := Scalar.indexCast c0_i32_818
  let c0_i32_256 : BitVec 32 := 0#32
  let c1_i32_258 : BitVec 32 := 1#32
  let arg10 : BitVec 32 := Scf.iv c0_i32_256 c1_i32_258 k0_t13
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off39 (k0_t13 : Fin k0_t13_loop.trips) : Fin 3 → Nat :=
  let c1_i32_819 : BitVec 32 := 1#32
  let v541 : Index := Scalar.indexCast c1_i32_819
  let c0_i32_256 : BitVec 32 := 0#32
  let c1_i32_258 : BitVec 32 := 1#32
  let arg10 : BitVec 32 := Scf.iv c0_i32_256 c1_i32_258 k0_t13
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off40 (k0_t13 : Fin k0_t13_loop.trips) : Fin 3 → Nat :=
  let c2_i32_820 : BitVec 32 := 2#32
  let v545 : Index := Scalar.indexCast c2_i32_820
  let c0_i32_256 : BitVec 32 := 0#32
  let c1_i32_258 : BitVec 32 := 1#32
  let arg10 : BitVec 32 := Scf.iv c0_i32_256 c1_i32_258 k0_t13
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk12 (v564 : IVec S16 32) : Prop :=
  (∀ a x, ((![v564] : Fin 1 → IVec S16 32) a x).toNat < S102400.size a)
theorem k0_idx12_inb : ∀ (v564 : IVec S16 32) (k0_hw12 : k0_chk12 v564), ∀ a x, ((![v564] : Fin 1 → IVec S16 32) a x).toNat < S102400.size a := fun v564 k0_hw12 => k0_hw12
@[reducible] def k0_t14_loop : Scf.Loop 32 :=
  let c0_i32_277 : BitVec 32 := 0#32
  let c256_i32_278 : BitVec 32 := 256#32
  let v185 : BitVec 32 := Scalar.addi c0_i32_277 c256_i32_278
  let c1_i32_279 : BitVec 32 := 1#32
  ⟨c0_i32_277, v185, c1_i32_279⟩
def k0_off41 (k0_t14 : Fin k0_t14_loop.trips) : Fin 3 → Nat :=
  let c0_i32_818 : BitVec 32 := 0#32
  let v537 : Index := Scalar.indexCast c0_i32_818
  let c0_i32_277 : BitVec 32 := 0#32
  let c1_i32_279 : BitVec 32 := 1#32
  let arg10 : BitVec 32 := Scf.iv c0_i32_277 c1_i32_279 k0_t14
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off42 (k0_t14 : Fin k0_t14_loop.trips) : Fin 3 → Nat :=
  let c1_i32_819 : BitVec 32 := 1#32
  let v541 : Index := Scalar.indexCast c1_i32_819
  let c0_i32_277 : BitVec 32 := 0#32
  let c1_i32_279 : BitVec 32 := 1#32
  let arg10 : BitVec 32 := Scf.iv c0_i32_277 c1_i32_279 k0_t14
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off43 (k0_t14 : Fin k0_t14_loop.trips) : Fin 3 → Nat :=
  let c2_i32_820 : BitVec 32 := 2#32
  let v545 : Index := Scalar.indexCast c2_i32_820
  let c0_i32_277 : BitVec 32 := 0#32
  let c1_i32_279 : BitVec 32 := 1#32
  let arg10 : BitVec 32 := Scf.iv c0_i32_277 c1_i32_279 k0_t14
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk13 (v564 : IVec S16 32) : Prop :=
  (∀ a x, ((![v564] : Fin 1 → IVec S16 32) a x).toNat < S102400.size a)
theorem k0_idx13_inb : ∀ (v564 : IVec S16 32) (k0_hw13 : k0_chk13 v564), ∀ a x, ((![v564] : Fin 1 → IVec S16 32) a x).toNat < S102400.size a := fun v564 k0_hw13 => k0_hw13
@[reducible] def k0_t15_loop : Scf.Loop 32 :=
  let c0_i32_298 : BitVec 32 := 0#32
  let c256_i32_299 : BitVec 32 := 256#32
  let v198 : BitVec 32 := Scalar.addi c0_i32_298 c256_i32_299
  let c1_i32_300 : BitVec 32 := 1#32
  ⟨c0_i32_298, v198, c1_i32_300⟩
def k0_off44 (k0_t15 : Fin k0_t15_loop.trips) : Fin 3 → Nat :=
  let c0_i32_818 : BitVec 32 := 0#32
  let v537 : Index := Scalar.indexCast c0_i32_818
  let c0_i32_298 : BitVec 32 := 0#32
  let c1_i32_300 : BitVec 32 := 1#32
  let arg10 : BitVec 32 := Scf.iv c0_i32_298 c1_i32_300 k0_t15
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off45 (k0_t15 : Fin k0_t15_loop.trips) : Fin 3 → Nat :=
  let c1_i32_819 : BitVec 32 := 1#32
  let v541 : Index := Scalar.indexCast c1_i32_819
  let c0_i32_298 : BitVec 32 := 0#32
  let c1_i32_300 : BitVec 32 := 1#32
  let arg10 : BitVec 32 := Scf.iv c0_i32_298 c1_i32_300 k0_t15
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off46 (k0_t15 : Fin k0_t15_loop.trips) : Fin 3 → Nat :=
  let c2_i32_820 : BitVec 32 := 2#32
  let v545 : Index := Scalar.indexCast c2_i32_820
  let c0_i32_298 : BitVec 32 := 0#32
  let c1_i32_300 : BitVec 32 := 1#32
  let arg10 : BitVec 32 := Scf.iv c0_i32_298 c1_i32_300 k0_t15
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk14 (v564 : IVec S16 32) : Prop :=
  (∀ a x, ((![v564] : Fin 1 → IVec S16 32) a x).toNat < S102400.size a)
theorem k0_idx14_inb : ∀ (v564 : IVec S16 32) (k0_hw14 : k0_chk14 v564), ∀ a x, ((![v564] : Fin 1 → IVec S16 32) a x).toNat < S102400.size a := fun v564 k0_hw14 => k0_hw14
@[reducible] def k0_t16_loop : Scf.Loop 32 :=
  let c0_i32_318 : BitVec 32 := 0#32
  let c256_i32_319 : BitVec 32 := 256#32
  let v211 : BitVec 32 := Scalar.addi c0_i32_318 c256_i32_319
  let c1_i32_320 : BitVec 32 := 1#32
  ⟨c0_i32_318, v211, c1_i32_320⟩
def k0_off47 (k0_t16 : Fin k0_t16_loop.trips) : Fin 3 → Nat :=
  let c0_i32_818 : BitVec 32 := 0#32
  let v537 : Index := Scalar.indexCast c0_i32_818
  let c0_i32_318 : BitVec 32 := 0#32
  let c1_i32_320 : BitVec 32 := 1#32
  let arg10 : BitVec 32 := Scf.iv c0_i32_318 c1_i32_320 k0_t16
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off48 (k0_t16 : Fin k0_t16_loop.trips) : Fin 3 → Nat :=
  let c1_i32_819 : BitVec 32 := 1#32
  let v541 : Index := Scalar.indexCast c1_i32_819
  let c0_i32_318 : BitVec 32 := 0#32
  let c1_i32_320 : BitVec 32 := 1#32
  let arg10 : BitVec 32 := Scf.iv c0_i32_318 c1_i32_320 k0_t16
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off49 (k0_t16 : Fin k0_t16_loop.trips) : Fin 3 → Nat :=
  let c2_i32_820 : BitVec 32 := 2#32
  let v545 : Index := Scalar.indexCast c2_i32_820
  let c0_i32_318 : BitVec 32 := 0#32
  let c1_i32_320 : BitVec 32 := 1#32
  let arg10 : BitVec 32 := Scf.iv c0_i32_318 c1_i32_320 k0_t16
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk15 (v564 : IVec S16 32) : Prop :=
  (∀ a x, ((![v564] : Fin 1 → IVec S16 32) a x).toNat < S102400.size a)
theorem k0_idx15_inb : ∀ (v564 : IVec S16 32) (k0_hw15 : k0_chk15 v564), ∀ a x, ((![v564] : Fin 1 → IVec S16 32) a x).toNat < S102400.size a := fun v564 k0_hw15 => k0_hw15
@[reducible] def k0_t17_loop : Scf.Loop 32 :=
  let c0_i32_339 : BitVec 32 := 0#32
  let c256_i32_340 : BitVec 32 := 256#32
  let v224 : BitVec 32 := Scalar.addi c0_i32_339 c256_i32_340
  let c1_i32_341 : BitVec 32 := 1#32
  ⟨c0_i32_339, v224, c1_i32_341⟩
def k0_off50 (k0_t17 : Fin k0_t17_loop.trips) : Fin 3 → Nat :=
  let c0_i32_818 : BitVec 32 := 0#32
  let v537 : Index := Scalar.indexCast c0_i32_818
  let c0_i32_339 : BitVec 32 := 0#32
  let c1_i32_341 : BitVec 32 := 1#32
  let arg10 : BitVec 32 := Scf.iv c0_i32_339 c1_i32_341 k0_t17
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off51 (k0_t17 : Fin k0_t17_loop.trips) : Fin 3 → Nat :=
  let c1_i32_819 : BitVec 32 := 1#32
  let v541 : Index := Scalar.indexCast c1_i32_819
  let c0_i32_339 : BitVec 32 := 0#32
  let c1_i32_341 : BitVec 32 := 1#32
  let arg10 : BitVec 32 := Scf.iv c0_i32_339 c1_i32_341 k0_t17
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off52 (k0_t17 : Fin k0_t17_loop.trips) : Fin 3 → Nat :=
  let c2_i32_820 : BitVec 32 := 2#32
  let v545 : Index := Scalar.indexCast c2_i32_820
  let c0_i32_339 : BitVec 32 := 0#32
  let c1_i32_341 : BitVec 32 := 1#32
  let arg10 : BitVec 32 := Scf.iv c0_i32_339 c1_i32_341 k0_t17
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk16 (v564 : IVec S16 32) : Prop :=
  (∀ a x, ((![v564] : Fin 1 → IVec S16 32) a x).toNat < S102400.size a)
theorem k0_idx16_inb : ∀ (v564 : IVec S16 32) (k0_hw16 : k0_chk16 v564), ∀ a x, ((![v564] : Fin 1 → IVec S16 32) a x).toNat < S102400.size a := fun v564 k0_hw16 => k0_hw16
@[reducible] def k0_t18_loop : Scf.Loop 32 :=
  let c0_i32_360 : BitVec 32 := 0#32
  let c256_i32_361 : BitVec 32 := 256#32
  let v237 : BitVec 32 := Scalar.addi c0_i32_360 c256_i32_361
  let c1_i32_362 : BitVec 32 := 1#32
  ⟨c0_i32_360, v237, c1_i32_362⟩
def k0_off53 (k0_t18 : Fin k0_t18_loop.trips) : Fin 3 → Nat :=
  let c0_i32_818 : BitVec 32 := 0#32
  let v537 : Index := Scalar.indexCast c0_i32_818
  let c0_i32_360 : BitVec 32 := 0#32
  let c1_i32_362 : BitVec 32 := 1#32
  let arg10 : BitVec 32 := Scf.iv c0_i32_360 c1_i32_362 k0_t18
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off54 (k0_t18 : Fin k0_t18_loop.trips) : Fin 3 → Nat :=
  let c1_i32_819 : BitVec 32 := 1#32
  let v541 : Index := Scalar.indexCast c1_i32_819
  let c0_i32_360 : BitVec 32 := 0#32
  let c1_i32_362 : BitVec 32 := 1#32
  let arg10 : BitVec 32 := Scf.iv c0_i32_360 c1_i32_362 k0_t18
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off55 (k0_t18 : Fin k0_t18_loop.trips) : Fin 3 → Nat :=
  let c2_i32_820 : BitVec 32 := 2#32
  let v545 : Index := Scalar.indexCast c2_i32_820
  let c0_i32_360 : BitVec 32 := 0#32
  let c1_i32_362 : BitVec 32 := 1#32
  let arg10 : BitVec 32 := Scf.iv c0_i32_360 c1_i32_362 k0_t18
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk17 (v564 : IVec S16 32) : Prop :=
  (∀ a x, ((![v564] : Fin 1 → IVec S16 32) a x).toNat < S102400.size a)
theorem k0_idx17_inb : ∀ (v564 : IVec S16 32) (k0_hw17 : k0_chk17 v564), ∀ a x, ((![v564] : Fin 1 → IVec S16 32) a x).toNat < S102400.size a := fun v564 k0_hw17 => k0_hw17
@[reducible] def k0_t19_loop : Scf.Loop 32 :=
  let c0_i32_380 : BitVec 32 := 0#32
  let c256_i32_381 : BitVec 32 := 256#32
  let v250 : BitVec 32 := Scalar.addi c0_i32_380 c256_i32_381
  let c1_i32_382 : BitVec 32 := 1#32
  ⟨c0_i32_380, v250, c1_i32_382⟩
def k0_off56 (k0_t19 : Fin k0_t19_loop.trips) : Fin 3 → Nat :=
  let c0_i32_818 : BitVec 32 := 0#32
  let v537 : Index := Scalar.indexCast c0_i32_818
  let c0_i32_380 : BitVec 32 := 0#32
  let c1_i32_382 : BitVec 32 := 1#32
  let arg10 : BitVec 32 := Scf.iv c0_i32_380 c1_i32_382 k0_t19
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off57 (k0_t19 : Fin k0_t19_loop.trips) : Fin 3 → Nat :=
  let c1_i32_819 : BitVec 32 := 1#32
  let v541 : Index := Scalar.indexCast c1_i32_819
  let c0_i32_380 : BitVec 32 := 0#32
  let c1_i32_382 : BitVec 32 := 1#32
  let arg10 : BitVec 32 := Scf.iv c0_i32_380 c1_i32_382 k0_t19
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off58 (k0_t19 : Fin k0_t19_loop.trips) : Fin 3 → Nat :=
  let c2_i32_820 : BitVec 32 := 2#32
  let v545 : Index := Scalar.indexCast c2_i32_820
  let c0_i32_380 : BitVec 32 := 0#32
  let c1_i32_382 : BitVec 32 := 1#32
  let arg10 : BitVec 32 := Scf.iv c0_i32_380 c1_i32_382 k0_t19
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk18 (v564 : IVec S16 32) : Prop :=
  (∀ a x, ((![v564] : Fin 1 → IVec S16 32) a x).toNat < S102400.size a)
theorem k0_idx18_inb : ∀ (v564 : IVec S16 32) (k0_hw18 : k0_chk18 v564), ∀ a x, ((![v564] : Fin 1 → IVec S16 32) a x).toNat < S102400.size a := fun v564 k0_hw18 => k0_hw18
@[reducible] def k0_t20_loop : Scf.Loop 32 :=
  let c0_i32_401 : BitVec 32 := 0#32
  let c256_i32_402 : BitVec 32 := 256#32
  let v263 : BitVec 32 := Scalar.addi c0_i32_401 c256_i32_402
  let c1_i32_403 : BitVec 32 := 1#32
  ⟨c0_i32_401, v263, c1_i32_403⟩
def k0_off59 (k0_t20 : Fin k0_t20_loop.trips) : Fin 3 → Nat :=
  let c0_i32_818 : BitVec 32 := 0#32
  let v537 : Index := Scalar.indexCast c0_i32_818
  let c0_i32_401 : BitVec 32 := 0#32
  let c1_i32_403 : BitVec 32 := 1#32
  let arg10 : BitVec 32 := Scf.iv c0_i32_401 c1_i32_403 k0_t20
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off60 (k0_t20 : Fin k0_t20_loop.trips) : Fin 3 → Nat :=
  let c1_i32_819 : BitVec 32 := 1#32
  let v541 : Index := Scalar.indexCast c1_i32_819
  let c0_i32_401 : BitVec 32 := 0#32
  let c1_i32_403 : BitVec 32 := 1#32
  let arg10 : BitVec 32 := Scf.iv c0_i32_401 c1_i32_403 k0_t20
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off61 (k0_t20 : Fin k0_t20_loop.trips) : Fin 3 → Nat :=
  let c2_i32_820 : BitVec 32 := 2#32
  let v545 : Index := Scalar.indexCast c2_i32_820
  let c0_i32_401 : BitVec 32 := 0#32
  let c1_i32_403 : BitVec 32 := 1#32
  let arg10 : BitVec 32 := Scf.iv c0_i32_401 c1_i32_403 k0_t20
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk19 (v564 : IVec S16 32) : Prop :=
  (∀ a x, ((![v564] : Fin 1 → IVec S16 32) a x).toNat < S102400.size a)
theorem k0_idx19_inb : ∀ (v564 : IVec S16 32) (k0_hw19 : k0_chk19 v564), ∀ a x, ((![v564] : Fin 1 → IVec S16 32) a x).toNat < S102400.size a := fun v564 k0_hw19 => k0_hw19
@[reducible] def k0_t21_loop : Scf.Loop 32 :=
  let c0_i32_422 : BitVec 32 := 0#32
  let c256_i32_423 : BitVec 32 := 256#32
  let v276 : BitVec 32 := Scalar.addi c0_i32_422 c256_i32_423
  let c1_i32_424 : BitVec 32 := 1#32
  ⟨c0_i32_422, v276, c1_i32_424⟩
def k0_off62 (k0_t21 : Fin k0_t21_loop.trips) : Fin 3 → Nat :=
  let c0_i32_818 : BitVec 32 := 0#32
  let v537 : Index := Scalar.indexCast c0_i32_818
  let c0_i32_422 : BitVec 32 := 0#32
  let c1_i32_424 : BitVec 32 := 1#32
  let arg10 : BitVec 32 := Scf.iv c0_i32_422 c1_i32_424 k0_t21
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off63 (k0_t21 : Fin k0_t21_loop.trips) : Fin 3 → Nat :=
  let c1_i32_819 : BitVec 32 := 1#32
  let v541 : Index := Scalar.indexCast c1_i32_819
  let c0_i32_422 : BitVec 32 := 0#32
  let c1_i32_424 : BitVec 32 := 1#32
  let arg10 : BitVec 32 := Scf.iv c0_i32_422 c1_i32_424 k0_t21
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off64 (k0_t21 : Fin k0_t21_loop.trips) : Fin 3 → Nat :=
  let c2_i32_820 : BitVec 32 := 2#32
  let v545 : Index := Scalar.indexCast c2_i32_820
  let c0_i32_422 : BitVec 32 := 0#32
  let c1_i32_424 : BitVec 32 := 1#32
  let arg10 : BitVec 32 := Scf.iv c0_i32_422 c1_i32_424 k0_t21
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk20 (v564 : IVec S16 32) : Prop :=
  (∀ a x, ((![v564] : Fin 1 → IVec S16 32) a x).toNat < S102400.size a)
theorem k0_idx20_inb : ∀ (v564 : IVec S16 32) (k0_hw20 : k0_chk20 v564), ∀ a x, ((![v564] : Fin 1 → IVec S16 32) a x).toNat < S102400.size a := fun v564 k0_hw20 => k0_hw20
@[reducible] def k0_t22_loop : Scf.Loop 32 :=
  let c0_i32_442 : BitVec 32 := 0#32
  let c256_i32_443 : BitVec 32 := 256#32
  let v289 : BitVec 32 := Scalar.addi c0_i32_442 c256_i32_443
  let c1_i32_444 : BitVec 32 := 1#32
  ⟨c0_i32_442, v289, c1_i32_444⟩
def k0_off65 (k0_t22 : Fin k0_t22_loop.trips) : Fin 3 → Nat :=
  let c0_i32_818 : BitVec 32 := 0#32
  let v537 : Index := Scalar.indexCast c0_i32_818
  let c0_i32_442 : BitVec 32 := 0#32
  let c1_i32_444 : BitVec 32 := 1#32
  let arg10 : BitVec 32 := Scf.iv c0_i32_442 c1_i32_444 k0_t22
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off66 (k0_t22 : Fin k0_t22_loop.trips) : Fin 3 → Nat :=
  let c1_i32_819 : BitVec 32 := 1#32
  let v541 : Index := Scalar.indexCast c1_i32_819
  let c0_i32_442 : BitVec 32 := 0#32
  let c1_i32_444 : BitVec 32 := 1#32
  let arg10 : BitVec 32 := Scf.iv c0_i32_442 c1_i32_444 k0_t22
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off67 (k0_t22 : Fin k0_t22_loop.trips) : Fin 3 → Nat :=
  let c2_i32_820 : BitVec 32 := 2#32
  let v545 : Index := Scalar.indexCast c2_i32_820
  let c0_i32_442 : BitVec 32 := 0#32
  let c1_i32_444 : BitVec 32 := 1#32
  let arg10 : BitVec 32 := Scf.iv c0_i32_442 c1_i32_444 k0_t22
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk21 (v564 : IVec S16 32) : Prop :=
  (∀ a x, ((![v564] : Fin 1 → IVec S16 32) a x).toNat < S102400.size a)
theorem k0_idx21_inb : ∀ (v564 : IVec S16 32) (k0_hw21 : k0_chk21 v564), ∀ a x, ((![v564] : Fin 1 → IVec S16 32) a x).toNat < S102400.size a := fun v564 k0_hw21 => k0_hw21
@[reducible] def k0_t23_loop : Scf.Loop 32 :=
  let c0_i32_463 : BitVec 32 := 0#32
  let c256_i32_464 : BitVec 32 := 256#32
  let v302 : BitVec 32 := Scalar.addi c0_i32_463 c256_i32_464
  let c1_i32_465 : BitVec 32 := 1#32
  ⟨c0_i32_463, v302, c1_i32_465⟩
def k0_off68 (k0_t23 : Fin k0_t23_loop.trips) : Fin 3 → Nat :=
  let c0_i32_818 : BitVec 32 := 0#32
  let v537 : Index := Scalar.indexCast c0_i32_818
  let c0_i32_463 : BitVec 32 := 0#32
  let c1_i32_465 : BitVec 32 := 1#32
  let arg10 : BitVec 32 := Scf.iv c0_i32_463 c1_i32_465 k0_t23
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off69 (k0_t23 : Fin k0_t23_loop.trips) : Fin 3 → Nat :=
  let c1_i32_819 : BitVec 32 := 1#32
  let v541 : Index := Scalar.indexCast c1_i32_819
  let c0_i32_463 : BitVec 32 := 0#32
  let c1_i32_465 : BitVec 32 := 1#32
  let arg10 : BitVec 32 := Scf.iv c0_i32_463 c1_i32_465 k0_t23
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off70 (k0_t23 : Fin k0_t23_loop.trips) : Fin 3 → Nat :=
  let c2_i32_820 : BitVec 32 := 2#32
  let v545 : Index := Scalar.indexCast c2_i32_820
  let c0_i32_463 : BitVec 32 := 0#32
  let c1_i32_465 : BitVec 32 := 1#32
  let arg10 : BitVec 32 := Scf.iv c0_i32_463 c1_i32_465 k0_t23
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk22 (v564 : IVec S16 32) : Prop :=
  (∀ a x, ((![v564] : Fin 1 → IVec S16 32) a x).toNat < S102400.size a)
theorem k0_idx22_inb : ∀ (v564 : IVec S16 32) (k0_hw22 : k0_chk22 v564), ∀ a x, ((![v564] : Fin 1 → IVec S16 32) a x).toNat < S102400.size a := fun v564 k0_hw22 => k0_hw22
@[reducible] def k0_t24_loop : Scf.Loop 32 :=
  let c0_i32_484 : BitVec 32 := 0#32
  let c256_i32_485 : BitVec 32 := 256#32
  let v315 : BitVec 32 := Scalar.addi c0_i32_484 c256_i32_485
  let c1_i32_486 : BitVec 32 := 1#32
  ⟨c0_i32_484, v315, c1_i32_486⟩
def k0_off71 (k0_t24 : Fin k0_t24_loop.trips) : Fin 3 → Nat :=
  let c0_i32_818 : BitVec 32 := 0#32
  let v537 : Index := Scalar.indexCast c0_i32_818
  let c0_i32_484 : BitVec 32 := 0#32
  let c1_i32_486 : BitVec 32 := 1#32
  let arg10 : BitVec 32 := Scf.iv c0_i32_484 c1_i32_486 k0_t24
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off72 (k0_t24 : Fin k0_t24_loop.trips) : Fin 3 → Nat :=
  let c1_i32_819 : BitVec 32 := 1#32
  let v541 : Index := Scalar.indexCast c1_i32_819
  let c0_i32_484 : BitVec 32 := 0#32
  let c1_i32_486 : BitVec 32 := 1#32
  let arg10 : BitVec 32 := Scf.iv c0_i32_484 c1_i32_486 k0_t24
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off73 (k0_t24 : Fin k0_t24_loop.trips) : Fin 3 → Nat :=
  let c2_i32_820 : BitVec 32 := 2#32
  let v545 : Index := Scalar.indexCast c2_i32_820
  let c0_i32_484 : BitVec 32 := 0#32
  let c1_i32_486 : BitVec 32 := 1#32
  let arg10 : BitVec 32 := Scf.iv c0_i32_484 c1_i32_486 k0_t24
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk23 (v564 : IVec S16 32) : Prop :=
  (∀ a x, ((![v564] : Fin 1 → IVec S16 32) a x).toNat < S102400.size a)
theorem k0_idx23_inb : ∀ (v564 : IVec S16 32) (k0_hw23 : k0_chk23 v564), ∀ a x, ((![v564] : Fin 1 → IVec S16 32) a x).toNat < S102400.size a := fun v564 k0_hw23 => k0_hw23
@[reducible] def k0_t25_loop : Scf.Loop 32 :=
  let c0_i32_504 : BitVec 32 := 0#32
  let c256_i32_505 : BitVec 32 := 256#32
  let v328 : BitVec 32 := Scalar.addi c0_i32_504 c256_i32_505
  let c1_i32_506 : BitVec 32 := 1#32
  ⟨c0_i32_504, v328, c1_i32_506⟩
def k0_off74 (k0_t25 : Fin k0_t25_loop.trips) : Fin 3 → Nat :=
  let c0_i32_818 : BitVec 32 := 0#32
  let v537 : Index := Scalar.indexCast c0_i32_818
  let c0_i32_504 : BitVec 32 := 0#32
  let c1_i32_506 : BitVec 32 := 1#32
  let arg10 : BitVec 32 := Scf.iv c0_i32_504 c1_i32_506 k0_t25
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off75 (k0_t25 : Fin k0_t25_loop.trips) : Fin 3 → Nat :=
  let c1_i32_819 : BitVec 32 := 1#32
  let v541 : Index := Scalar.indexCast c1_i32_819
  let c0_i32_504 : BitVec 32 := 0#32
  let c1_i32_506 : BitVec 32 := 1#32
  let arg10 : BitVec 32 := Scf.iv c0_i32_504 c1_i32_506 k0_t25
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off76 (k0_t25 : Fin k0_t25_loop.trips) : Fin 3 → Nat :=
  let c2_i32_820 : BitVec 32 := 2#32
  let v545 : Index := Scalar.indexCast c2_i32_820
  let c0_i32_504 : BitVec 32 := 0#32
  let c1_i32_506 : BitVec 32 := 1#32
  let arg10 : BitVec 32 := Scf.iv c0_i32_504 c1_i32_506 k0_t25
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk24 (v564 : IVec S16 32) : Prop :=
  (∀ a x, ((![v564] : Fin 1 → IVec S16 32) a x).toNat < S102400.size a)
theorem k0_idx24_inb : ∀ (v564 : IVec S16 32) (k0_hw24 : k0_chk24 v564), ∀ a x, ((![v564] : Fin 1 → IVec S16 32) a x).toNat < S102400.size a := fun v564 k0_hw24 => k0_hw24
@[reducible] def k0_t26_loop : Scf.Loop 32 :=
  let c0_i32_525 : BitVec 32 := 0#32
  let c256_i32_526 : BitVec 32 := 256#32
  let v341 : BitVec 32 := Scalar.addi c0_i32_525 c256_i32_526
  let c1_i32_527 : BitVec 32 := 1#32
  ⟨c0_i32_525, v341, c1_i32_527⟩
def k0_off77 (k0_t26 : Fin k0_t26_loop.trips) : Fin 3 → Nat :=
  let c0_i32_818 : BitVec 32 := 0#32
  let v537 : Index := Scalar.indexCast c0_i32_818
  let c0_i32_525 : BitVec 32 := 0#32
  let c1_i32_527 : BitVec 32 := 1#32
  let arg10 : BitVec 32 := Scf.iv c0_i32_525 c1_i32_527 k0_t26
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off78 (k0_t26 : Fin k0_t26_loop.trips) : Fin 3 → Nat :=
  let c1_i32_819 : BitVec 32 := 1#32
  let v541 : Index := Scalar.indexCast c1_i32_819
  let c0_i32_525 : BitVec 32 := 0#32
  let c1_i32_527 : BitVec 32 := 1#32
  let arg10 : BitVec 32 := Scf.iv c0_i32_525 c1_i32_527 k0_t26
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off79 (k0_t26 : Fin k0_t26_loop.trips) : Fin 3 → Nat :=
  let c2_i32_820 : BitVec 32 := 2#32
  let v545 : Index := Scalar.indexCast c2_i32_820
  let c0_i32_525 : BitVec 32 := 0#32
  let c1_i32_527 : BitVec 32 := 1#32
  let arg10 : BitVec 32 := Scf.iv c0_i32_525 c1_i32_527 k0_t26
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk25 (v564 : IVec S16 32) : Prop :=
  (∀ a x, ((![v564] : Fin 1 → IVec S16 32) a x).toNat < S102400.size a)
theorem k0_idx25_inb : ∀ (v564 : IVec S16 32) (k0_hw25 : k0_chk25 v564), ∀ a x, ((![v564] : Fin 1 → IVec S16 32) a x).toNat < S102400.size a := fun v564 k0_hw25 => k0_hw25
@[reducible] def k0_t27_loop : Scf.Loop 32 :=
  let c0_i32_546 : BitVec 32 := 0#32
  let c256_i32_547 : BitVec 32 := 256#32
  let v354 : BitVec 32 := Scalar.addi c0_i32_546 c256_i32_547
  let c1_i32_548 : BitVec 32 := 1#32
  ⟨c0_i32_546, v354, c1_i32_548⟩
def k0_off80 (k0_t27 : Fin k0_t27_loop.trips) : Fin 3 → Nat :=
  let c0_i32_818 : BitVec 32 := 0#32
  let v537 : Index := Scalar.indexCast c0_i32_818
  let c0_i32_546 : BitVec 32 := 0#32
  let c1_i32_548 : BitVec 32 := 1#32
  let arg10 : BitVec 32 := Scf.iv c0_i32_546 c1_i32_548 k0_t27
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off81 (k0_t27 : Fin k0_t27_loop.trips) : Fin 3 → Nat :=
  let c1_i32_819 : BitVec 32 := 1#32
  let v541 : Index := Scalar.indexCast c1_i32_819
  let c0_i32_546 : BitVec 32 := 0#32
  let c1_i32_548 : BitVec 32 := 1#32
  let arg10 : BitVec 32 := Scf.iv c0_i32_546 c1_i32_548 k0_t27
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off82 (k0_t27 : Fin k0_t27_loop.trips) : Fin 3 → Nat :=
  let c2_i32_820 : BitVec 32 := 2#32
  let v545 : Index := Scalar.indexCast c2_i32_820
  let c0_i32_546 : BitVec 32 := 0#32
  let c1_i32_548 : BitVec 32 := 1#32
  let arg10 : BitVec 32 := Scf.iv c0_i32_546 c1_i32_548 k0_t27
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk26 (v564 : IVec S16 32) : Prop :=
  (∀ a x, ((![v564] : Fin 1 → IVec S16 32) a x).toNat < S102400.size a)
theorem k0_idx26_inb : ∀ (v564 : IVec S16 32) (k0_hw26 : k0_chk26 v564), ∀ a x, ((![v564] : Fin 1 → IVec S16 32) a x).toNat < S102400.size a := fun v564 k0_hw26 => k0_hw26
@[reducible] def k0_t28_loop : Scf.Loop 32 :=
  let c0_i32_566 : BitVec 32 := 0#32
  let c256_i32_567 : BitVec 32 := 256#32
  let v367 : BitVec 32 := Scalar.addi c0_i32_566 c256_i32_567
  let c1_i32_568 : BitVec 32 := 1#32
  ⟨c0_i32_566, v367, c1_i32_568⟩
def k0_off83 (k0_t28 : Fin k0_t28_loop.trips) : Fin 3 → Nat :=
  let c0_i32_818 : BitVec 32 := 0#32
  let v537 : Index := Scalar.indexCast c0_i32_818
  let c0_i32_566 : BitVec 32 := 0#32
  let c1_i32_568 : BitVec 32 := 1#32
  let arg10 : BitVec 32 := Scf.iv c0_i32_566 c1_i32_568 k0_t28
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off84 (k0_t28 : Fin k0_t28_loop.trips) : Fin 3 → Nat :=
  let c1_i32_819 : BitVec 32 := 1#32
  let v541 : Index := Scalar.indexCast c1_i32_819
  let c0_i32_566 : BitVec 32 := 0#32
  let c1_i32_568 : BitVec 32 := 1#32
  let arg10 : BitVec 32 := Scf.iv c0_i32_566 c1_i32_568 k0_t28
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off85 (k0_t28 : Fin k0_t28_loop.trips) : Fin 3 → Nat :=
  let c2_i32_820 : BitVec 32 := 2#32
  let v545 : Index := Scalar.indexCast c2_i32_820
  let c0_i32_566 : BitVec 32 := 0#32
  let c1_i32_568 : BitVec 32 := 1#32
  let arg10 : BitVec 32 := Scf.iv c0_i32_566 c1_i32_568 k0_t28
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk27 (v564 : IVec S16 32) : Prop :=
  (∀ a x, ((![v564] : Fin 1 → IVec S16 32) a x).toNat < S102400.size a)
theorem k0_idx27_inb : ∀ (v564 : IVec S16 32) (k0_hw27 : k0_chk27 v564), ∀ a x, ((![v564] : Fin 1 → IVec S16 32) a x).toNat < S102400.size a := fun v564 k0_hw27 => k0_hw27
@[reducible] def k0_t29_loop : Scf.Loop 32 :=
  let c0_i32_587 : BitVec 32 := 0#32
  let c256_i32_588 : BitVec 32 := 256#32
  let v380 : BitVec 32 := Scalar.addi c0_i32_587 c256_i32_588
  let c1_i32_589 : BitVec 32 := 1#32
  ⟨c0_i32_587, v380, c1_i32_589⟩
def k0_off86 (k0_t29 : Fin k0_t29_loop.trips) : Fin 3 → Nat :=
  let c0_i32_818 : BitVec 32 := 0#32
  let v537 : Index := Scalar.indexCast c0_i32_818
  let c0_i32_587 : BitVec 32 := 0#32
  let c1_i32_589 : BitVec 32 := 1#32
  let arg10 : BitVec 32 := Scf.iv c0_i32_587 c1_i32_589 k0_t29
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off87 (k0_t29 : Fin k0_t29_loop.trips) : Fin 3 → Nat :=
  let c1_i32_819 : BitVec 32 := 1#32
  let v541 : Index := Scalar.indexCast c1_i32_819
  let c0_i32_587 : BitVec 32 := 0#32
  let c1_i32_589 : BitVec 32 := 1#32
  let arg10 : BitVec 32 := Scf.iv c0_i32_587 c1_i32_589 k0_t29
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off88 (k0_t29 : Fin k0_t29_loop.trips) : Fin 3 → Nat :=
  let c2_i32_820 : BitVec 32 := 2#32
  let v545 : Index := Scalar.indexCast c2_i32_820
  let c0_i32_587 : BitVec 32 := 0#32
  let c1_i32_589 : BitVec 32 := 1#32
  let arg10 : BitVec 32 := Scf.iv c0_i32_587 c1_i32_589 k0_t29
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk28 (v564 : IVec S16 32) : Prop :=
  (∀ a x, ((![v564] : Fin 1 → IVec S16 32) a x).toNat < S102400.size a)
theorem k0_idx28_inb : ∀ (v564 : IVec S16 32) (k0_hw28 : k0_chk28 v564), ∀ a x, ((![v564] : Fin 1 → IVec S16 32) a x).toNat < S102400.size a := fun v564 k0_hw28 => k0_hw28
@[reducible] def k0_t30_loop : Scf.Loop 32 :=
  let c0_i32_608 : BitVec 32 := 0#32
  let c256_i32_609 : BitVec 32 := 256#32
  let v393 : BitVec 32 := Scalar.addi c0_i32_608 c256_i32_609
  let c1_i32_610 : BitVec 32 := 1#32
  ⟨c0_i32_608, v393, c1_i32_610⟩
def k0_off89 (k0_t30 : Fin k0_t30_loop.trips) : Fin 3 → Nat :=
  let c0_i32_818 : BitVec 32 := 0#32
  let v537 : Index := Scalar.indexCast c0_i32_818
  let c0_i32_608 : BitVec 32 := 0#32
  let c1_i32_610 : BitVec 32 := 1#32
  let arg10 : BitVec 32 := Scf.iv c0_i32_608 c1_i32_610 k0_t30
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off90 (k0_t30 : Fin k0_t30_loop.trips) : Fin 3 → Nat :=
  let c1_i32_819 : BitVec 32 := 1#32
  let v541 : Index := Scalar.indexCast c1_i32_819
  let c0_i32_608 : BitVec 32 := 0#32
  let c1_i32_610 : BitVec 32 := 1#32
  let arg10 : BitVec 32 := Scf.iv c0_i32_608 c1_i32_610 k0_t30
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off91 (k0_t30 : Fin k0_t30_loop.trips) : Fin 3 → Nat :=
  let c2_i32_820 : BitVec 32 := 2#32
  let v545 : Index := Scalar.indexCast c2_i32_820
  let c0_i32_608 : BitVec 32 := 0#32
  let c1_i32_610 : BitVec 32 := 1#32
  let arg10 : BitVec 32 := Scf.iv c0_i32_608 c1_i32_610 k0_t30
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk29 (v564 : IVec S16 32) : Prop :=
  (∀ a x, ((![v564] : Fin 1 → IVec S16 32) a x).toNat < S102400.size a)
theorem k0_idx29_inb : ∀ (v564 : IVec S16 32) (k0_hw29 : k0_chk29 v564), ∀ a x, ((![v564] : Fin 1 → IVec S16 32) a x).toNat < S102400.size a := fun v564 k0_hw29 => k0_hw29
@[reducible] def k0_t31_loop : Scf.Loop 32 :=
  let c0_i32_628 : BitVec 32 := 0#32
  let c256_i32_629 : BitVec 32 := 256#32
  let v406 : BitVec 32 := Scalar.addi c0_i32_628 c256_i32_629
  let c1_i32_630 : BitVec 32 := 1#32
  ⟨c0_i32_628, v406, c1_i32_630⟩
def k0_off92 (k0_t31 : Fin k0_t31_loop.trips) : Fin 3 → Nat :=
  let c0_i32_818 : BitVec 32 := 0#32
  let v537 : Index := Scalar.indexCast c0_i32_818
  let c0_i32_628 : BitVec 32 := 0#32
  let c1_i32_630 : BitVec 32 := 1#32
  let arg10 : BitVec 32 := Scf.iv c0_i32_628 c1_i32_630 k0_t31
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off93 (k0_t31 : Fin k0_t31_loop.trips) : Fin 3 → Nat :=
  let c1_i32_819 : BitVec 32 := 1#32
  let v541 : Index := Scalar.indexCast c1_i32_819
  let c0_i32_628 : BitVec 32 := 0#32
  let c1_i32_630 : BitVec 32 := 1#32
  let arg10 : BitVec 32 := Scf.iv c0_i32_628 c1_i32_630 k0_t31
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off94 (k0_t31 : Fin k0_t31_loop.trips) : Fin 3 → Nat :=
  let c2_i32_820 : BitVec 32 := 2#32
  let v545 : Index := Scalar.indexCast c2_i32_820
  let c0_i32_628 : BitVec 32 := 0#32
  let c1_i32_630 : BitVec 32 := 1#32
  let arg10 : BitVec 32 := Scf.iv c0_i32_628 c1_i32_630 k0_t31
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk30 (v564 : IVec S16 32) : Prop :=
  (∀ a x, ((![v564] : Fin 1 → IVec S16 32) a x).toNat < S102400.size a)
theorem k0_idx30_inb : ∀ (v564 : IVec S16 32) (k0_hw30 : k0_chk30 v564), ∀ a x, ((![v564] : Fin 1 → IVec S16 32) a x).toNat < S102400.size a := fun v564 k0_hw30 => k0_hw30
@[reducible] def k0_t32_loop : Scf.Loop 32 :=
  let c0_i32_649 : BitVec 32 := 0#32
  let c256_i32_650 : BitVec 32 := 256#32
  let v419 : BitVec 32 := Scalar.addi c0_i32_649 c256_i32_650
  let c1_i32_651 : BitVec 32 := 1#32
  ⟨c0_i32_649, v419, c1_i32_651⟩
def k0_off95 (k0_t32 : Fin k0_t32_loop.trips) : Fin 3 → Nat :=
  let c0_i32_818 : BitVec 32 := 0#32
  let v537 : Index := Scalar.indexCast c0_i32_818
  let c0_i32_649 : BitVec 32 := 0#32
  let c1_i32_651 : BitVec 32 := 1#32
  let arg10 : BitVec 32 := Scf.iv c0_i32_649 c1_i32_651 k0_t32
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off96 (k0_t32 : Fin k0_t32_loop.trips) : Fin 3 → Nat :=
  let c1_i32_819 : BitVec 32 := 1#32
  let v541 : Index := Scalar.indexCast c1_i32_819
  let c0_i32_649 : BitVec 32 := 0#32
  let c1_i32_651 : BitVec 32 := 1#32
  let arg10 : BitVec 32 := Scf.iv c0_i32_649 c1_i32_651 k0_t32
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off97 (k0_t32 : Fin k0_t32_loop.trips) : Fin 3 → Nat :=
  let c2_i32_820 : BitVec 32 := 2#32
  let v545 : Index := Scalar.indexCast c2_i32_820
  let c0_i32_649 : BitVec 32 := 0#32
  let c1_i32_651 : BitVec 32 := 1#32
  let arg10 : BitVec 32 := Scf.iv c0_i32_649 c1_i32_651 k0_t32
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk31 (v564 : IVec S16 32) : Prop :=
  (∀ a x, ((![v564] : Fin 1 → IVec S16 32) a x).toNat < S102400.size a)
theorem k0_idx31_inb : ∀ (v564 : IVec S16 32) (k0_hw31 : k0_chk31 v564), ∀ a x, ((![v564] : Fin 1 → IVec S16 32) a x).toNat < S102400.size a := fun v564 k0_hw31 => k0_hw31
@[reducible] def k0_t33_loop : Scf.Loop 32 :=
  let c0_i32_670 : BitVec 32 := 0#32
  let c256_i32_671 : BitVec 32 := 256#32
  let v432 : BitVec 32 := Scalar.addi c0_i32_670 c256_i32_671
  let c1_i32_672 : BitVec 32 := 1#32
  ⟨c0_i32_670, v432, c1_i32_672⟩
def k0_off98 (k0_t33 : Fin k0_t33_loop.trips) : Fin 3 → Nat :=
  let c0_i32_818 : BitVec 32 := 0#32
  let v537 : Index := Scalar.indexCast c0_i32_818
  let c0_i32_670 : BitVec 32 := 0#32
  let c1_i32_672 : BitVec 32 := 1#32
  let arg10 : BitVec 32 := Scf.iv c0_i32_670 c1_i32_672 k0_t33
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off99 (k0_t33 : Fin k0_t33_loop.trips) : Fin 3 → Nat :=
  let c1_i32_819 : BitVec 32 := 1#32
  let v541 : Index := Scalar.indexCast c1_i32_819
  let c0_i32_670 : BitVec 32 := 0#32
  let c1_i32_672 : BitVec 32 := 1#32
  let arg10 : BitVec 32 := Scf.iv c0_i32_670 c1_i32_672 k0_t33
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off100 (k0_t33 : Fin k0_t33_loop.trips) : Fin 3 → Nat :=
  let c2_i32_820 : BitVec 32 := 2#32
  let v545 : Index := Scalar.indexCast c2_i32_820
  let c0_i32_670 : BitVec 32 := 0#32
  let c1_i32_672 : BitVec 32 := 1#32
  let arg10 : BitVec 32 := Scf.iv c0_i32_670 c1_i32_672 k0_t33
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk32 (v564 : IVec S16 32) : Prop :=
  (∀ a x, ((![v564] : Fin 1 → IVec S16 32) a x).toNat < S102400.size a)
theorem k0_idx32_inb : ∀ (v564 : IVec S16 32) (k0_hw32 : k0_chk32 v564), ∀ a x, ((![v564] : Fin 1 → IVec S16 32) a x).toNat < S102400.size a := fun v564 k0_hw32 => k0_hw32
@[reducible] def k0_t34_loop : Scf.Loop 32 :=
  let c0_i32_690 : BitVec 32 := 0#32
  let c256_i32_691 : BitVec 32 := 256#32
  let v445 : BitVec 32 := Scalar.addi c0_i32_690 c256_i32_691
  let c1_i32_692 : BitVec 32 := 1#32
  ⟨c0_i32_690, v445, c1_i32_692⟩
def k0_off101 (k0_t34 : Fin k0_t34_loop.trips) : Fin 3 → Nat :=
  let c0_i32_818 : BitVec 32 := 0#32
  let v537 : Index := Scalar.indexCast c0_i32_818
  let c0_i32_690 : BitVec 32 := 0#32
  let c1_i32_692 : BitVec 32 := 1#32
  let arg10 : BitVec 32 := Scf.iv c0_i32_690 c1_i32_692 k0_t34
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off102 (k0_t34 : Fin k0_t34_loop.trips) : Fin 3 → Nat :=
  let c1_i32_819 : BitVec 32 := 1#32
  let v541 : Index := Scalar.indexCast c1_i32_819
  let c0_i32_690 : BitVec 32 := 0#32
  let c1_i32_692 : BitVec 32 := 1#32
  let arg10 : BitVec 32 := Scf.iv c0_i32_690 c1_i32_692 k0_t34
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off103 (k0_t34 : Fin k0_t34_loop.trips) : Fin 3 → Nat :=
  let c2_i32_820 : BitVec 32 := 2#32
  let v545 : Index := Scalar.indexCast c2_i32_820
  let c0_i32_690 : BitVec 32 := 0#32
  let c1_i32_692 : BitVec 32 := 1#32
  let arg10 : BitVec 32 := Scf.iv c0_i32_690 c1_i32_692 k0_t34
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk33 (v564 : IVec S16 32) : Prop :=
  (∀ a x, ((![v564] : Fin 1 → IVec S16 32) a x).toNat < S102400.size a)
theorem k0_idx33_inb : ∀ (v564 : IVec S16 32) (k0_hw33 : k0_chk33 v564), ∀ a x, ((![v564] : Fin 1 → IVec S16 32) a x).toNat < S102400.size a := fun v564 k0_hw33 => k0_hw33
@[reducible] def k0_t35_loop : Scf.Loop 32 :=
  let c0_i32_711 : BitVec 32 := 0#32
  let c256_i32_712 : BitVec 32 := 256#32
  let v458 : BitVec 32 := Scalar.addi c0_i32_711 c256_i32_712
  let c1_i32_713 : BitVec 32 := 1#32
  ⟨c0_i32_711, v458, c1_i32_713⟩
def k0_off104 (k0_t35 : Fin k0_t35_loop.trips) : Fin 3 → Nat :=
  let c0_i32_818 : BitVec 32 := 0#32
  let v537 : Index := Scalar.indexCast c0_i32_818
  let c0_i32_711 : BitVec 32 := 0#32
  let c1_i32_713 : BitVec 32 := 1#32
  let arg10 : BitVec 32 := Scf.iv c0_i32_711 c1_i32_713 k0_t35
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off105 (k0_t35 : Fin k0_t35_loop.trips) : Fin 3 → Nat :=
  let c1_i32_819 : BitVec 32 := 1#32
  let v541 : Index := Scalar.indexCast c1_i32_819
  let c0_i32_711 : BitVec 32 := 0#32
  let c1_i32_713 : BitVec 32 := 1#32
  let arg10 : BitVec 32 := Scf.iv c0_i32_711 c1_i32_713 k0_t35
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off106 (k0_t35 : Fin k0_t35_loop.trips) : Fin 3 → Nat :=
  let c2_i32_820 : BitVec 32 := 2#32
  let v545 : Index := Scalar.indexCast c2_i32_820
  let c0_i32_711 : BitVec 32 := 0#32
  let c1_i32_713 : BitVec 32 := 1#32
  let arg10 : BitVec 32 := Scf.iv c0_i32_711 c1_i32_713 k0_t35
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk34 (v564 : IVec S16 32) : Prop :=
  (∀ a x, ((![v564] : Fin 1 → IVec S16 32) a x).toNat < S102400.size a)
theorem k0_idx34_inb : ∀ (v564 : IVec S16 32) (k0_hw34 : k0_chk34 v564), ∀ a x, ((![v564] : Fin 1 → IVec S16 32) a x).toNat < S102400.size a := fun v564 k0_hw34 => k0_hw34
@[reducible] def k0_t36_loop : Scf.Loop 32 :=
  let c0_i32_732 : BitVec 32 := 0#32
  let c256_i32_733 : BitVec 32 := 256#32
  let v471 : BitVec 32 := Scalar.addi c0_i32_732 c256_i32_733
  let c1_i32_734 : BitVec 32 := 1#32
  ⟨c0_i32_732, v471, c1_i32_734⟩
def k0_off107 (k0_t36 : Fin k0_t36_loop.trips) : Fin 3 → Nat :=
  let c0_i32_818 : BitVec 32 := 0#32
  let v537 : Index := Scalar.indexCast c0_i32_818
  let c0_i32_732 : BitVec 32 := 0#32
  let c1_i32_734 : BitVec 32 := 1#32
  let arg10 : BitVec 32 := Scf.iv c0_i32_732 c1_i32_734 k0_t36
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off108 (k0_t36 : Fin k0_t36_loop.trips) : Fin 3 → Nat :=
  let c1_i32_819 : BitVec 32 := 1#32
  let v541 : Index := Scalar.indexCast c1_i32_819
  let c0_i32_732 : BitVec 32 := 0#32
  let c1_i32_734 : BitVec 32 := 1#32
  let arg10 : BitVec 32 := Scf.iv c0_i32_732 c1_i32_734 k0_t36
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off109 (k0_t36 : Fin k0_t36_loop.trips) : Fin 3 → Nat :=
  let c2_i32_820 : BitVec 32 := 2#32
  let v545 : Index := Scalar.indexCast c2_i32_820
  let c0_i32_732 : BitVec 32 := 0#32
  let c1_i32_734 : BitVec 32 := 1#32
  let arg10 : BitVec 32 := Scf.iv c0_i32_732 c1_i32_734 k0_t36
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk35 (v564 : IVec S16 32) : Prop :=
  (∀ a x, ((![v564] : Fin 1 → IVec S16 32) a x).toNat < S102400.size a)
theorem k0_idx35_inb : ∀ (v564 : IVec S16 32) (k0_hw35 : k0_chk35 v564), ∀ a x, ((![v564] : Fin 1 → IVec S16 32) a x).toNat < S102400.size a := fun v564 k0_hw35 => k0_hw35
@[reducible] def k0_t37_loop : Scf.Loop 32 :=
  let c0_i32_752 : BitVec 32 := 0#32
  let c256_i32_753 : BitVec 32 := 256#32
  let v484 : BitVec 32 := Scalar.addi c0_i32_752 c256_i32_753
  let c1_i32_754 : BitVec 32 := 1#32
  ⟨c0_i32_752, v484, c1_i32_754⟩
def k0_off110 (k0_t37 : Fin k0_t37_loop.trips) : Fin 3 → Nat :=
  let c0_i32_818 : BitVec 32 := 0#32
  let v537 : Index := Scalar.indexCast c0_i32_818
  let c0_i32_752 : BitVec 32 := 0#32
  let c1_i32_754 : BitVec 32 := 1#32
  let arg10 : BitVec 32 := Scf.iv c0_i32_752 c1_i32_754 k0_t37
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off111 (k0_t37 : Fin k0_t37_loop.trips) : Fin 3 → Nat :=
  let c1_i32_819 : BitVec 32 := 1#32
  let v541 : Index := Scalar.indexCast c1_i32_819
  let c0_i32_752 : BitVec 32 := 0#32
  let c1_i32_754 : BitVec 32 := 1#32
  let arg10 : BitVec 32 := Scf.iv c0_i32_752 c1_i32_754 k0_t37
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off112 (k0_t37 : Fin k0_t37_loop.trips) : Fin 3 → Nat :=
  let c2_i32_820 : BitVec 32 := 2#32
  let v545 : Index := Scalar.indexCast c2_i32_820
  let c0_i32_752 : BitVec 32 := 0#32
  let c1_i32_754 : BitVec 32 := 1#32
  let arg10 : BitVec 32 := Scf.iv c0_i32_752 c1_i32_754 k0_t37
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk36 (v564 : IVec S16 32) : Prop :=
  (∀ a x, ((![v564] : Fin 1 → IVec S16 32) a x).toNat < S102400.size a)
theorem k0_idx36_inb : ∀ (v564 : IVec S16 32) (k0_hw36 : k0_chk36 v564), ∀ a x, ((![v564] : Fin 1 → IVec S16 32) a x).toNat < S102400.size a := fun v564 k0_hw36 => k0_hw36
@[reducible] def k0_t38_loop : Scf.Loop 32 :=
  let c0_i32_773 : BitVec 32 := 0#32
  let c256_i32_774 : BitVec 32 := 256#32
  let v497 : BitVec 32 := Scalar.addi c0_i32_773 c256_i32_774
  let c1_i32_775 : BitVec 32 := 1#32
  ⟨c0_i32_773, v497, c1_i32_775⟩
def k0_off113 (k0_t38 : Fin k0_t38_loop.trips) : Fin 3 → Nat :=
  let c0_i32_818 : BitVec 32 := 0#32
  let v537 : Index := Scalar.indexCast c0_i32_818
  let c0_i32_773 : BitVec 32 := 0#32
  let c1_i32_775 : BitVec 32 := 1#32
  let arg10 : BitVec 32 := Scf.iv c0_i32_773 c1_i32_775 k0_t38
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off114 (k0_t38 : Fin k0_t38_loop.trips) : Fin 3 → Nat :=
  let c1_i32_819 : BitVec 32 := 1#32
  let v541 : Index := Scalar.indexCast c1_i32_819
  let c0_i32_773 : BitVec 32 := 0#32
  let c1_i32_775 : BitVec 32 := 1#32
  let arg10 : BitVec 32 := Scf.iv c0_i32_773 c1_i32_775 k0_t38
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off115 (k0_t38 : Fin k0_t38_loop.trips) : Fin 3 → Nat :=
  let c2_i32_820 : BitVec 32 := 2#32
  let v545 : Index := Scalar.indexCast c2_i32_820
  let c0_i32_773 : BitVec 32 := 0#32
  let c1_i32_775 : BitVec 32 := 1#32
  let arg10 : BitVec 32 := Scf.iv c0_i32_773 c1_i32_775 k0_t38
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk37 (v564 : IVec S16 32) : Prop :=
  (∀ a x, ((![v564] : Fin 1 → IVec S16 32) a x).toNat < S102400.size a)
theorem k0_idx37_inb : ∀ (v564 : IVec S16 32) (k0_hw37 : k0_chk37 v564), ∀ a x, ((![v564] : Fin 1 → IVec S16 32) a x).toNat < S102400.size a := fun v564 k0_hw37 => k0_hw37
@[reducible] def k0_t39_loop : Scf.Loop 32 :=
  let c0_i32_794 : BitVec 32 := 0#32
  let c256_i32_795 : BitVec 32 := 256#32
  let v510 : BitVec 32 := Scalar.addi c0_i32_794 c256_i32_795
  let c1_i32_796 : BitVec 32 := 1#32
  ⟨c0_i32_794, v510, c1_i32_796⟩
def k0_off116 (k0_t39 : Fin k0_t39_loop.trips) : Fin 3 → Nat :=
  let c0_i32_818 : BitVec 32 := 0#32
  let v537 : Index := Scalar.indexCast c0_i32_818
  let c0_i32_794 : BitVec 32 := 0#32
  let c1_i32_796 : BitVec 32 := 1#32
  let arg10 : BitVec 32 := Scf.iv c0_i32_794 c1_i32_796 k0_t39
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off117 (k0_t39 : Fin k0_t39_loop.trips) : Fin 3 → Nat :=
  let c1_i32_819 : BitVec 32 := 1#32
  let v541 : Index := Scalar.indexCast c1_i32_819
  let c0_i32_794 : BitVec 32 := 0#32
  let c1_i32_796 : BitVec 32 := 1#32
  let arg10 : BitVec 32 := Scf.iv c0_i32_794 c1_i32_796 k0_t39
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off118 (k0_t39 : Fin k0_t39_loop.trips) : Fin 3 → Nat :=
  let c2_i32_820 : BitVec 32 := 2#32
  let v545 : Index := Scalar.indexCast c2_i32_820
  let c0_i32_794 : BitVec 32 := 0#32
  let c1_i32_796 : BitVec 32 := 1#32
  let arg10 : BitVec 32 := Scf.iv c0_i32_794 c1_i32_796 k0_t39
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk38 (v564 : IVec S16 32) : Prop :=
  (∀ a x, ((![v564] : Fin 1 → IVec S16 32) a x).toNat < S102400.size a)
theorem k0_idx38_inb : ∀ (v564 : IVec S16 32) (k0_hw38 : k0_chk38 v564), ∀ a x, ((![v564] : Fin 1 → IVec S16 32) a x).toNat < S102400.size a := fun v564 k0_hw38 => k0_hw38
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.andi v1 c1_i32_0
  let c0_i32 : BitVec 32 := 0#32
  let v4 : BitVec 1 := Scalar.cmpi .eq v3 c0_i32
  let v517 : BitVec 32 := Scalar.extui v4
  let c0_i32_806 : BitVec 32 := 0#32
  let v518 : BitVec 1 := Scalar.cmpi .ne v517 c0_i32_806
  v518

def k0_off119 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_816 : BitVec 32 := 14#32
  let c1_i32_0 : BitVec 32 := 1#32
  let v3 : BitVec 32 := Scalar.andi v1 c1_i32_0
  let v533 : BitVec 32 := Scalar.muli c14_i32_816 v3
  let c13_i32 : BitVec 32 := 13#32
  let v534 : BitVec 32 := Scalar.addi v533 c13_i32
  let c0_i32_817 : BitVec 32 := 0#32
  let c0_i32_818 : BitVec 32 := 0#32
  let c0_i32_819 : BitVec 32 := 0#32
  ![v2.toNat, v534.toNat, 0, 0, 0]
@[reducible] def k0_t40_loop : Scf.Loop 32 :=
  let c0_i32_808 : BitVec 32 := 0#32
  let c256_i32_809 : BitVec 32 := 256#32
  let v519 : BitVec 32 := Scalar.addi c0_i32_808 c256_i32_809
  let c1_i32_810 : BitVec 32 := 1#32
  ⟨c0_i32_808, v519, c1_i32_810⟩
def k0_off120 (k0_t40 : Fin k0_t40_loop.trips) : Fin 3 → Nat :=
  let c0_i32_818 : BitVec 32 := 0#32
  let v537 : Index := Scalar.indexCast c0_i32_818
  let c0_i32_808 : BitVec 32 := 0#32
  let c1_i32_810 : BitVec 32 := 1#32
  let arg10 : BitVec 32 := Scf.iv c0_i32_808 c1_i32_810 k0_t40
  let c4_i32_816 : BitVec 32 := 4#32
  let v533 : BitVec 32 := Scalar.shrsi arg10 c4_i32_816
  let v538 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v539 : Index := Scalar.indexCast v536
  ![0, v538.toNat, v539.toNat]
def k0_off121 (k0_t40 : Fin k0_t40_loop.trips) : Fin 3 → Nat :=
  let c1_i32_819 : BitVec 32 := 1#32
  let v541 : Index := Scalar.indexCast c1_i32_819
  let c0_i32_808 : BitVec 32 := 0#32
  let c1_i32_810 : BitVec 32 := 1#32
  let arg10 : BitVec 32 := Scf.iv c0_i32_808 c1_i32_810 k0_t40
  let c4_i32_816 : BitVec 32 := 4#32
  let v533 : BitVec 32 := Scalar.shrsi arg10 c4_i32_816
  let v542 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v543 : Index := Scalar.indexCast v536
  ![1, v542.toNat, v543.toNat]
def k0_off122 (k0_t40 : Fin k0_t40_loop.trips) : Fin 3 → Nat :=
  let c2_i32_820 : BitVec 32 := 2#32
  let v545 : Index := Scalar.indexCast c2_i32_820
  let c0_i32_808 : BitVec 32 := 0#32
  let c1_i32_810 : BitVec 32 := 1#32
  let arg10 : BitVec 32 := Scf.iv c0_i32_808 c1_i32_810 k0_t40
  let c4_i32_816 : BitVec 32 := 4#32
  let v533 : BitVec 32 := Scalar.shrsi arg10 c4_i32_816
  let v546 : Index := Scalar.indexCast v533
  let c15_i32 : BitVec 32 := 15#32
  let v534 : BitVec 32 := Scalar.andi arg10 c15_i32
  let c4_i32_817 : BitVec 32 := 4#32
  let v535 : BitVec 32 := Scalar.shli v534 c4_i32_817
  let c184_i32 : BitVec 32 := 184#32
  let v536 : BitVec 32 := Scalar.minsi v535 c184_i32
  let v547 : Index := Scalar.indexCast v536
  ![2, v546.toNat, v547.toNat]

def k0_chk39 (v564 : IVec S16 32) : Prop :=
  (∀ a x, ((![v564] : Fin 1 → IVec S16 32) a x).toNat < S102400.size a)
theorem k0_idx39_inb : ∀ (v564 : IVec S16 32) (k0_hw39 : k0_chk39 v564), ∀ a x, ((![v564] : Fin 1 → IVec S16 32) a x).toNat < S102400.size a := fun v564 k0_hw39 => k0_hw39
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.andi v1 c1_i32_0
  let c0_i32 : BitVec 32 := 0#32
  let v4 : BitVec 1 := Scalar.cmpi .eq v3 c0_i32
  let v520 : BitVec 32 := Scalar.extui v4
  let c0_i32_812 : BitVec 32 := 0#32
  let v521 : BitVec 1 := Scalar.cmpi .ne v520 c0_i32_812
  v521

def k0_off123 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_816 : BitVec 32 := 14#32
  let c1_i32_0 : BitVec 32 := 1#32
  let v3 : BitVec 32 := Scalar.andi v1 c1_i32_0
  let v533 : BitVec 32 := Scalar.muli c14_i32_816 v3
  let c13_i32 : BitVec 32 := 13#32
  let v534 : BitVec 32 := Scalar.addi v533 c13_i32
  let c0_i32_817 : BitVec 32 := 0#32
  let c0_i32_818 : BitVec 32 := 0#32
  let c0_i32_819 : BitVec 32 := 0#32
  ![v2.toNat, v534.toNat, 0, 0, 0]
def k0_off124 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_823 : BitVec 32 := 14#32
  let c1_i32_0 : BitVec 32 := 1#32
  let v3 : BitVec 32 := Scalar.andi v1 c1_i32_0
  let v539 : BitVec 32 := Scalar.muli c14_i32_823 v3
  let c13_i32_824 : BitVec 32 := 13#32
  let v540 : BitVec 32 := Scalar.addi v539 c13_i32_824
  let c0_i32_825 : BitVec 32 := 0#32
  let c16_i32_826 : BitVec 32 := 16#32
  let c0_i32_827 : BitVec 32 := 0#32
  ![v2.toNat, v540.toNat, 0, 16, 0]
@[reducible] def k0_t41_loop : Scf.Loop 32 :=
  let c0_i32_832 : BitVec 32 := 0#32
  let c256_i32_833 : BitVec 32 := 256#32
  let v545 : BitVec 32 := Scalar.addi c0_i32_832 c256_i32_833
  let c1_i32_834 : BitVec 32 := 1#32
  ⟨c0_i32_832, v545, c1_i32_834⟩
def k0_off125 (k0_t41 : Fin k0_t41_loop.trips) : Fin 3 → Nat :=
  let c0_i32_838 : BitVec 32 := 0#32
  let v550 : Index := Scalar.indexCast c0_i32_838
  let c0_i32_832 : BitVec 32 := 0#32
  let c1_i32_834 : BitVec 32 := 1#32
  let arg10 : BitVec 32 := Scf.iv c0_i32_832 c1_i32_834 k0_t41
  let c4_i32_836 : BitVec 32 := 4#32
  let v546 : BitVec 32 := Scalar.shrsi arg10 c4_i32_836
  let v551 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v552 : Index := Scalar.indexCast v549
  ![0, v551.toNat, v552.toNat]
def k0_off126 (k0_t41 : Fin k0_t41_loop.trips) : Fin 3 → Nat :=
  let c1_i32_839 : BitVec 32 := 1#32
  let v554 : Index := Scalar.indexCast c1_i32_839
  let c0_i32_832 : BitVec 32 := 0#32
  let c1_i32_834 : BitVec 32 := 1#32
  let arg10 : BitVec 32 := Scf.iv c0_i32_832 c1_i32_834 k0_t41
  let c4_i32_836 : BitVec 32 := 4#32
  let v546 : BitVec 32 := Scalar.shrsi arg10 c4_i32_836
  let v555 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v556 : Index := Scalar.indexCast v549
  ![1, v555.toNat, v556.toNat]
def k0_off127 (k0_t41 : Fin k0_t41_loop.trips) : Fin 3 → Nat :=
  let c2_i32_840 : BitVec 32 := 2#32
  let v558 : Index := Scalar.indexCast c2_i32_840
  let c0_i32_832 : BitVec 32 := 0#32
  let c1_i32_834 : BitVec 32 := 1#32
  let arg10 : BitVec 32 := Scf.iv c0_i32_832 c1_i32_834 k0_t41
  let c4_i32_836 : BitVec 32 := 4#32
  let v546 : BitVec 32 := Scalar.shrsi arg10 c4_i32_836
  let v559 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v560 : Index := Scalar.indexCast v549
  ![2, v559.toNat, v560.toNat]

def k0_chk40 (i : grid0.Coords) (v577 : IVec S16 32) : Prop :=
  (∀ (k0_h2 : k0_cond2 i = 1#1), ∀ a x, ((![v577] : Fin 1 → IVec S16 32) a x).toNat < S102400.size a)
theorem k0_idx40_inb : ∀ (i : grid0.Coords) (v577 : IVec S16 32) (k0_hw40 : k0_chk40 i v577), ∀ (k0_h2 : k0_cond2 i = 1#1), ∀ a x, ((![v577] : Fin 1 → IVec S16 32) a x).toNat < S102400.size a := fun i v577 k0_hw40 k0_h2 => k0_hw40 k0_h2
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.andi v1 c1_i32_0
  let c0_i32 : BitVec 32 := 0#32
  let v4 : BitVec 1 := Scalar.cmpi .eq v3 c0_i32
  let v522 : BitVec 32 := Scalar.extui v4
  let c0_i32_813 : BitVec 32 := 0#32
  let v523 : BitVec 1 := Scalar.cmpi .ne v522 c0_i32_813
  v523

def k0_off128 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_816 : BitVec 32 := 14#32
  let c1_i32_0 : BitVec 32 := 1#32
  let v3 : BitVec 32 := Scalar.andi v1 c1_i32_0
  let v533 : BitVec 32 := Scalar.muli c14_i32_816 v3
  let c13_i32 : BitVec 32 := 13#32
  let v534 : BitVec 32 := Scalar.addi v533 c13_i32
  let c0_i32_817 : BitVec 32 := 0#32
  let c16_i32_818 : BitVec 32 := 16#32
  let c0_i32_819 : BitVec 32 := 0#32
  ![v2.toNat, v534.toNat, 0, 16, 0]
def k0_off129 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_823 : BitVec 32 := 14#32
  let c1_i32_0 : BitVec 32 := 1#32
  let v3 : BitVec 32 := Scalar.andi v1 c1_i32_0
  let v539 : BitVec 32 := Scalar.muli c14_i32_823 v3
  let c13_i32_824 : BitVec 32 := 13#32
  let v540 : BitVec 32 := Scalar.addi v539 c13_i32_824
  let c0_i32_825 : BitVec 32 := 0#32
  let c32_i32_826 : BitVec 32 := 32#32
  let c0_i32_827 : BitVec 32 := 0#32
  ![v2.toNat, v540.toNat, 0, 32, 0]
@[reducible] def k0_t42_loop : Scf.Loop 32 :=
  let c0_i32_832 : BitVec 32 := 0#32
  let c256_i32_833 : BitVec 32 := 256#32
  let v545 : BitVec 32 := Scalar.addi c0_i32_832 c256_i32_833
  let c1_i32_834 : BitVec 32 := 1#32
  ⟨c0_i32_832, v545, c1_i32_834⟩
def k0_off130 (k0_t42 : Fin k0_t42_loop.trips) : Fin 3 → Nat :=
  let c0_i32_838 : BitVec 32 := 0#32
  let v550 : Index := Scalar.indexCast c0_i32_838
  let c0_i32_832 : BitVec 32 := 0#32
  let c1_i32_834 : BitVec 32 := 1#32
  let arg10 : BitVec 32 := Scf.iv c0_i32_832 c1_i32_834 k0_t42
  let c4_i32_836 : BitVec 32 := 4#32
  let v546 : BitVec 32 := Scalar.shrsi arg10 c4_i32_836
  let v551 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v552 : Index := Scalar.indexCast v549
  ![0, v551.toNat, v552.toNat]
def k0_off131 (k0_t42 : Fin k0_t42_loop.trips) : Fin 3 → Nat :=
  let c1_i32_839 : BitVec 32 := 1#32
  let v554 : Index := Scalar.indexCast c1_i32_839
  let c0_i32_832 : BitVec 32 := 0#32
  let c1_i32_834 : BitVec 32 := 1#32
  let arg10 : BitVec 32 := Scf.iv c0_i32_832 c1_i32_834 k0_t42
  let c4_i32_836 : BitVec 32 := 4#32
  let v546 : BitVec 32 := Scalar.shrsi arg10 c4_i32_836
  let v555 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v556 : Index := Scalar.indexCast v549
  ![1, v555.toNat, v556.toNat]
def k0_off132 (k0_t42 : Fin k0_t42_loop.trips) : Fin 3 → Nat :=
  let c2_i32_840 : BitVec 32 := 2#32
  let v558 : Index := Scalar.indexCast c2_i32_840
  let c0_i32_832 : BitVec 32 := 0#32
  let c1_i32_834 : BitVec 32 := 1#32
  let arg10 : BitVec 32 := Scf.iv c0_i32_832 c1_i32_834 k0_t42
  let c4_i32_836 : BitVec 32 := 4#32
  let v546 : BitVec 32 := Scalar.shrsi arg10 c4_i32_836
  let v559 : Index := Scalar.indexCast v546
  let c15_i32 : BitVec 32 := 15#32
  let v547 : BitVec 32 := Scalar.andi arg10 c15_i32
  let c4_i32_837 : BitVec 32 := 4#32
  let v548 : BitVec 32 := Scalar.shli v547 c4_i32_837
  let c184_i32 : BitVec 32 := 184#32
  let v549 : BitVec 32 := Scalar.minsi v548 c184_i32
  let v560 : Index := Scalar.indexCast v549
  ![2, v559.toNat, v560.toNat]

def k0_chk41 (i : grid0.Coords) (v577 : IVec S16 32) : Prop :=
  (∀ (k0_h3 : k0_cond3 i = 1#1), ∀ a x, ((![v577] : Fin 1 → IVec S16 32) a x).toNat < S102400.size a)
theorem k0_idx41_inb : ∀ (i : grid0.Coords) (v577 : IVec S16 32) (k0_hw41 : k0_chk41 i v577), ∀ (k0_h3 : k0_cond3 i = 1#1), ∀ a x, ((![v577] : Fin 1 → IVec S16 32) a x).toNat < S102400.size a := fun i v577 k0_hw41 k0_h3 => k0_hw41 k0_h3
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.andi v1 c1_i32_0
  let c0_i32 : BitVec 32 := 0#32
  let v4 : BitVec 1 := Scalar.cmpi .eq v3 c0_i32
  let v524 : BitVec 32 := Scalar.extui v4
  let c0_i32_814 : BitVec 32 := 0#32
  let v525 : BitVec 1 := Scalar.cmpi .ne v524 c0_i32_814
  v525

def k0_off133 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.shrsi v1 c1_i32
  let c14_i32_816 : BitVec 32 := 14#32
  let c1_i32_0 : BitVec 32 := 1#32
  let v3 : BitVec 32 := Scalar.andi v1 c1_i32_0
  let v533 : BitVec 32 := Scalar.muli c14_i32_816 v3
  let c13_i32 : BitVec 32 := 13#32
  let v534 : BitVec 32 := Scalar.addi v533 c13_i32
  let c0_i32_817 : BitVec 32 := 0#32
  let c32_i32_818 : BitVec 32 := 32#32
  let c0_i32_819 : BitVec 32 := 0#32
  ![v2.toNat, v534.toNat, 0, 32, 0]
@[reducible] def k0_t43_loop : Scf.Loop 32 :=
  let c0_i32_824 : BitVec 32 := 0#32
  let c256_i32_825 : BitVec 32 := 256#32
  let v539 : BitVec 32 := Scalar.addi c0_i32_824 c256_i32_825
  let c1_i32_826 : BitVec 32 := 1#32
  ⟨c0_i32_824, v539, c1_i32_826⟩
def k0_off134 (k0_t43 : Fin k0_t43_loop.trips) : Fin 3 → Nat :=
  let c0_i32_830 : BitVec 32 := 0#32
  let v544 : Index := Scalar.indexCast c0_i32_830
  let c0_i32_824 : BitVec 32 := 0#32
  let c1_i32_826 : BitVec 32 := 1#32
  let arg10 : BitVec 32 := Scf.iv c0_i32_824 c1_i32_826 k0_t43
  let c4_i32_828 : BitVec 32 := 4#32
  let v540 : BitVec 32 := Scalar.shrsi arg10 c4_i32_828
  let v545 : Index := Scalar.indexCast v540
  let c15_i32 : BitVec 32 := 15#32
  let v541 : BitVec 32 := Scalar.andi arg10 c15_i32
  let c4_i32_829 : BitVec 32 := 4#32
  let v542 : BitVec 32 := Scalar.shli v541 c4_i32_829
  let c184_i32 : BitVec 32 := 184#32
  let v543 : BitVec 32 := Scalar.minsi v542 c184_i32
  let v546 : Index := Scalar.indexCast v543
  ![0, v545.toNat, v546.toNat]
def k0_off135 (k0_t43 : Fin k0_t43_loop.trips) : Fin 3 → Nat :=
  let c1_i32_831 : BitVec 32 := 1#32
  let v548 : Index := Scalar.indexCast c1_i32_831
  let c0_i32_824 : BitVec 32 := 0#32
  let c1_i32_826 : BitVec 32 := 1#32
  let arg10 : BitVec 32 := Scf.iv c0_i32_824 c1_i32_826 k0_t43
  let c4_i32_828 : BitVec 32 := 4#32
  let v540 : BitVec 32 := Scalar.shrsi arg10 c4_i32_828
  let v549 : Index := Scalar.indexCast v540
  let c15_i32 : BitVec 32 := 15#32
  let v541 : BitVec 32 := Scalar.andi arg10 c15_i32
  let c4_i32_829 : BitVec 32 := 4#32
  let v542 : BitVec 32 := Scalar.shli v541 c4_i32_829
  let c184_i32 : BitVec 32 := 184#32
  let v543 : BitVec 32 := Scalar.minsi v542 c184_i32
  let v550 : Index := Scalar.indexCast v543
  ![1, v549.toNat, v550.toNat]
def k0_off136 (k0_t43 : Fin k0_t43_loop.trips) : Fin 3 → Nat :=
  let c2_i32_832 : BitVec 32 := 2#32
  let v552 : Index := Scalar.indexCast c2_i32_832
  let c0_i32_824 : BitVec 32 := 0#32
  let c1_i32_826 : BitVec 32 := 1#32
  let arg10 : BitVec 32 := Scf.iv c0_i32_824 c1_i32_826 k0_t43
  let c4_i32_828 : BitVec 32 := 4#32
  let v540 : BitVec 32 := Scalar.shrsi arg10 c4_i32_828
  let v553 : Index := Scalar.indexCast v540
  let c15_i32 : BitVec 32 := 15#32
  let v541 : BitVec 32 := Scalar.andi arg10 c15_i32
  let c4_i32_829 : BitVec 32 := 4#32
  let v542 : BitVec 32 := Scalar.shli v541 c4_i32_829
  let c184_i32 : BitVec 32 := 184#32
  let v543 : BitVec 32 := Scalar.minsi v542 c184_i32
  let v554 : Index := Scalar.indexCast v543
  ![2, v553.toNat, v554.toNat]

def k0_chk42 (i : grid0.Coords) (v571 : IVec S16 32) : Prop :=
  (∀ (k0_h4 : k0_cond4 i = 1#1), ∀ a x, ((![v571] : Fin 1 → IVec S16 32) a x).toNat < S102400.size a)
theorem k0_idx42_inb : ∀ (i : grid0.Coords) (v571 : IVec S16 32) (k0_hw42 : k0_chk42 i v571), ∀ (k0_h4 : k0_cond4 i = 1#1), ∀ a x, ((![v571] : Fin 1 → IVec S16 32) a x).toNat < S102400.size a := fun i v571 k0_hw42 k0_h4 => k0_hw42 k0_h4
def k0_off137 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.andi v1 c1_i32_0
  let c16_i32_815 : BitVec 32 := 16#32
  let v526 : BitVec 32 := Scalar.muli v3 c16_i32_815
  let c1_i32 : BitVec 32 := 1#32
  let v2 : BitVec 32 := Scalar.shrsi v1 c1_i32
  let v527 : BitVec 32 := Scalar.addi v526 v2
  let c102400_i32 : BitVec 32 := 102400#32
  let v528 : BitVec 32 := Scalar.muli v527 c102400_i32
  ![v528.toNat]
abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1x200x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x200x27x48x3 : Shape := ⟨5, ![16, 200, 27, 48, 3]⟩
abbrev S128x101 : Shape := ⟨2, ![128, 101]⟩
abbrev S128 : Shape := ⟨1, ![128]⟩
abbrev S3200x1296x3 : Shape := ⟨3, ![3200, 1296, 3]⟩
abbrev S3200x1296x1 : Shape := ⟨3, ![3200, 1296, 1]⟩
abbrev S3200x1296 : Shape := ⟨2, ![3200, 1296]⟩
abbrev S_ : Shape := ⟨0, ![]⟩
abbrev S3200 : Shape := ⟨1, ![3200]⟩
abbrev S3200x1 : Shape := ⟨2, ![3200, 1]⟩
abbrev S4147200 : Shape := ⟨1, ![4147200]⟩
abbrev S1638400 : Shape := ⟨1, ![1638400]⟩
abbrev S4147200x1 : Shape := ⟨2, ![4147200, 1]⟩
abbrev S16x200x512 : Shape := ⟨3, ![16, 200, 512]⟩
abbrev S16x200 : Shape := ⟨2, ![16, 200]⟩
abbrev S16x200x1 : Shape := ⟨3, ![16, 200, 1]⟩
abbrev S16x200x200 : Shape := ⟨3, ![16, 200, 200]⟩
abbrev S16x200x300 : Shape := ⟨3, ![16, 200, 300]⟩
abbrev S16 : Shape := ⟨1, ![16]⟩
abbrev S16x1x1 : Shape := ⟨3, ![16, 1, 1]⟩
abbrev S200 : Shape := ⟨1, ![200]⟩
abbrev S1x200x1 : Shape := ⟨3, ![1, 200, 1]⟩
abbrev S101 : Shape := ⟨1, ![101]⟩
abbrev S1x1x101 : Shape := ⟨3, ![1, 1, 101]⟩
abbrev S1x200x101 : Shape := ⟨3, ![1, 200, 101]⟩
abbrev S16x200x101 : Shape := ⟨3, ![16, 200, 101]⟩
abbrev S16x200x101x1 : Shape := ⟨4, ![16, 200, 101, 1]⟩
abbrev S16x200x101x3 : Shape := ⟨4, ![16, 200, 101, 3]⟩
abbrev S101x128 : Shape := ⟨2, ![101, 128]⟩
abbrev S16x200x128 : Shape := ⟨3, ![16, 200, 128]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S16x200x27x48x3, .i32⟩
  | .hbm, ⟨1, _⟩ => ⟨S128x101, .f32⟩
  | .hbm, ⟨2, _⟩ => ⟨S128, .f32⟩
  | .hbm, ⟨3, _⟩ => ⟨S3200x1296x3, .i32⟩
  | .hbm, ⟨4, _⟩ => ⟨S3200x1296x1, .i32⟩
  | .hbm, ⟨5, _⟩ => ⟨S3200x1296, .i32⟩
  | .hbm, ⟨6, _⟩ => ⟨S_, .i32⟩
  | .hbm, ⟨7, _⟩ => ⟨S3200x1296, .i32⟩
  | .hbm, ⟨8, _⟩ => ⟨S3200x1296, .i32⟩
  | .hbm, ⟨9, _⟩ => ⟨S3200x1296x1, .i32⟩
  | .hbm, ⟨10, _⟩ => ⟨S3200x1296, .i32⟩
  | .hbm, ⟨11, _⟩ => ⟨S_, .i32⟩
  | .hbm, ⟨12, _⟩ => ⟨S3200x1296, .i32⟩
  | .hbm, ⟨13, _⟩ => ⟨S3200x1296, .i32⟩
  | .hbm, ⟨14, _⟩ => ⟨S3200x1296x1, .i32⟩
  | .hbm, ⟨15, _⟩ => ⟨S3200x1296, .i32⟩
  | .hbm, ⟨16, _⟩ => ⟨S_, .i32⟩
  | .hbm, ⟨17, _⟩ => ⟨S3200x1296, .i32⟩
  | .hbm, ⟨18, _⟩ => ⟨S3200x1296, .i32⟩
  | .hbm, ⟨19, _⟩ => ⟨S_, .i32⟩
  | .hbm, ⟨20, _⟩ => ⟨S3200x1296, .i32⟩
  | .hbm, ⟨21, _⟩ => ⟨S3200x1296, .i32⟩
  | .hbm, ⟨22, _⟩ => ⟨S_, .i32⟩
  | .hbm, ⟨23, _⟩ => ⟨S3200x1296, .i32⟩
  | .hbm, ⟨24, _⟩ => ⟨S3200x1296, .i32⟩
  | .hbm, ⟨25, _⟩ => ⟨S3200x1296, .i32⟩
  | .hbm, ⟨26, _⟩ => ⟨S3200x1296, .i32⟩
  | .hbm, ⟨27, _⟩ => ⟨S3200, .i32⟩
  | .hbm, ⟨28, _⟩ => ⟨S_, .i32⟩
  | .hbm, ⟨29, _⟩ => ⟨S3200, .i32⟩
  | .hbm, ⟨30, _⟩ => ⟨S3200, .i32⟩
  | .hbm, ⟨31, _⟩ => ⟨S3200x1, .i32⟩
  | .hbm, ⟨32, _⟩ => ⟨S3200x1296, .i32⟩
  | .hbm, ⟨33, _⟩ => ⟨S3200x1296, .i32⟩
  | .hbm, ⟨34, _⟩ => ⟨S4147200, .i32⟩
  | .hbm, ⟨35, _⟩ => ⟨S_, .i32⟩
  | .hbm, ⟨36, _⟩ => ⟨S1638400, .i32⟩
  | .hbm, ⟨37, _⟩ => ⟨S_, .i32⟩
  | .hbm, ⟨38, _⟩ => ⟨S4147200, .i32⟩
  | .hbm, ⟨39, _⟩ => ⟨S_, .i32⟩
  | .hbm, ⟨40, _⟩ => ⟨S4147200, .i32⟩
  | .hbm, ⟨41, _⟩ => ⟨S4147200, .i1⟩
  | .hbm, ⟨42, _⟩ => ⟨S_, .i32⟩
  | .hbm, ⟨43, _⟩ => ⟨S4147200, .i32⟩
  | .hbm, ⟨44, _⟩ => ⟨S4147200, .i32⟩
  | .hbm, ⟨45, _⟩ => ⟨S4147200, .i32⟩
  | .hbm, ⟨46, _⟩ => ⟨S4147200x1, .i32⟩
  | .hbm, ⟨47, _⟩ => ⟨S1638400, .i32⟩
  | .hbm, ⟨48, _⟩ => ⟨S16x200x512, .i32⟩
  | .hbm, ⟨49, _⟩ => ⟨S16x200x512, .f32⟩
  | .hbm, ⟨50, _⟩ => ⟨S16x200x512, .f32⟩
  | .hbm, ⟨51, _⟩ => ⟨S_, .f32⟩
  | .hbm, ⟨52, _⟩ => ⟨S16x200, .f32⟩
  | .hbm, ⟨53, _⟩ => ⟨S16x200x1, .f32⟩
  | .hbm, ⟨54, _⟩ => ⟨S16x200x1, .f32⟩
  | .hbm, ⟨55, _⟩ => ⟨S_, .f32⟩
  | .hbm, ⟨56, _⟩ => ⟨S16x200x1, .f32⟩
  | .hbm, ⟨57, _⟩ => ⟨S16x200x1, .f32⟩
  | .hbm, ⟨58, _⟩ => ⟨S16x200x512, .f32⟩
  | .hbm, ⟨59, _⟩ => ⟨S16x200x512, .f32⟩
  | .hbm, ⟨60, _⟩ => ⟨S16x200x200, .f32⟩
  | .hbm, ⟨61, _⟩ => ⟨S_, .i32⟩
  | .hbm, ⟨62, _⟩ => ⟨S_, .f32⟩
  | .hbm, ⟨63, _⟩ => ⟨S16x200x300, .f32⟩
  | .hbm, ⟨64, _⟩ => ⟨S16, .i32⟩
  | .hbm, ⟨65, _⟩ => ⟨S16x1x1, .i32⟩
  | .hbm, ⟨66, _⟩ => ⟨S200, .i32⟩
  | .hbm, ⟨67, _⟩ => ⟨S1x200x1, .i32⟩
  | .hbm, ⟨68, _⟩ => ⟨S101, .i32⟩
  | .hbm, ⟨69, _⟩ => ⟨S1x1x101, .i32⟩
  | .hbm, ⟨70, _⟩ => ⟨S1x200x101, .i32⟩
  | .hbm, ⟨71, _⟩ => ⟨S1x200x101, .i32⟩
  | .hbm, ⟨72, _⟩ => ⟨S1x200x101, .i32⟩
  | .hbm, ⟨73, _⟩ => ⟨S_, .i32⟩
  | .hbm, ⟨74, _⟩ => ⟨S16x1x1, .i32⟩
  | .hbm, ⟨75, _⟩ => ⟨S16x1x1, .i1⟩
  | .hbm, ⟨76, _⟩ => ⟨S_, .i32⟩
  | .hbm, ⟨77, _⟩ => ⟨S16x1x1, .i32⟩
  | .hbm, ⟨78, _⟩ => ⟨S16x1x1, .i32⟩
  | .hbm, ⟨79, _⟩ => ⟨S16x1x1, .i32⟩
  | .hbm, ⟨80, _⟩ => ⟨S_, .i32⟩
  | .hbm, ⟨81, _⟩ => ⟨S1x200x1, .i32⟩
  | .hbm, ⟨82, _⟩ => ⟨S1x200x1, .i1⟩
  | .hbm, ⟨83, _⟩ => ⟨S_, .i32⟩
  | .hbm, ⟨84, _⟩ => ⟨S1x200x1, .i32⟩
  | .hbm, ⟨85, _⟩ => ⟨S1x200x1, .i32⟩
  | .hbm, ⟨86, _⟩ => ⟨S1x200x1, .i32⟩
  | .hbm, ⟨87, _⟩ => ⟨S_, .i32⟩
  | .hbm, ⟨88, _⟩ => ⟨S1x200x101, .i32⟩
  | .hbm, ⟨89, _⟩ => ⟨S1x200x101, .i1⟩
  | .hbm, ⟨90, _⟩ => ⟨S_, .i32⟩
  | .hbm, ⟨91, _⟩ => ⟨S1x200x101, .i32⟩
  | .hbm, ⟨92, _⟩ => ⟨S1x200x101, .i32⟩
  | .hbm, ⟨93, _⟩ => ⟨S1x200x101, .i32⟩
  | .hbm, ⟨94, _⟩ => ⟨S16x200x101, .i32⟩
  | .hbm, ⟨95, _⟩ => ⟨S16x200x101, .i32⟩
  | .hbm, ⟨96, _⟩ => ⟨S16x200x101, .i32⟩
  | .hbm, ⟨97, _⟩ => ⟨S16x200x101x1, .i32⟩
  | .hbm, ⟨98, _⟩ => ⟨S16x200x101x1, .i32⟩
  | .hbm, ⟨99, _⟩ => ⟨S16x200x101x1, .i32⟩
  | .hbm, ⟨100, _⟩ => ⟨S16x200x101x3, .i32⟩
  | .hbm, ⟨101, _⟩ => ⟨S16x200x101, .f32⟩
  | .hbm, ⟨102, _⟩ => ⟨S101x128, .f32⟩
  | .hbm, ⟨103, _⟩ => ⟨S16x200x128, .f32⟩
  | .hbm, ⟨104, _⟩ => ⟨S1x1x128, .f32⟩
  | .hbm, ⟨105, _⟩ => ⟨S16x200x128, .f32⟩
  | .hbm, ⟨106, _⟩ => ⟨S16x200x128, .f32⟩
  | .hbm, ⟨107, _⟩ => ⟨S_, .f32⟩
  | .hbm, ⟨108, _⟩ => ⟨S16x200x128, .f32⟩
  | .hbm, ⟨109, _⟩ => ⟨S16x200x128, .f32⟩
  | _, _ => ⟨S16x200x27x48x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call2_cst : Ref sig .tc := ⟨.hbm, 107, rfl⟩
abbrev main_call2_v0 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Proof.TileProg.lean ====
/-
  The histogram task of one vector subcore, written as a program over the number of the chunk.

  The printed body of the SparseCore kernel is the whole double-buffered sequence written out: forty-two copies into two
  scratches by turns, forty-two counting loops, forty-two waits. Here the same sequence is a recursion over the chunk
  number `k`: while chunk `k` is counted out of one scratch, chunk `k + 1` is copied into the other. A core whose half
  holds fourteen image rows runs forty-two chunks, the other core thirty-nine. `body_eq` is the equation of the two.
-/
module

public import proofs.«01_k».proof.Defs
public import proofs.«01_k».proof.Proof.Gen.KernelIdeal.Skeleton

@[expose] public section

noncomputable section

namespace Cert.Hist

open Cert.KernelIdeal Cert.KernelIdeal.Gen
open Idealize.ShloMosaic Idealize.SL.Sem

variable {F : FTy → Type} [FloatOps F]

/-- The programs of the subcore at grid position `i`. -/
abbrev TileM (F : FTy → Type) (i : grid0.Coords) (α : Type) : Type 1 :=
  Prog (TpuEff nD τ sig (Elt F) Λ₀ (.scVector ((i 0).castLE hcore0) ((i 1).castLE hsub0))) α

/-- The vector-memory buffers of pixels, and of counts. -/
abbrev PixM : Type := Memref sig .scVector .vmem S3x16x200 .i32
abbrev CntM : Type := Memref sig .scVector .vmem S102400 .f32
abbrev ImgM : Type := Memref sig .scVector .hbm S16x27x3x48x200 .i32
abbrev OutM : Type := Memref sig .scVector .hbm S3276800 .f32

/-- Where chunk `k` begins in the transposed frames: row `k / 3` of the half, columns from `16 * (k % 3)`. -/
def chOff (i : grid0.Coords) (k : ℕ) : Fin 5 → ℕ :=
  match k % 3 with
  | 0 => k0_off2 i (BitVec.ofNat 32 (k / 3))
  | 1 => k0_off3 i (BitVec.ofNat 32 (k / 3))
  | _ => k0_off7 i (BitVec.ofNat 32 (k / 3))

/-- Chunk `k` lies inside the transposed frames. -/
def Fits (i : grid0.Coords) (k : ℕ) : Prop := ∀ a, chOff i k a + S1x1x3x16x200.size a ≤ S16x27x3x48x200.size a

/-- Chunk `k` of the transposed frames, as the copies name it. -/
abbrev chSrc (z : ImgM) (i : grid0.Coords) (k : ℕ) (h : Fits i k) : Memref sig .scVector .hbm S3x16x200 .i32 :=
  (z.slice (Rect.unit (s := S16x27x3x48x200) (chOff i k) S1x1x3x16x200.size h) (fun _ => rfl)).squeeze S3x16x200
    squeezes_S1x1x3x16x200_S3x16x200

/-- One of two things, by the parity of the chunk number. -/
def alt {α : Type} (a b : α) (k : ℕ) : α := match k % 2 with
  | 0 => a
  | _ => b

theorem alt_whole {a b : PixM} (ha : a.IsWhole) (hb : b.IsWhole) (k : ℕ) : (alt a b k).IsWhole := by
  unfold alt; split
  · exact ha
  · exact hb

/-- The copy of chunk `k` into `b`, credited on `s`: its start, and the wait for it. -/
def start (i : grid0.Coords) (z : ImgM) (k : ℕ) (h : Fits i k) (b : PixM) (hb : b.IsWhole) (s : DmaSems sig S_) : TileM F i PUnit :=
  Prog.lift (.enqueueDma (chSrc z i k h) (.here b) (.dma s.sem) ((View.wordExact_bits rfl).reshape _ _) hb.wordExact ⟨Or.inl rfl, trivial⟩)
def await (i : grid0.Coords) (z : ImgM) (k : ℕ) (h : Fits i k) (b : PixM) (hb : b.IsWhole) (s : DmaSems sig S_) : TileM F i PUnit :=
  Prog.lift (.waitDma2 s.sem (chSrc z i k h) b ((View.wordExact_bits rfl).reshape _ _) hb.wordExact)

/-- One trip of a counting loop: sixteen pixels of `b` are counted into `c`. -/
def trip (i : grid0.Coords) (b : PixM) (c : CntM) (t : Fin k0_t2_loop.trips) (_ : Unit) : TileM F i Unit := do
  let r ← Prog.lift (.load b (Rect.unit (s := S3x16x200) (k0_off4 t) S1x1x16.size (k0_off4_inb t)).toLoadRect (View.loadsAt_vmem h_S1x1x16))
  let g ← Prog.lift (.load b (Rect.unit (s := S3x16x200) (k0_off5 t) S1x1x16.size (k0_off5_inb t)).toLoadRect (View.loadsAt_vmem h_S1x1x16))
  let l ← Prog.lift (.load b (Rect.unit (s := S3x16x200) (k0_off6 t) S1x1x16.size (k0_off6_inb t)).toLoadRect (View.loadsAt_vmem h_S1x1x16))
  let ok ← Prog.lift (TpuEff.assume (k0_chk1 (k0_pay10 (F := F) k0_pay7 t r g l)) (k0_chk1.dec _))
  SparseCore.vectorStoreIdx c ![k0_pay10 (F := F) k0_pay7 t r g l] k0_pay8
    (k0_pay11 (iota .scVector S16 32 [0] iota_S16_d0_w32_scVector) t) true (k0_idx1_inb _ ok.down) (View.stores_vmem_bits_univ h_S102400 rfl)
  pure ⟨⟩

/-- The counting loop over the chunk that `b` holds. -/
def chunk (i : grid0.Coords) (b : PixM) (c : CntM) : TileM F i Unit :=
  Scf.Loop.for k0_t2_loop k0_t2_ok ⟨⟩ (trip i b c)

/-- The eight stores of zeros of one trip of the clearing loop, and the loop. -/
def zero (i : grid0.Coords) (c : CntM) (t : Fin k0_t1_loop.trips) (r : Fin 8) : TileM F i PUnit := do
  let _ ← Prog.lift (.load c (Rect.unit (s := S102400) (k0_off1 t (BitVec.ofNat 32 (16 * r.val))) S16.size (k0_off1_inb t r)).toLoadRect (View.loadsAt_vmem h_S16))
  Prog.lift (.store c (Rect.unit (s := S102400) (k0_off1 t (BitVec.ofNat 32 (16 * r.val))) S16.size (k0_off1_inb t r)) (k0_pay9 (F := F)) Finset.univ (View.stores_vmem_bits_univ h_S16 rfl) (.inl rfl))
def zeroTrip (i : grid0.Coords) (c : CntM) (t : Fin k0_t1_loop.trips) (_ : Unit) : TileM F i Unit := do
  zero i c t 0; zero i c t 1; zero i c t 2; zero i c t 3; zero i c t 4; zero i c t 5; zero i c t 6; zero i c t 7
  pure ⟨⟩
def zeros (i : grid0.Coords) (c : CntM) : TileM F i Unit :=
  Scf.Loop.for k0_t1_loop k0_t1_ok ⟨⟩ (zeroTrip i c)

/-- Chunk `k` is counted while chunk `k + 1` is fetched, for `n` chunks from `k` on; then `rest`. -/
def walk (i : grid0.Coords) (z : ImgM) (a : PixM) (ha : a.IsWhole) (b : PixM) (hb : b.IsWhole) (c : CntM)
    (s₀ s₁ : DmaSems sig S_) (rest : TileM F i PUnit) : (n k : ℕ) → (∀ j, j ≤ k + n → Fits i j) → TileM F i PUnit
  | 0, _, _ => rest
  | n + 1, k, h => do
      start i z (k + 1) (h _ (by omega)) (alt a b (k + 1)) (alt_whole ha hb _) (alt s₀ s₁ (k + 1))
      chunk i (alt a b k) c
      await i z (k + 1) (h _ (by omega)) (alt a b (k + 1)) (alt_whole ha hb _) (alt s₀ s₁ (k + 1))
      walk i z a ha b hb c s₀ s₁ rest n (k + 1) fun j hj => h j (by omega)

/-- The task's slice of the counts in main memory. -/
abbrev outDst (o : OutM) (i : grid0.Coords) : Memref sig .scVector .hbm S102400 .f32 :=
  o.slice (Rect.unit (s := S3276800) (k0_off137 i) S102400.size (k0_off137_inb i)) (fun _ => rfl)

/-- The copy of the counts to main memory, and the wait for it. -/
def writeOut (i : grid0.Coords) (o : OutM) (c : CntM) (hc : c.IsWhole) (s : DmaSems sig S_) : TileM F i PUnit := do
  Prog.lift (.enqueueDma c (.here (outDst o i)) (.dma s.sem) hc.wordExact (View.wordExact_bits rfl) ⟨Or.inl rfl, trivial⟩)
  Prog.lift (.waitDma2 s.sem c (outDst o i) hc.wordExact (View.wordExact_bits rfl))
  pure ⟨⟩

/-- The task with `n + 1` chunks. -/
def task (i : grid0.Coords) (z : ImgM) (o : OutM) (a : PixM) (ha : a.IsWhole) (b : PixM) (hb : b.IsWhole) (c : CntM) (hc : c.IsWhole)
    (s₀ s₁ s₂ : DmaSems sig S_) (n : ℕ) (h : ∀ j, j ≤ 0 + n → Fits i j) : TileM F i PUnit := do
  zeros i c
  start i z 0 (h _ (by omega)) (alt a b 0) (alt_whole ha hb _) (alt s₀ s₁ 0)
  await i z 0 (h _ (by omega)) (alt a b 0) (alt_whole ha hb _) (alt s₀ s₁ 0)
  walk i z a ha b hb c s₀ s₁ (do
    chunk i (alt a b n) c
    writeOut i o c hc s₂) n 0 h

/-! ## The printed sequence, event by event -/

/-- The lane numbers. -/
abbrev lanes : IVec S16 32 := iota .scVector S16 32 [0] iota_S16_d0_w32_scVector

/-- Event `e` of the common part of both tasks: chunk `e / 3 + 1` is started, chunk `e / 3` counted, chunk `e / 3 + 1` awaited. -/
def ev (i : grid0.Coords) (z : ImgM) (a : PixM) (ha : a.IsWhole) (b : PixM) (hb : b.IsWhole) (c : CntM)
    (s₀ s₁ : DmaSems sig S_) (h : ∀ j, j ≤ 38 → Fits i j) (e : ℕ) (he : e < 114) : TileM F i PUnit :=
  match e % 3 with
  | 0 => start i z (e / 3 + 1) (h _ (by omega)) (alt a b (e / 3 + 1)) (alt_whole ha hb _) (alt s₀ s₁ (e / 3 + 1))
  | 1 => chunk i (alt a b (e / 3)) c
  | _ => await i z (e / 3 + 1) (h _ (by omega)) (alt a b (e / 3 + 1)) (alt_whole ha hb _) (alt s₀ s₁ (e / 3 + 1))

/-- `n` events from event `e` on, then `rest`. -/
def evs {α : Type} (i : grid0.Coords) (z : ImgM) (a : PixM) (ha : a.IsWhole) (b : PixM) (hb : b.IsWhole) (c : CntM)
    (s₀ s₁ : DmaSems sig S_) (h : ∀ j, j ≤ 38 → Fits i j) (rest : TileM F i α) : (n e : ℕ) → e + n ≤ 114 → TileM F i α
  | 0, _, _ => rest
  | n + 1, e, he => do
      ev i z a ha b hb c s₀ s₁ h e (by omega)
      evs i z a ha b hb c s₀ s₁ h rest n (e + 1) (by omega)

section Events

variable (i : grid0.Coords) (z : ImgM) (hz : z.IsWhole) (o : OutM) (ho : o.IsWhole) (a : PixM) (ha : a.IsWhole) (b : PixM) (hb : b.IsWhole)
    (c : CntM) (hc : c.IsWhole) (s₀ s₁ s₂ : DmaSems sig S_) (h : ∀ j, j ≤ 38 → Fits i j)

theorem evs_bind {α β : Type} (p : TileM F i α) (q : α → TileM F i β) : ∀ (n e : ℕ) (he : e + n ≤ 114),
    evs i z a ha b hb c s₀ s₁ h p n e he >>= q = evs i z a ha b hb c s₀ s₁ h (p >>= q) n e he
  | 0, _, _ => rfl
  | n + 1, e, he => by
      show (ev i z a ha b hb c s₀ s₁ h e _ >>= fun _ => evs i z a ha b hb c s₀ s₁ h p n (e + 1) _) >>= q = _
      rw [Prog.bind_assoc, funext fun _ => evs_bind p q n (e + 1) (by omega)]
      rfl

theorem evs_len {α : Type} (p : TileM F i α) {n n' e : ℕ} (hn : n = n') (he : e + n ≤ 114) :
    evs i z a ha b hb c s₀ s₁ h p n e he = evs i z a ha b hb c s₀ s₁ h p n' e (hn ▸ he) := by subst hn; rfl

theorem evs_evs {α : Type} (p : TileM F i α) : ∀ (n m e e' : ℕ) (he : e + n ≤ 114) (he' : e' + m ≤ 114) (_ : e' = e + n),
    evs i z a ha b hb c s₀ s₁ h (evs i z a ha b hb c s₀ s₁ h p m e' he') n e he
      = evs i z a ha b hb c s₀ s₁ h p (n + m) e (by omega)
  | 0, m, e, e', he, he', heq => by
      obtain rfl : e' = e := heq
      exact evs_len i z a ha b hb c s₀ s₁ h p (Nat.zero_add m).symm he'
  | n + 1, m, e, e', he, he', heq => by
      rw [evs_len i z a ha b hb c s₀ s₁ h p (show n + 1 + m = (n + m) + 1 by omega)]
      show (ev i z a ha b hb c s₀ s₁ h e _ >>= fun _ => _) = (ev i z a ha b hb c s₀ s₁ h e _ >>= fun _ => _)
      rw [evs_evs p n m (e + 1) e' (by omega) he' (by omega)]

set_option maxRecDepth 65536 in
/-- The pieces the printed body is cut into, each a run of events. -/
theorem parts_eq (v3 : BitVec 32) :
    k0_part2 (F := F) i z hz o ho a ha b hb c hc s₀ s₁ s₂ v3 lanes k0_pay7 k0_pay8
        = evs i z a ha b hb c s₀ s₁ h (pure ⟨⟩) 5 0 (by omega) ∧
    k0_part3 (F := F) i z hz o ho a ha b hb c hc s₀ s₁ s₂ v3 lanes k0_pay7 k0_pay8
        = evs i z a ha b hb c s₀ s₁ h (pure ⟨⟩) 4 5 (by omega) ∧
    k0_part4 (F := F) i z hz o ho a ha b hb c hc s₀ s₁ s₂ v3 lanes k0_pay7 k0_pay8
        = evs i z a ha b hb c s₀ s₁ h (pure ⟨⟩) 5 9 (by omega) ∧
    k0_part5 (F := F) i z hz o ho a ha b hb c hc s₀ s₁ s₂ v3 lanes k0_pay7 k0_pay8
        = evs i z a ha b hb c s₀ s₁ h (pure ⟨⟩) 6 14 (by omega) ∧
    k0_part6 (F := F) i z hz o ho a ha b hb c hc s₀ s₁ s₂ v3 lanes k0_pay7 k0_pay8
        = evs i z a ha b hb c s₀ s₁ h (pure ⟨⟩) 4 20 (by omega) ∧
    k0_part7 (F := F) i z hz o ho a ha b hb c hc s₀ s₁ s₂ v3 lanes k0_pay7 k0_pay8
        = evs i z a ha b hb c s₀ s₁ h (pure ⟨⟩) 5 24 (by omega) ∧
    k0_part8 (F := F) i z hz o ho a ha b hb c hc s₀ s₁ s₂ v3 lanes k0_pay7 k0_pay8
        = evs i z a ha b hb c s₀ s₁ h (pure 0#32) 5 29 (by omega) ∧
    k0_part9 (F := F) i z hz o ho a ha b hb c hc s₀ s₁ s₂ v3 lanes k0_pay7 k0_pay8 0#32
        = evs i z a ha b hb c s₀ s₁ h (pure ⟨Scalar.muli 14#32 v3, 4#32⟩) 5 34 (by omega) ∧
    k0_part10 (F := F) i z hz o ho a ha b hb c hc s₀ s₁ s₂ v3 lanes k0_pay7 k0_pay8 (Scalar.muli 14#32 v3) 4#32
        = evs i z a ha b hb c s₀ s₁ h (pure ⟨⟩) 5 39 (by omega) ∧
    k0_part11 (F := F) i z hz o ho a ha b hb c hc s₀ s₁ s₂ v3 lanes k0_pay7 k0_pay8
        = evs i z a ha b hb c s₀ s₁ h (pure ⟨⟩) 4 44 (by omega) ∧
    k0_part12 (F := F) i z hz o ho a ha b hb c hc s₀ s₁ s₂ v3 lanes k0_pay7 k0_pay8
        = evs i z a ha b hb c s₀ s₁ h (pure ⟨⟩) 5 48 (by omega) ∧
    k0_part13 (F := F) i z hz o ho a ha b hb c hc s₀ s₁ s₂ v3 lanes k0_pay7 k0_pay8
        = evs i z a ha b hb c s₀ s₁ h (pure ⟨⟩) 6 53 (by omega) ∧
    k0_part14 (F := F) i z hz o ho a ha b hb c hc s₀ s₁ s₂ v3 lanes k0_pay7 k0_pay8
        = evs i z a ha b hb c s₀ s₁ h (pure ⟨⟩) 4 59 (by omega) ∧
    k0_part15 (F := F) i z hz o ho a ha b hb c hc s₀ s₁ s₂ v3 lanes k0_pay7 k0_pay8
        = evs i z a ha b hb c s₀ s₁ h (pure ⟨⟩) 5 63 (by omega) ∧
    k0_part16 (F := F) i z hz o ho a ha b hb c hc s₀ s₁ s₂ v3 lanes k0_pay7 k0_pay8
        = evs i z a ha b hb c s₀ s₁ h (pure ⟨⟩) 5 68 (by omega) ∧
    k0_part17 (F := F) i z hz o ho a ha b hb c hc s₀ s₁ s₂ v3 lanes k0_pay7 k0_pay8
        = evs i z a ha b hb c s₀ s₁ h (pure (Scalar.muli 14#32 v3)) 5 73 (by omega) ∧
    k0_part18 (F := F) i z hz o ho a ha b hb c hc s₀ s₁ s₂ v3 lanes k0_pay7 k0_pay8 (Scalar.muli 14#32 v3)
        = evs i z a ha b hb c s₀ s₁ h (pure ⟨Scalar.muli 14#32 v3, 9#32⟩) 5 78 (by omega) ∧
    k0_part19 (F := F) i z hz o ho a ha b hb c hc s₀ s₁ s₂ v3 lanes k0_pay7 k0_pay8 (Scalar.muli 14#32 v3) 9#32
        = evs i z a ha b hb c s₀ s₁ h (pure ⟨⟩) 4 83 (by omega) ∧
    k0_part20 (F := F) i z hz o ho a ha b hb c hc s₀ s₁ s₂ v3 lanes k0_pay7 k0_pay8
        = evs i z a ha b hb c s₀ s₁ h (pure ⟨⟩) 5 87 (by omega) ∧
    k0_part21 (F := F) i z hz o ho a ha b hb c hc s₀ s₁ s₂ v3 lanes k0_pay7 k0_pay8
        = evs i z a ha b hb c s₀ s₁ h (pure ⟨0#32, 1#32⟩) 5 92 (by omega) ∧
    k0_part22 (F := F) i z hz o ho a ha b hb c hc s₀ s₁ s₂ v3 lanes k0_pay7 k0_pay8 0#32 1#32
        = evs i z a ha b hb c s₀ s₁ h (pure ⟨⟩) 5 97 (by omega) ∧
    k0_part23 (F := F) i z hz o ho a ha b hb c hc s₀ s₁ s₂ v3 lanes k0_pay7 k0_pay8
        = evs i z a ha b hb c s₀ s₁ h (pure ⟨⟩) 5 102 (by omega) ∧
    k0_part24 (F := F) i z hz o ho a ha b hb c hc s₀ s₁ s₂ v3 lanes k0_pay7 k0_pay8
        = evs i z a ha b hb c s₀ s₁ h (pure ⟨⟩) 5 107 (by omega) :=
  ⟨rfl, rfl, rfl, rfl, rfl, rfl, rfl, rfl, rfl, rfl, rfl, rfl, rfl, rfl, rfl, rfl, rfl, rfl, rfl, rfl, rfl, rfl, rfl⟩

/-- The common part as a walk over chunks: three events for each. -/
theorem walk_evs (rest : TileM F i PUnit) : ∀ (n k : ℕ) (hk : ∀ j, j ≤ k + n → Fits i j) (hn : k + n ≤ 38),
    evs i z a ha b hb c s₀ s₁ h rest (3 * n) (3 * k) (by omega) = walk i z a ha b hb c s₀ s₁ rest n k hk
  | 0, k, hk, hn => rfl
  | n + 1, k, hk, hn => by
      rw [evs_len i z a ha b hb c s₀ s₁ h rest (show 3 * (n + 1) = 3 * n + 1 + 1 + 1 by omega)]
      have e0 : ev i z a ha b hb c s₀ s₁ h (3 * k) (by omega)
          = start (F := F) i z (k + 1) (hk _ (by omega)) (alt a b (k + 1)) (alt_whole ha hb _) (alt s₀ s₁ (k + 1)) := by
        unfold ev
        have hd : 3 * k / 3 = k := by omega
        have hm : 3 * k % 3 = 0 := by omega
        simp only [hd, hm]
      have e1 : ev i z a ha b hb c s₀ s₁ h (3 * k + 1) (by omega) = chunk (F := F) i (alt a b k) c := by
        unfold ev
        have hd : (3 * k + 1) / 3 = k := by omega
        have hm : (3 * k + 1) % 3 = 1 := by omega
        simp only [hd, hm]
      have e2 : ev i z a ha b hb c s₀ s₁ h (3 * k + 1 + 1) (by omega)
          = await (F := F) i z (k + 1) (hk _ (by omega)) (alt a b (k + 1)) (alt_whole ha hb _) (alt s₀ s₁ (k + 1)) := by
        unfold ev
        have hd : (3 * k + 1 + 1) / 3 = k := by omega
        have hm : (3 * k + 1 + 1) % 3 = 2 := by omega
        simp only [hd, hm]
      have ih := walk_evs rest n (k + 1) (fun j hj => hk j (by omega)) (by omega)
      simp only [evs, e0, e1, e2, walk]
      rw [← ih]
      rfl

theorem walk_walk (rest : TileM F i PUnit) : ∀ (n m k k' : ℕ) (hk : ∀ j, j ≤ k + n → Fits i j) (hk' : ∀ j, j ≤ k' + m → Fits i j)
    (hnm : ∀ j, j ≤ k + (n + m) → Fits i j) (_ : k' = k + n),
    walk i z a ha b hb c s₀ s₁ (walk i z a ha b hb c s₀ s₁ rest m k' hk') n k hk = walk i z a ha b hb c s₀ s₁ rest (n + m) k hnm
  | 0, m, k, k', hk, hk', hnm, heq => by
      obtain rfl : k' = k := heq
      have : ∀ (q q' : ℕ) (e : q = q') (hq : ∀ j, j ≤ k' + q → Fits i j) (hq' : ∀ j, j ≤ k' + q' → Fits i j),
          walk i z a ha b hb c s₀ s₁ rest q k' hq = walk (F := F) i z a ha b hb c s₀ s₁ rest q' k' hq' := by
        rintro q _ rfl _ _; rfl
      exact this _ _ (Nat.zero_add m).symm hk' hnm
  | n + 1, m, k, k', hk, hk', hnm, heq => by
      have : ∀ (q q' : ℕ) (e : q = q') (hq : ∀ j, j ≤ k + q → Fits i j) (hq' : ∀ j, j ≤ k + q' → Fits i j),
          walk i z a ha b hb c s₀ s₁ rest q k hq = walk (F := F) i z a ha b hb c s₀ s₁ rest q' k hq' := by
        rintro q _ rfl _ _; rfl
      rw [this (n + 1 + m) ((n + m) + 1) (by omega) hnm (fun j hj => hnm j (by omega))]
      simp only [walk]
      rw [walk_walk rest n m (k + 1) k' (fun j hj => hk j (by omega)) hk' (fun j hj => hnm j (by omega)) (by omega)]

/-- What the first part of the printed body returns. -/
abbrev wid (i : grid0.Coords) : BitVec 32 := Scalar.addi (Scalar.muli (BitVec.ofNat 32 (i 1).val) 2#32) (BitVec.ofNat 32 (i 0).val)

set_option maxRecDepth 65536 in
theorem part1_eq : k0_part1 (F := F) i z hz o ho a ha b hb c hc s₀ s₁ s₂
    = (do
        zeros i c
        start i z 0 (h _ (by omega)) a ha s₀
        await i z 0 (h _ (by omega)) a ha s₀
        pure ⟨Scalar.shrsi (wid i) 1#32, Scalar.andi (wid i) 1#32, Scalar.cmpi .eq (Scalar.andi (wid i) 1#32) 0#32, lanes, k0_pay7, k0_pay8⟩) := rfl

set_option maxRecDepth 65536 in
/-- Everything up to chunk 38, which only the longer task still has copies beside. -/
theorem part25_eq : k0_part25 (F := F) i z hz o ho a ha b hb c hc s₀ s₁ s₂
    = (do
        zeros i c
        start i z 0 (h _ (by omega)) a ha s₀
        await i z 0 (h _ (by omega)) a ha s₀
        evs i z a ha b hb c s₀ s₁ h (do
          if h1 : k0_cond1 i = 1#1 then do
            start i z 39 (k0_off119_inb i h1) b hb s₁
            chunk i a c
            pure ⟨Scalar.shrsi (wid i) 1#32, Scalar.andi (wid i) 1#32, Scalar.cmpi .eq (Scalar.andi (wid i) 1#32) 0#32, lanes, k0_pay7, k0_pay8⟩
          else do
            chunk i a c
            pure ⟨Scalar.shrsi (wid i) 1#32, Scalar.andi (wid i) 1#32, Scalar.cmpi .eq (Scalar.andi (wid i) 1#32) 0#32, lanes, k0_pay7, k0_pay8⟩)
          114 0 (by omega)) := by
  rw [k0_part25_eq_skeleton]
  obtain ⟨p2, p3, p4, p5, p6, p7, p8, p9, p10, p11, p12, p13, p14, p15, p16, p17, p18, p19, p20, p21, p22, p23, p24⟩ :=
    parts_eq (F := F) i z hz o ho a ha b hb c hc s₀ s₁ s₂ h (Scalar.andi (wid i) 1#32)
  unfold k0_part25_skel
  rw [part1_eq i z hz o ho a ha b hb c hc s₀ s₁ s₂ h]
  simp only [Prog.bind_assoc, Prog.pure_eq_ret, Prog.bind_ret] at p2 p3 p4 p5 p6 p7 p8 p9 p10 p11 p12 p13 p14 p15 p16 p17 p18 p19 p20 p21 p22 p23 p24 ⊢
  simp only [p2, p3, p4, p5, p6, p7, p8, p9, p10, p11, p12, p13, p14, p15, p16, p17, p18, p19, p20, p21, p22, p23, p24, evs_bind, Prog.bind_ret]
  rw [← evs_evs i z a ha b hb c s₀ s₁ h _ 112 2 0 112 (by omega) (by omega) rfl]
  simp only [evs_evs, Nat.reduceAdd, Nat.zero_add]
  rfl

/-- A check is the same effect under an equal proposition. -/
theorem assume_eq {P Q : Prop} (e : P = Q) (dP : Decidable P) (dQ : Decidable Q) {α : Type}
    (p : PLift P → TileM F i α) (q : PLift Q → TileM F i α) (hpq : ∀ x y, p x = q y) :
    (Prog.lift (TpuEff.assume P dP) >>= p) = (Prog.lift (TpuEff.assume Q dQ) >>= q) := by
  subst e
  obtain rfl : dP = dQ := Subsingleton.elim _ _
  exact congrArg _ (funext fun x => hpq x x)

theorem t41_eq (h2 : k0_cond2 i = 1#1) : k0_t41_body (F := F) i z hz o ho a ha b hb c hc s₀ s₁ s₂ lanes k0_pay7 k0_pay8 h2 = trip i b c :=
  funext fun _ => funext fun _ => bind_congr fun _ => bind_congr fun _ => bind_congr fun _ =>
    assume_eq i (propext ⟨fun f => f h2, fun f _ => f⟩) _ _ _ _ fun _ _ => rfl
theorem t42_eq (h3 : k0_cond3 i = 1#1) : k0_t42_body (F := F) i z hz o ho a ha b hb c hc s₀ s₁ s₂ lanes k0_pay7 k0_pay8 h3 = trip i a c :=
  funext fun _ => funext fun _ => bind_congr fun _ => bind_congr fun _ => bind_congr fun _ =>
    assume_eq i (propext ⟨fun f => f h3, fun f _ => f⟩) _ _ _ _ fun _ _ => rfl
theorem t43_eq (h4 : k0_cond4 i = 1#1) : k0_t43_body (F := F) i z hz o ho a ha b hb c hc s₀ s₁ s₂ lanes k0_pay7 k0_pay8 h4 = trip i b c :=
  funext fun _ => funext fun _ => bind_congr fun _ => bind_congr fun _ => bind_congr fun _ =>
    assume_eq i (propext ⟨fun f => f h4, fun f _ => f⟩) _ _ _ _ fun _ _ => rfl

/-- The whole task, on the core whose half has fourteen rows. -/
theorem body_long (h' : ∀ j, j ≤ 0 + 41 → Fits i j)
    (h1 : k0_cond1 i = 1#1) (h2 : k0_cond2 i = 1#1) (h3 : k0_cond3 i = 1#1) (h4 : k0_cond4 i = 1#1) :
    cc0__sc_hist_body (F := F) i z hz o ho a ha b hb c hc s₀ s₁ s₂ = task i z o a ha b hb c hc s₀ s₁ s₂ 41 h' := by
  have h : ∀ j, j ≤ 38 → Fits i j := fun j hj => h' j (by omega)
  rw [cc0__sc_hist_body_eq_skeleton]
  unfold cc0__sc_hist_body_skel task
  rw [part25_eq i z hz o ho a ha b hb c hc s₀ s₁ s₂ h]
  rw [← walk_walk i z a ha b hb c s₀ s₁ _ 38 3 0 38 (fun j hj => h' j (by omega)) (fun j hj => h' j (by omega)) h' rfl,
    ← walk_evs i z a ha b hb c s₀ s₁ h _ 38 0 (fun j hj => h' j (by omega)) (by omega)]
  simp only [dif_pos h1, dif_pos h2, dif_pos h3, dif_pos h4, Prog.bind_assoc, Prog.pure_eq_ret, Prog.bind_ret, evs_bind, walk,
    t41_eq, t42_eq, t43_eq]
  rfl

/-- The whole task, on the core whose half has thirteen rows. -/
theorem body_short (h : ∀ j, j ≤ 0 + 38 → Fits i j)
    (h1 : ¬ k0_cond1 i = 1#1) (h2 : ¬ k0_cond2 i = 1#1) (h3 : ¬ k0_cond3 i = 1#1) (h4 : ¬ k0_cond4 i = 1#1) :
    cc0__sc_hist_body (F := F) i z hz o ho a ha b hb c hc s₀ s₁ s₂ = task i z o a ha b hb c hc s₀ s₁ s₂ 38 h := by
  have h' : ∀ j, j ≤ 38 → Fits i j := fun j hj => h j (by omega)
  rw [cc0__sc_hist_body_eq_skeleton]
  unfold cc0__sc_hist_body_skel task
  rw [part25_eq i z hz o ho a ha b hb c hc s₀ s₁ s₂ h']
  rw [← walk_evs i z a ha b hb c s₀ s₁ h' _ 38 0 h (by omega)]
  simp only [dif_neg h1, dif_neg h2, dif_neg h3, dif_neg h4, Prog.bind_assoc, Prog.pure_eq_ret, Prog.bind_ret, evs_bind]
  rfl

end Events

/-! ## Which of the two a core runs -/

/-- The number of chunks after the first: forty-one on core 0, thirty-eight on core 1. -/
def more (i : grid0.Coords) : ℕ := if (i 0).val = 0 then 41 else 38

theorem cond_iff (i : grid0.Coords) :
    (k0_cond1 i = 1#1 ↔ (i 0).val = 0) ∧ (k0_cond2 i = 1#1 ↔ (i 0).val = 0) ∧ (k0_cond3 i = 1#1 ↔ (i 0).val = 0) ∧ (k0_cond4 i = 1#1 ↔ (i 0).val = 0) := by
  have key : ∀ (x : Fin 2) (y : Fin 16), (Scalar.cmpi .ne (Scalar.extui (Scalar.cmpi .eq (Scalar.andi (Scalar.addi (Scalar.muli (BitVec.ofNat 32 y.val) 2#32)
      (BitVec.ofNat 32 x.val)) 1#32) 0#32) : BitVec 32) 0#32 = 1#1 ↔ x.val = 0) := by decide
  exact ⟨key (i 0) (i 1), key (i 0) (i 1), key (i 0) (i 1), key (i 0) (i 1)⟩

theorem off2_val (i : grid0.Coords) (r : ℕ) (hr : r < 14) :
    k0_off2 i (BitVec.ofNat 32 r) = ![(i 1).val, 14 * (i 0).val + r, 0, 0, 0] := by
  have key : ∀ (x : Fin 2) (y : Fin 16) (r : Fin 14),
      (Scalar.shrsi (Scalar.addi (Scalar.muli (BitVec.ofNat 32 y.val) 2#32) (BitVec.ofNat 32 x.val)) 1#32).toNat = y.val ∧
      (Scalar.addi (Scalar.muli 14#32 (Scalar.andi (Scalar.addi (Scalar.muli (BitVec.ofNat 32 y.val) 2#32) (BitVec.ofNat 32 x.val)) 1#32)) (BitVec.ofNat 32 r.val)).toNat
        = 14 * x.val + r.val := by decide
  obtain ⟨e1, e2⟩ := key (i 0) (i 1) ⟨r, hr⟩
  unfold k0_off2
  exact congrArg₂ (fun p q : ℕ => (![p, q, 0, 0, 0] : Fin 5 → ℕ)) e1 e2

/-- Where a chunk begins, in numbers. -/
theorem chOff_val (i : grid0.Coords) (k : ℕ) (hk : k < 42) :
    chOff i k = ![(i 1).val, 14 * (i 0).val + k / 3, 0, 16 * (k % 3), 0] := by
  have e := off2_val i (k / 3) (by omega)
  have e0 : k0_off2 i (BitVec.ofNat 32 (k / 3)) 0 = (i 1).val := congrFun e 0
  have e1 : k0_off2 i (BitVec.ofNat 32 (k / 3)) 1 = 14 * (i 0).val + k / 3 := congrFun e 1
  unfold chOff
  split
  · rename_i hm; rw [hm]; exact e
  · rename_i hm; rw [hm]; exact congrArg₂ (fun p q : ℕ => (![p, q, 0, 16, 0] : Fin 5 → ℕ)) e0 e1
  · rename_i hm hm'
    have h3 : k % 3 < 3 := Nat.mod_lt _ (by decide)
    rw [show k % 3 = 2 from by
      rcases hk3 : k % 3 with _ | _ | _ | n
      · exact absurd hk3 hm
      · exact absurd hk3 hm'
      · rfl
      · rw [hk3] at h3; exact absurd h3 (by simp)]
    exact congrArg₂ (fun p q : ℕ => (![p, q, 0, 32, 0] : Fin 5 → ℕ)) e0 e1

theorem fits (i : grid0.Coords) (j : ℕ) (hj : j ≤ 0 + more i) : Fits i j := by
  have hi0 : (i 0).val < 2 := (i 0).isLt
  have hi1 : (i 1).val < 16 := (i 1).isLt
  have hm : j ≤ 41 ∧ 14 * (i 0).val + j / 3 < 27 := by
    unfold more at hj; split at hj <;> omega
  unfold Fits
  rw [chOff_val i j (by omega)]
  intro x
  fin_cases x <;> simp <;> omega

/-- The task of the subcore at `i` is `more i + 1` chunks. -/
theorem body_eq (i : grid0.Coords) (z : ImgM) (hz : z.IsWhole) (o : OutM) (ho : o.IsWhole) (a : PixM) (ha : a.IsWhole) (b : PixM) (hb : b.IsWhole)
    (c : CntM) (hc : c.IsWhole) (s₀ s₁ s₂ : DmaSems sig S_) :
    cc0__sc_hist_body (F := F) i z hz o ho a ha b hb c hc s₀ s₁ s₂ = task i z o a ha b hb c hc s₀ s₁ s₂ (more i) (fits i) := by
  obtain ⟨c1, c2, c3, c4⟩ := cond_iff i
  have hgen : ∀ n, (e : more i = n) → task (F := F) i z o a ha b hb c hc s₀ s₁ s₂ (more i) (fits i)
      = task i z o a ha b hb c hc s₀ s₁ s₂ n (e ▸ fits i) := by rintro n rfl; rfl
  by_cases h0 : (i 0).val = 0
  · rw [hgen 41 (if_pos h0)]
    exact body_long i z hz o ho a ha b hb c hc s₀ s₁ s₂ _ (c1.mpr h0) (c2.mpr h0) (c3.mpr h0) (c4.mpr h0)
  · rw [hgen 38 (if_neg h0)]
    exact body_short i z hz o ho a ha b hb c hc s₀ s₁ s₂ _ (h0 ∘ c1.mp) (h0 ∘ c2.mp) (h0 ∘ c3.mp) (h0 ∘ c4.mp)

end Cert.Hist
-- ==== Proof.Setup.lean ====
/-
  The launch as the launch theorem sees it: the SparseCore call's configuration, the kernels under it, and the resource
  algebra of the run — the handshakes' rounds, the TensorCore pipeline's rounds and the counters of the local copies.
-/
module

public import proofs.«01_k».proof.Proof.TileProg
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds Idealize.ShloMosaic.Transfers

variable {F : FTy → Type}

/-- The labels of the program with its one TensorCore pipeline, and the SparseCore call's configuration over them. -/
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds; beside them the rounds of the TensorCore pipeline's staging cells, and the counters of the
    local copies. -/
abbrev UH : Type := URounds (GSem nD τ sig) ℕ
abbrev UP : Type := UR sig nD τ
abbrev UU : Type := UH × (UP × Counters)

/-- The assertions' model. -/
abbrev MM (F : FTy → Type) : Type := MT nD τ sig (HIx 1) (Elt F) ℕ UU ℕ

abbrev EH : Emb UH (MM F) := embL
abbrev EP : Emb UP (MM F) := (Emb.inl : Emb UP (UP × Counters)).trans embR
abbrev EC : UEmb Counters (MM F) := countersEmb

instance : (EP (F := F)).LandsIn (upEmb : UEmb _ (MM F)) := by unfold EP; infer_instance

end Cert.Hist
-- ==== Proof.TileRun.lean ====
/-
  The run of the histogram task, with what every buffer holds.

  The table of counts starts at zero; each trip of a counting loop adds one, by the lanes whose pixel is not counted
  elsewhere, at the indices computed from the sixteen pixels loaded; the task ends with the table copied to its slice of
  main memory. The values are named by the program's own operations (`tripVal`, `countTo`, `histAfter`), at any float
  values.
-/
module

public import proofs.«01_k».proof.Proof.Setup

@[expose] public section

noncomputable section

namespace Cert.Hist

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The values -/

/-- A chunk of pixels; a table of counts. -/
abbrev Pix (F : FTy → Type) : Type := S3x16x200.Idx → Elt F .i32
abbrev Cnt (F : FTy → Type) : Type := S102400.Idx → Elt F .f32

/-- The sixteen pixels of one colour channel that trip `t` loads. -/
def ld4 (w : Pix F) (t : Fin k0_t2_loop.trips) : Vec F S1x1x16 .i32 := fun x => w ((Rect.unit (s := S3x16x200) (k0_off4 t) S1x1x16.size (k0_off4_inb t)).idx x)
def ld5 (w : Pix F) (t : Fin k0_t2_loop.trips) : Vec F S1x1x16 .i32 := fun x => w ((Rect.unit (s := S3x16x200) (k0_off5 t) S1x1x16.size (k0_off5_inb t)).idx x)
def ld6 (w : Pix F) (t : Fin k0_t2_loop.trips) : Vec F S1x1x16 .i32 := fun x => w ((Rect.unit (s := S3x16x200) (k0_off6 t) S1x1x16.size (k0_off6_inb t)).idx x)

/-- Trip `t`'s indices into the table. -/
def idxs (w : Pix F) (t : Fin k0_t2_loop.trips) : IVec S16 32 := k0_pay10 (F := F) k0_pay7 t (ld4 w t) (ld5 w t) (ld6 w t)

/-- All indices a chunk computes are in range. -/
def Good (w : Pix F) : Prop := ∀ t, k0_chk1 (idxs w t)

/-- The table after trip `t`. -/
def tripVal (w : Pix F) (hw : Good w) (t : Fin k0_t2_loop.trips) (h : Cnt F) : Cnt F :=
  storeIdx (F := F) (e := .f32) h ![idxs w t] k0_pay8 (k0_pay11 lanes t) true (k0_idx1_inb _ (hw t))

/-- The table after the first `n` trips over a chunk. -/
def countTo (w : Pix F) (hw : Good w) (h : Cnt F) : ℕ → Cnt F
  | 0 => h
  | n + 1 => if hn : n < k0_t2_loop.trips then tripVal w hw ⟨n, hn⟩ (countTo w hw h n) else countTo w hw h n

/-- The table after a whole chunk. -/
def count (w : Pix F) (hw : Good w) (h : Cnt F) : Cnt F := countTo w hw h k0_t2_loop.trips

/-- The table of zeros. -/
def zeroCnt : Cnt F := fun _ => Scalar.ofBits .f32 0x00000000#32

/-! ## The pieces of the run -/

section Run

variable (d : Dev nD) (i : grid0.Coords)

/-- The subcore at grid position `i`. -/
abbrev thr : Thread nD τ := V d ((i 0).castLE hcore0) ((i 1).castLE hsub0)

/-- What it means for the subcore to run `p` to `Q`. -/
abbrev Runs {α : Type} (p : TileM F i α) (Q : α → sProp (MM F)) : sProp (MM F) :=
  wp frame (wpE (defs₀ (F := F)) 𝒱₀ (thr d i) none) Set.univ p Q

/-- A buffer of pixels holds the chunk `w`; holds something. -/
def Holds (b : PixM) (w : Pix F) : sProp (MM F) :=
  iprop(∃ f, ⌜b.view.read (Elt F) f = w⌝ ∗ (b.view.loc (thr d i) ↦[b.view.set]{fullShare} f))
def Some' (b : PixM) : sProp (MM F) := iprop(∃ f, (b.view.loc (thr d i) ↦[b.view.set]{fullShare} f))

/-- The table's scratch. -/
abbrev sH : CntM := Memref.whole cc0_scratch2
/-- The table holds `h`. -/
abbrev Table (h : Cnt F) : sProp (MM F) := iprop((thr d i).loc cc0_scratch2 ↦{fullShare} h)

omit [FloatOps F] in
theorem access_set : (sH.access (.whole S102400)).set = Finset.univ := Memref.set_access_whole cc0_scratch2
theorem access_read (h : Cnt F) : (sH.access (.whole S102400)).read (Elt F) h = h := Memref.read_access_whole _ cc0_scratch2 h
theorem access_write (h w : Cnt F) : (sH.access (.whole S102400)).write (Elt F) h w Finset.univ = w :=
  Memref.write_access_whole_univ _ cc0_scratch2 h w

theorem trip_runs (b : PixM) (w : Pix F) (hw : Good w) (h : Cnt F) (t : Fin k0_t2_loop.trips) (acc : Unit) :
    iprop(Holds d i b w ∗ Table d i h) ⊢ Runs d i (trip i b sH t acc) fun _ => iprop(Holds d i b w ∗ Table d i (tripVal w hw t h)) := by
  unfold trip Holds
  simp only [Prog.bind_lift]
  iintro ⟨⟨%f, %hf, Hb⟩, Ht⟩
  iapply (wp_load 𝒱₀ (thr d i) none Set.univ (View.setOn_subset_set _ _)) $$ Hb
  iintro Hb
  iapply (wp_load 𝒱₀ (thr d i) none Set.univ (View.setOn_subset_set _ _)) $$ Hb
  iintro Hb
  iapply (wp_load 𝒱₀ (thr d i) none Set.univ (View.setOn_subset_set _ _)) $$ Hb
  iintro Hb
  subst hf
  rw [wp_assume_of _ _ _ _ ?hc]
  case hc => exact hw t
  ihave Ht' := (Entails.of_eq (show (iprop((thr d i).loc cc0_scratch2 ↦{fullShare} h) : sProp (MM F))
    = iprop((sH.access (.whole S102400)).loc (thr d i) ↦[(sH.access (.whole S102400)).set]{fullShare} h) by
      rw [access_set])) $$ Ht
  iapply (SparseCore.wp_vectorStoreIdx 𝒱₀ (thr d i) none Set.univ (base := sH)) $$ Ht'
  iintro Ht
  rw [Prog.pure_eq_ret, wp_ret]
  imodintro
  isplitl [Hb]
  · iexists f; iframe Hb; ipureintro; rfl
  · iapply (Entails.of_eq (show (iprop((sH.access (.whole S102400)).loc (thr d i) ↦[(sH.access (.whole S102400)).set]{fullShare}
        ((sH.access (.whole S102400)).write (Elt F) h (storeIdx ((sH.access (.whole S102400)).read (Elt F) h) ![idxs (b.view.read (Elt F) f) t] k0_pay8 (k0_pay11 lanes t) true (k0_idx1_inb _ (hw t))) Finset.univ)) : sProp (MM F))
      = iprop((thr d i).loc cc0_scratch2 ↦{fullShare} (tripVal (b.view.read (Elt F) f) hw t h)) by
        rw [access_set, access_write, access_read]; rfl))
    iexact Ht

theorem chunk_runs (b : PixM) (w : Pix F) (hw : Good w) (h : Cnt F) :
    iprop(Holds d i b w ∗ Table d i h) ⊢ Runs d i (chunk i b sH) fun _ => iprop(Holds d i b w ∗ Table d i (count w hw h)) := by
  have hb : ∀ (k : Fin k0_t2_loop.trips) (acc : Unit), iprop(Holds d i b w ∗ Table d i (countTo w hw h k.val))
      ⊢ Runs d i (trip i b sH k acc) fun _ => iprop(Holds d i b w ∗ Table d i (countTo w hw h (k.val + 1))) := fun k acc => by
    refine (trip_runs d i b w hw _ k acc).trans (wp_mono frame _ _ fun _ => Entails.of_eq ?_)
    have hk : k.val < k0_t2_loop.trips := k.isLt
    simp only [countTo, dif_pos hk]
  unfold chunk
  refine BIBase.Entails.trans ?_ (Scf.wp_for frame (wpE (defs₀ (F := F)) 𝒱₀ (thr d i) none) Set.univ _ _ _ k0_t2_ok ⟨⟩ (trip i b sH)
    (fun k _ => iprop(Holds d i b w ∗ Table d i (countTo w hw h k))) hb)
  iintro H
  isplitl [H]
  · iexact H
  · iintro %acc H; iexact H

/-! ### Clearing the table -/

/-- The table is zero below `n`. -/
def Cleared (n : ℕ) : sProp (MM F) := iprop(∃ f : Cnt F, ⌜∀ p : S102400.Idx, (p 0).val < n → f p = zeroCnt (F := F) p⌝ ∗ Table d i f)

theorem zero_value (t : Fin k0_t1_loop.trips) (r : Fin 8) (f : Cnt F)
    (hf : ∀ p : S102400.Idx, (p 0).val < 128 * t.val + 16 * r.val → f p = zeroCnt (F := F) p) (p : S102400.Idx)
    (hp : (p 0).val < 128 * t.val + 16 * (r.val + 1)) :
    (sH.access (Rect.unit (s := S102400) (k0_off1 t (BitVec.ofNat 32 (16 * r.val))) S16.size (k0_off1_inb t r))).write (Elt F) f (k0_pay9 (F := F)) Finset.univ p
      = zeroCnt (F := F) p := by
  by_cases hm : p ∈ (sH.access (Rect.unit (s := S102400) (k0_off1 t (BitVec.ofNat 32 (16 * r.val))) S16.size (k0_off1_inb t r))).set
  · obtain ⟨x, -, rfl⟩ := Finset.mem_map.mp hm
    rw [View.write_emb_of_mem _ _ (Finset.mem_univ _)]
    rfl
  · rw [View.write_of_not_mem _ _ _ (fun h => hm (View.setOn_subset_set _ _ h))]
    refine hf p ?_
    by_contra hlt
    refine hm ?_
    rw [View.set_slice_whole (κ := .scVector) cc0_scratch2]
    refine Rect.mem_set_unit.mpr fun a => ?_
    obtain rfl : a = (0 : Fin 1) := Subsingleton.elim (α := Fin 1) a 0
    rw [k0_off1_eq]
    show 128 * t.val + 16 * r.val ≤ (p 0).val ∧ (p 0).val < 128 * t.val + 16 * r.val + 16
    omega

theorem zero_runs (t : Fin k0_t1_loop.trips) (r : Fin 8) {n n' : ℕ} (hn : n = 128 * t.val + 16 * r.val) (hn' : n' = 128 * t.val + 16 * (r.val + 1)) :
    Cleared (F := F) d i n ⊢ Runs d i (zero i sH t r) fun _ => Cleared d i n' := by
  subst hn hn'
  unfold zero Cleared
  simp only [Prog.bind_lift]
  iintro ⟨%f, %hf, Ht⟩
  iapply (wp_load 𝒱₀ (thr d i) none Set.univ (m := sH) (S := Finset.univ) (Finset.subset_univ _)) $$ Ht
  iintro Ht
  rw [show ∀ e : TpuEff nD τ sig (Elt F) Λ₀ (thr d i).2 PUnit, Prog.lift e = .op e fun x => .ret x from fun _ => rfl]
  ihave Ht' := (Entails.of_eq (show (iprop(sH.view.loc (thr d i) ↦{fullShare} f) : sProp (MM F))
    = iprop((sH.access (Rect.unit (s := S102400) (k0_off1 t (BitVec.ofNat 32 (16 * r.val))) S16.size (k0_off1_inb t r))).loc (thr d i) ↦{fullShare} f) from rfl)) $$ Ht
  iapply (wp_store 𝒱₀ (thr d i) none Set.univ (m := sH) (S := Finset.univ) (Finset.subset_univ _)) $$ Ht'
  iintro Ht
  rw [wp_ret]
  imodintro
  iexists _
  isplitr [Ht]
  rotate_left
  · iexact Ht
  · ipureintro; exact zero_value t r f hf

theorem zeros_runs (f : Cnt F) : Table d i f ⊢ Runs d i (zeros i sH) fun _ => Table d i (zeroCnt (F := F)) := by
  have hb : ∀ (k : Fin k0_t1_loop.trips) (acc : Unit), Cleared (F := F) d i (128 * k.val)
      ⊢ Runs d i (zeroTrip i sH k acc) fun _ => Cleared d i (128 * (k.val + 1)) := fun k acc => by
    unfold zeroTrip
    simp only [wp_bind]
    refine (zero_runs d i k 0 (by rfl) rfl).trans (wp_mono frame _ _ fun _ => ?_)
    refine (zero_runs d i k 1 (by rfl) rfl).trans (wp_mono frame _ _ fun _ => ?_)
    refine (zero_runs d i k 2 (by rfl) rfl).trans (wp_mono frame _ _ fun _ => ?_)
    refine (zero_runs d i k 3 (by rfl) rfl).trans (wp_mono frame _ _ fun _ => ?_)
    refine (zero_runs d i k 4 (by rfl) rfl).trans (wp_mono frame _ _ fun _ => ?_)
    refine (zero_runs d i k 5 (by rfl) rfl).trans (wp_mono frame _ _ fun _ => ?_)
    refine (zero_runs d i k 6 (by rfl) rfl).trans (wp_mono frame _ _ fun _ => ?_)
    refine (zero_runs d i k 7 (by rfl) (show 128 * (k.val + 1) = _ from rfl)).trans (wp_mono frame _ _ fun _ => ?_)
    rw [Prog.pure_eq_ret, wp_ret]
    iintro H; imodintro; iexact H
  unfold zeros
  refine BIBase.Entails.trans ?_ (Scf.wp_for frame (wpE (defs₀ (F := F)) 𝒱₀ (thr d i) none) Set.univ _ _ _ k0_t1_ok ⟨⟩ (zeroTrip i sH)
    (fun k _ => Cleared d i (128 * k)) hb)
  iintro H
  isplitl [H]
  · unfold Cleared
    iexists f
    iframe H
    ipureintro
    intro p hp; exact absurd hp (by omega)
  · iintro %acc H
    unfold Cleared
    icases H with ⟨%g, %hg, H⟩
    have e : g = zeroCnt (F := F) := funext fun p => hg p (lt_of_lt_of_eq (p 0).isLt (by decide))
    rw [e]
    iexact H

/-! ### A chunk's copy -/

/-- The transposed frames in main memory, whole. -/
abbrev zW : ImgM := Memref.whole main_v0_scv
/-- A share of them, holding `zf`. -/
abbrev Img (q : PosShare TreeShare) (zf : S16x27x3x48x200.Idx → Elt F .i32) : sProp (MM F) := iprop((thr d i).loc main_v0_scv ↦{q} zf)

open Classical in
/-- Chunk `k`, out of the transposed frames. -/
def chunkOf (i : grid0.Coords) (zf : S16x27x3x48x200.Idx → Elt F .i32) (k : ℕ) : Pix F :=
  if h : Fits i k then (chSrc zW i k h).view.read (Elt F) zf else fun _ => (0#32 : BitVec 32)

/-- What the copy of chunk `k` into `b` under way means for the task. -/
def Coming (q : PosShare TreeShare) (zf : S16x27x3x48x200.Idx → Elt F .i32) (k : ℕ) (b : PixM) (s : DmaSems sig S_) : sProp (MM F) :=
  Flight EC (thr d i) (.dma s.sem) none b.view.dmaCredit iprop(Holds d i b (chunkOf i zf k) ∗ Img d i q zf)

theorem start_runs (q : PosShare TreeShare) (zf : S16x27x3x48x200.Idx → Elt F .i32) (k : ℕ) (h : Fits i k) (b : PixM) (hb : b.IsWhole) (s : DmaSems sig S_) :
    iprop(Img d i q zf ∗ Some' (F := F) d i b ∗ semVal (thr d i, .dma s.sem) 0) ⊢ Runs d i (start i zW k h b hb s) fun _ => Coming d i q zf k b s := by
  unfold start Some' Coming
  rw [show ∀ e : TpuEff nD τ sig (Elt F) Λ₀ (thr d i).2 PUnit, Prog.lift e = .op e fun x => .ret x from fun _ => rfl]
  iintro ⟨Hz, ⟨%f, Hb⟩, Hs⟩
  iapply (wp_dmaFromWhole (src := chSrc zW i k h) (dst := b) EC 𝒱₀ (thr d i) none none b.view.dmaCredit rfl (View.dmaCredit_pos _ (by decide)) (Finset.Subset.refl _)) $$ [Hz Hb Hs]
  · isplitl [Hz]
    · iexact Hz
    · iframe Hb Hs
  iintro Hf
  rw [wp_ret]
  imodintro
  iapply (Flight_mono EC (thr d i) ?_) $$ Hf
  unfold Holds
  iintro ⟨Hb, Hz⟩
  isplitl [Hb]
  · iexists _
    isplitr [Hb]
    rotate_left
    · iexact Hb
    · ipureintro
      rw [View.read_write_univ, chunkOf, dif_pos h]
  · iexact Hz

theorem await_runs (q : PosShare TreeShare) (zf : S16x27x3x48x200.Idx → Elt F .i32) (k : ℕ) (h : Fits i k) (b : PixM) (hb : b.IsWhole) (s : DmaSems sig S_)
    (O : CellTallies nD τ sig (HIx 1)) (W : Waits sig (HIx 1)) :
    iprop(MayWaits (thr d i) none O ∗ Coming d i q zf k b s ∗ owes (thr d i) O W) ⊢ Runs d i (await i zW k h b hb s) fun _ =>
      iprop(Holds d i b (chunkOf i zf k) ∗ Img d i q zf ∗ semVal (thr d i, .dma s.sem) 0 ∗ owes (thr d i) O (insert (SemLoc.dma s.sem, none) W)) := by
  unfold await Coming
  rw [show ∀ e : TpuEff nD τ sig (Elt F) Λ₀ (thr d i).2 PUnit, Prog.lift e = .op e fun x => .ret x from fun _ => rfl]
  iintro ⟨Hm, Hf, Ho⟩
  iapply (wp_waitLocalO EC 𝒱₀ (thr d i) none none rfl) $$ [Hm Hf Ho]
  · iframe Hf Ho
    iapply (MayWaits.elim _) $$ Hm
  iintro ⟨⟨Hb, Hz⟩, Hs, Ho⟩
  rw [wp_ret]
  imodintro
  iframe Hb Hz Hs Ho

/-! ### The whole task -/

/-- One program after another. -/
theorem seq_runs {α β : Type} {p : TileM F i α} {k : α → TileM F i β} {P : sProp (MM F)} {Q : α → sProp (MM F)} {R : β → sProp (MM F)}
    (h : P ⊢ Runs d i p Q) : P ⊢ iprop((∀ a, Q a -∗ Runs d i (k a) R) -∗ Runs d i (p >>= k) R) := by
  rw [show Runs d i (p >>= k) R = Runs d i p fun a => Runs d i (k a) R from wp_bind ..]
  exact h.trans (wp_wand frame _ _)

omit [FloatOps F] in
theorem alt_next {α : Type} (a b : α) (k : ℕ) : alt a b (k + 2) = alt a b k := by
  unfold alt; rw [Nat.add_mod_right]

/-- Two things told apart by parity are the same two things. -/
theorem alt_sep {α : Type} (P : α → sProp (MM F)) (a b : α) (k : ℕ) : iprop(P (alt a b k) ∗ P (alt a b (k + 1))) ⊢ iprop(P a ∗ P b) := by
  rcases Nat.mod_two_eq_zero_or_one k with h | h
  · have h' : (k + 1) % 2 = 1 := by omega
    simp only [alt, h, h']
    exact .rfl
  · have h' : (k + 1) % 2 = 0 := by omega
    simp only [alt, h, h']
    exact sep_comm

/-- The table after `k` chunks. -/
def counts (zf : S16x27x3x48x200.Idx → Elt F .i32) (hg : ∀ k, Good (chunkOf i zf k)) : ℕ → Cnt F
  | 0 => zeroCnt
  | k + 1 => count (chunkOf i zf k) (hg k) (counts zf hg k)

/-- What the task still owes, having waited on its own semaphores only. -/
def Owes (O : CellTallies nD τ sig (HIx 1)) (W : Waits sig (HIx 1)) : sProp (MM F) :=
  iprop(∃ W', ⌜∀ p ∈ W', p ∈ W ∨ p.2 = none⌝ ∗ owes (thr d i) O W')

/-- Between two chunks: chunk `k` is here, the table holds the chunks before it. -/
def Here (q : PosShare TreeShare) (zf : S16x27x3x48x200.Idx → Elt F .i32) (hg : ∀ k, Good (chunkOf i zf k)) (a b : PixM) (s₀ s₁ : DmaSems sig S_)
    (O : CellTallies nD τ sig (HIx 1)) (W : Waits sig (HIx 1)) (k : ℕ) : sProp (MM F) :=
  iprop(Holds d i (alt a b k) (chunkOf i zf k) ∗ Some' (F := F) d i (alt a b (k + 1)) ∗ Table d i (counts i zf hg k) ∗ Img d i q zf
    ∗ semVal (thr d i, .dma (alt s₀ s₁ k).sem) 0 ∗ semVal (thr d i, .dma (alt s₀ s₁ (k + 1)).sem) 0 ∗ Owes d i O W)

theorem walk_runs (q : PosShare TreeShare) (zf : S16x27x3x48x200.Idx → Elt F .i32) (hg : ∀ k, Good (chunkOf i zf k))
    (a : PixM) (ha : a.IsWhole) (b : PixM) (hb : b.IsWhole) (s₀ s₁ : DmaSems sig S_)
    (O : CellTallies nD τ sig (HIx 1)) (W : Waits sig (HIx 1)) (rest : TileM F i PUnit) (Q : PUnit → sProp (MM F)) :
    ∀ (n k : ℕ) (h : ∀ j, j ≤ k + n → Fits i j),
    iprop(MayWaits (thr d i) none O ∗ Here d i q zf hg a b s₀ s₁ O W k ∗ (Here d i q zf hg a b s₀ s₁ O W (k + n) -∗ Runs d i rest Q))
      ⊢ Runs d i (walk i zW a ha b hb sH s₀ s₁ rest n k h) Q
  | 0, k, h => by
      iintro ⟨_, H, Hk⟩
      iapply Hk $$ H
  | n + 1, k, h => by
      unfold walk
      iintro ⟨#Hm, H, Hk⟩
      unfold Here
      icases H with ⟨Hb, Hn, Ht, Hz, Hs0, Hs1, Ho⟩
      iapply (seq_runs d i (start_runs d i q zf (k + 1) _ _ _ _)) $$ [Hz Hn Hs1]
      · iframe Hz Hn Hs1
      iintro %_ Hc
      iapply (seq_runs d i (chunk_runs d i (alt a b k) (chunkOf i zf k) (hg k) (counts i zf hg k))) $$ [Hb Ht]
      · iframe Hb Ht
      iintro %_ ⟨Hb, Ht⟩
      unfold Owes
      icases Ho with ⟨%W', %hW', Ho⟩
      iapply (seq_runs d i (await_runs d i q zf (k + 1) _ _ _ _ O W')) $$ [Hc Ho]
      · iframe Hm Hc Ho
      iintro %_ ⟨Hn, Hz, Hs1, Ho⟩
      iapply (walk_runs q zf hg a ha b hb s₀ s₁ O W rest Q n (k + 1) _)
      iframe Hm
      isplitr [Hk]
      · unfold Here Owes
        rw [show k + 1 + 1 = k + 2 from rfl, alt_next, alt_next]
        iframe Hn Hz Hs0 Hs1
        isplitl [Hb]
        · unfold Holds Some'
          icases Hb with ⟨%f, -, Hb⟩
          iexists f; iexact Hb
        isplitl [Ht]
        · iexact Ht
        iexists _
        isplitr [Ho]
        rotate_left
        · iexact Ho
        · ipureintro
          intro p hp
          rcases Finset.mem_insert.mp hp with rfl | hp
          · exact .inr rfl
          · exact hW' p hp
      · rw [show k + 1 + n = k + (n + 1) by omega]
        iexact Hk

/-- The counts in main memory; the task's slice of them, holding `h`. -/
abbrev oW : OutM := Memref.whole main_v1_scv
def OutHolds (h : Cnt F) : sProp (MM F) :=
  iprop(∃ g, ⌜(outDst oW i).view.read (Elt F) g = h⌝ ∗ ((outDst oW i).view.loc (thr d i) ↦[(outDst oW i).view.set]{fullShare} g))

theorem writeOut_runs (h : Cnt F) (hc : sH.IsWhole) (s : DmaSems sig S_) (O : CellTallies nD τ sig (HIx 1)) (W : Waits sig (HIx 1)) :
    iprop(MayWaits (thr d i) none O ∗ Table d i h ∗ (∃ g, ((outDst oW i).view.loc (thr d i) ↦[(outDst oW i).view.set]{fullShare} g))
        ∗ semVal (thr d i, .dma s.sem) 0 ∗ Owes (F := F) d i O W)
      ⊢ Runs d i (writeOut i oW sH hc s) fun _ => iprop(OutHolds d i h ∗ Table d i h ∗ semVal (thr d i, .dma s.sem) 0 ∗ Owes d i O W) := by
  unfold writeOut Owes OutHolds
  simp only [Prog.bind_lift]
  iintro ⟨Hm, Ht, ⟨%g, Hg⟩, Hs, ⟨%W', %hW', Ho⟩⟩
  iapply (wp_dmaFromWhole (src := sH) (dst := outDst oW i) EC 𝒱₀ (thr d i) none none (outDst oW i).view.dmaCredit rfl (View.dmaCredit_pos _ (by decide)) (Finset.Subset.refl _)) $$ [Ht Hg Hs]
  · isplitl [Ht]
    · iexact Ht
    · iframe Hg Hs
  iintro Hf
  iapply (wp_waitLocalO EC 𝒱₀ (thr d i) none none rfl) $$ [Hm Hf Ho]
  · iframe Hf Ho
    iapply (MayWaits.elim _) $$ Hm
  iintro ⟨⟨Hg, Ht⟩, Hs, Ho⟩
  rw [Prog.pure_eq_ret, wp_ret]
  imodintro
  isplitl [Hg]
  · iexists _
    isplitr [Hg]
    rotate_left
    · iexact Hg
    · ipureintro
      rw [View.read_write_univ]
      exact View.read_whole ..
  iframe Hs
  isplitl [Ht]
  · iexact Ht
  iexists _
  isplitr [Ho]
  rotate_left
  · iexact Ho
  · ipureintro
    intro p hp
    rcases Finset.mem_insert.mp hp with rfl | hp
    · exact .inr rfl
    · exact hW' p hp

/-- The task of the subcore at `i`: from the transposed frames, scratches holding anything and the semaphores at zero, to its slice of
    the counts holding the counts of its `more i + 1` chunks. -/
theorem task_runs (q : PosShare TreeShare) (zf : S16x27x3x48x200.Idx → Elt F .i32) (hg : ∀ k, Good (chunkOf i zf k))
    (a : PixM) (ha : a.IsWhole) (b : PixM) (hb : b.IsWhole) (hc : sH.IsWhole) (s₀ s₁ s₂ : DmaSems sig S_) (n : ℕ) (h : ∀ j, j ≤ 0 + n → Fits i j)
    (O : CellTallies nD τ sig (HIx 1)) (W : Waits sig (HIx 1)) :
    iprop(MayWaits (thr d i) none O ∗ Some' (F := F) d i a ∗ Some' (F := F) d i b ∗ (∃ f : Cnt F, Table d i f) ∗ Img d i q zf
        ∗ (∃ g, ((outDst oW i).view.loc (thr d i) ↦[(outDst oW i).view.set]{fullShare} g))
        ∗ semVal (thr d i, .dma s₀.sem) 0 ∗ semVal (thr d i, .dma s₁.sem) 0 ∗ semVal (thr d i, .dma s₂.sem) 0 ∗ owes (thr d i) O W)
      ⊢ Runs d i (task i zW oW a ha b hb sH hc s₀ s₁ s₂ n h) fun _ =>
        iprop(OutHolds d i (counts i zf hg (n + 1)) ∗ Img d i q zf ∗ Some' (F := F) d i a ∗ Some' (F := F) d i b ∗ (∃ f : Cnt F, Table d i f)
          ∗ semVal (thr d i, .dma s₀.sem) 0 ∗ semVal (thr d i, .dma s₁.sem) 0 ∗ semVal (thr d i, .dma s₂.sem) 0 ∗ Owes d i O W) := by
  unfold task
  iintro ⟨#Hm, Ha, Hb, ⟨%f, Ht⟩, Hz, Hg, Hs0, Hs1, Hs2, Ho⟩
  iapply (seq_runs d i (zeros_runs d i f)) $$ Ht
  iintro %_ Ht
  iapply (seq_runs d i (start_runs d i q zf 0 _ _ _ _)) $$ [Hz Ha Hs0]
  · rw [show alt a b 0 = a from rfl, show alt s₀ s₁ 0 = s₀ from rfl]
    iframe Hz Ha Hs0
  iintro %_ Hc
  iapply (seq_runs d i (await_runs d i q zf 0 _ _ _ _ O W)) $$ [Hc Ho]
  · iframe Hm Hc Ho
  iintro %_ ⟨Ha, Hz, Hs0, Ho⟩
  iapply (walk_runs d i q zf hg a ha b hb s₀ s₁ O W _ _ n 0 h)
  iframe Hm
  isplitr [Hg Hs2]
  · unfold Here Owes
    iframe Ha Hz Hs0
    isplitl [Hb]
    · iexact Hb
    isplitl [Ht]
    · iexact Ht
    isplitl [Hs1]
    · iexact Hs1
    iexists _
    isplitr [Ho]
    rotate_left
    · iexact Ho
    · ipureintro
      intro p hp
      rcases Finset.mem_insert.mp hp with rfl | hp
      · exact .inr rfl
      · exact .inl hp
  rw [Nat.zero_add]
  unfold Here
  iintro ⟨Ha, Hb, Ht, Hz, Hs0, Hs1, Ho⟩
  iapply (seq_runs d i (chunk_runs d i (alt a b n) (chunkOf i zf n) (hg n) (counts i zf hg n))) $$ [Ha Ht]
  · iframe Ha Ht
  iintro %_ ⟨Ha, Ht⟩
  ihave Ha := (show Holds d i (alt a b n) (chunkOf i zf n) ⊢ Some' (F := F) d i (alt a b n) from by
    unfold Holds Some'
    iintro ⟨%f, -, H⟩
    iexists f; iexact H) $$ Ha
  ihave Hab := (show iprop(Some' (F := F) d i (alt a b n) ∗ Some' (F := F) d i (alt a b (n + 1))) ⊢ iprop(Some' (F := F) d i a ∗ Some' (F := F) d i b) from
    alt_sep (Some' (F := F) d i) a b n) $$ [Ha Hb]
  · iframe Ha Hb
  ihave Hss := (show iprop(semVal (thr d i, .dma (alt s₀ s₁ n).sem) 0 ∗ semVal (thr d i, .dma (alt s₀ s₁ (n + 1)).sem) 0)
      ⊢ (iprop(semVal (thr d i, .dma s₀.sem) 0 ∗ semVal (thr d i, .dma s₁.sem) 0) : sProp (MM F)) from
    alt_sep (fun s : DmaSems sig S_ => semVal (thr d i, .dma s.sem) 0) s₀ s₁ n) $$ [Hs0 Hs1]
  · iframe Hs0 Hs1
  icases Hab with ⟨Ha, Hb⟩
  icases Hss with ⟨Hs0, Hs1⟩
  iapply (wp_wand frame (wpE (defs₀ (F := F)) 𝒱₀ (thr d i) none) Set.univ) $$ [Ht Hg Hs2 Ho]
  · iapply (writeOut_runs d i (count (chunkOf i zf n) (hg n) (counts i zf hg n)) hc s₂ O W)
    iframe Hm Ht Hg Hs2 Ho
  iintro %_ ⟨Hg, Ht, Hs2, Ho⟩
  iframe Ha Hb Hz Hs0 Hs1 Hs2 Ho
  isplitl [Hg]
  · iexact Hg
  · iexists _; iexact Ht

end Run

end Cert.Hist
-- ==== Proof.Bins.lean ====
/-
  The index arithmetic of a counting trip: sixteen pixels with colours below 256 go to table entries
  `(t + lane) * 512 + bin`, where `bin` takes the top three bits of each colour.
-/
module

public import proofs.«01_k».proof.Proof.TileRun
public import Idealize.ShloMosaic.Lib.Pipeline.Value

@[expose] public section

noncomputable section

namespace Cert.Hist

open Cert.KernelIdeal Cert.KernelIdeal.Gen
open Idealize.ShloMosaic

variable {F : FTy → Type} [FloatOps F]

/-- The bin of a pixel: its colours' top three bits. -/
def binOf (r g b : ℕ) : ℕ := r / 32 * 64 + g / 32 * 8 + b / 32

theorem binOf_lt (r g b : ℕ) (hr : r < 256) (hg : g < 256) (hb : b < 256) : binOf r g b < 512 := by
  unfold binOf; omega

/-- A trip's row of pixels within its chunk, its first column, and the first column it counts. -/
def rowOf (t : ℕ) : ℕ := t / 16
def colOf (t : ℕ) : ℕ := min (16 * (t % 16)) 184

theorem trips_eq : k0_t2_loop.trips = 256 := by decide

theorem off4_val (t : Fin k0_t2_loop.trips) : k0_off4 t = ![0, rowOf t.val, colOf t.val] := by
  have h : ∀ (t : Fin k0_t2_loop.trips) a, k0_off4 t a = (![0, rowOf t.val, colOf t.val] : Fin 3 → ℕ) a := by decide +kernel
  exact funext (h t)
theorem off5_val (t : Fin k0_t2_loop.trips) : k0_off5 t = ![1, rowOf t.val, colOf t.val] := by
  have h : ∀ (t : Fin k0_t2_loop.trips) a, k0_off5 t a = (![1, rowOf t.val, colOf t.val] : Fin 3 → ℕ) a := by decide +kernel
  exact funext (h t)
theorem off6_val (t : Fin k0_t2_loop.trips) : k0_off6 t = ![2, rowOf t.val, colOf t.val] := by
  have h : ∀ (t : Fin k0_t2_loop.trips) a, k0_off6 t a = (![2, rowOf t.val, colOf t.val] : Fin 3 → ℕ) a := by decide +kernel
  exact funext (h t)

/-- The first column as the trip computes it. -/
def colBV (t : Fin k0_t2_loop.trips) : BitVec 32 :=
  Scalar.minsi (Scalar.shli (Scalar.andi (Scf.iv 0#32 1#32 t) 15#32) 4#32) 184#32
def askBV (t : Fin k0_t2_loop.trips) : BitVec 32 := Scalar.shli (Scalar.andi (Scf.iv 0#32 1#32 t) 15#32) 4#32

theorem colBV_val : ∀ t : Fin k0_t2_loop.trips, colBV t = BitVec.ofNat 32 (colOf t.val) := by decide +kernel
theorem askBV_val : ∀ t : Fin k0_t2_loop.trips, askBV t = BitVec.ofNat 32 (16 * (t.val % 16)) := by decide +kernel

/-- The bin as the trip computes it, on one pixel. -/
def binBV (r g b : BitVec 32) : BitVec 32 :=
  ((r &&& 224#32) <<< 1) ||| (BitVec.sshiftRight (g &&& 224#32) 2) ||| (BitVec.sshiftRight b 5)

theorem red_val : ∀ r : Fin 256, (BitVec.ofNat 32 r.val &&& 224#32) <<< 1 = BitVec.ofNat 32 (r.val / 32 * 64) := by decide +kernel
theorem green_val : ∀ r : Fin 256, BitVec.sshiftRight (BitVec.ofNat 32 r.val &&& 224#32) 2 = BitVec.ofNat 32 (r.val / 32 * 8) := by decide +kernel
theorem blue_val : ∀ r : Fin 256, BitVec.sshiftRight (BitVec.ofNat 32 r.val) 5 = BitVec.ofNat 32 (r.val / 32) := by decide +kernel
theorem join_val : ∀ r g b : Fin 8, (BitVec.ofNat 32 (r.val * 64) ||| BitVec.ofNat 32 (g.val * 8)) ||| BitVec.ofNat 32 b.val
    = BitVec.ofNat 32 (r.val * 64 + g.val * 8 + b.val) := by decide +kernel

theorem binBV_val (r g b : BitVec 32) (hr : r.toNat < 256) (hg : g.toNat < 256) (hb : b.toNat < 256) :
    binBV r g b = BitVec.ofNat 32 (binOf r.toNat g.toNat b.toNat) := by
  have e1 := red_val ⟨r.toNat, hr⟩
  have e2 := green_val ⟨g.toNat, hg⟩
  have e3 := blue_val ⟨b.toNat, hb⟩
  simp only [BitVec.ofNat_toNat, BitVec.setWidth_eq] at e1 e2 e3
  unfold binBV binOf
  rw [e1, e2, e3]
  exact join_val ⟨r.toNat / 32, by omega⟩ ⟨g.toNat / 32, by omega⟩ ⟨b.toNat / 32, by omega⟩

/-- The pixel that lane `x` of trip `t` loads, in channel `c`. -/
def pixAt (w : Pix F) (t : Fin k0_t2_loop.trips) (c : Fin 3) (x : Fin 16) : BitVec 32 :=
  w (fun a => match a with
    | 0 => c
    | 1 => ⟨rowOf t.val, by have h : t.val < 256 := lt_of_lt_of_eq t.isLt trips_eq; show t.val / 16 < 16; omega⟩
    | 2 => ⟨colOf t.val + x.val, by have := x.isLt; show min _ _ + x.val < 200; omega⟩)

/-- A lane of a loaded row. -/
abbrev laneAt (x : S16.Idx) : S1x1x16.Idx := fun a => match a with | 0 => (0 : Fin 1) | 1 => (0 : Fin 1) | 2 => (x 0 : Fin 16)

theorem cast_lane (v : Vec F S1x1x16 .i32) (x : S16.Idx) : (shapeCast S16 v shapeCasts_S1x1x16_S16 : Vec F S16 .i32) x = v (laneAt x) := by
  unfold shapeCast
  congr 1
  apply Shape.reshapeEquiv_eq_of_rowMajor
  rw [Shape.rowMajor_val_three, Shape.rowMajor_val_one]
  simp [laneAt]

theorem load_lane (w : Pix F) (t : Fin k0_t2_loop.trips) (off : Fin 3 → ℕ) (h) (c : Fin 3) (e : off = ![c.val, rowOf t.val, colOf t.val])
    (x : S16.Idx) : w ((Rect.unit (s := S3x16x200) off S1x1x16.size h).idx (laneAt x)) = pixAt w t c (x 0) := by
  unfold pixAt
  congr 1
  funext a
  apply Fin.ext
  subst e
  match a with
  | 0 => show c.val + 1 * 0 = c.val; omega
  | 1 => show rowOf t.val + 1 * 0 = rowOf t.val; omega
  | 2 => show colOf t.val + 1 * (x 0).val = colOf t.val + (x 0).val; omega

/-- The lanes are numbered in order. -/
theorem lanes_apply (x : S16.Idx) : lanes x = BitVec.ofNat 32 (x 0).val := iota_single_apply _ _ _ _ _ x

/-- Shifts by less than the word's width. -/
theorem shl_one (x : BitVec 32) : IntOp.shli .vector x 1#32 = x <<< 1 := if_pos (by decide)
theorem shr_two (x : BitVec 32) : IntOp.shrsi .vector x 2#32 = x.sshiftRight 2 := if_pos (by decide)
theorem shr_five (x : BitVec 32) : IntOp.shrsi .vector x 5#32 = x.sshiftRight 5 := if_pos (by decide)

theorem idxs_bv (w : Pix F) (t : Fin k0_t2_loop.trips) (x : S16.Idx) :
    idxs w t x = (colBV t * 512#32 + (BitVec.ofNat 32 (x 0).val * 512#32)) + binBV (pixAt w t 0 (x 0)) (pixAt w t 1 (x 0)) (pixAt w t 2 (x 0)) := by
  have e4 : shapeCast S16 (ld4 w t) shapeCasts_S1x1x16_S16 x = pixAt w t 0 (x 0) := (cast_lane _ x).trans (load_lane w t _ _ 0 (off4_val t) x)
  have e5 : shapeCast S16 (ld5 w t) shapeCasts_S1x1x16_S16 x = pixAt w t 1 (x 0) := (cast_lane _ x).trans (load_lane w t _ _ 1 (off5_val t) x)
  have e6 : shapeCast S16 (ld6 w t) shapeCasts_S1x1x16_S16 x = pixAt w t 2 (x 0) := (cast_lane _ x).trans (load_lane w t _ _ 2 (off6_val t) x)
  have key : idxs w t x = (colBV t * 512#32 + (lanes x * 512#32))
      + ((IntOp.shli .vector (shapeCast S16 (ld4 w t) shapeCasts_S1x1x16_S16 x &&& 224#32) 1#32
          ||| IntOp.shrsi .vector (shapeCast S16 (ld5 w t) shapeCasts_S1x1x16_S16 x &&& 224#32) 2#32)
        ||| IntOp.shrsi .vector (shapeCast S16 (ld6 w t) shapeCasts_S1x1x16_S16 x) 5#32) := rfl
  rw [key, e4, e5, e6, lanes_apply, shl_one, shr_two, shr_five]
  rfl

/-- All colours of a chunk are below 256. -/
def Low (w : Pix F) : Prop := ∀ p, BitVec.toNat (w p) < 256

/-- The bin of the pixel that lane `x` of trip `t` loads. -/
def laneBin (w : Pix F) (t : Fin k0_t2_loop.trips) (x : Fin 16) : ℕ :=
  binOf (pixAt w t 0 x).toNat (pixAt w t 1 x).toNat (pixAt w t 2 x).toNat

theorem laneBin_lt (w : Pix F) (hw : Low w) (t : Fin k0_t2_loop.trips) (x : Fin 16) : laneBin w t x < 512 :=
  binOf_lt _ _ _ (hw _) (hw _) (hw _)

theorem idxs_val (w : Pix F) (hw : Low w) (t : Fin k0_t2_loop.trips) (x : S16.Idx) :
    (idxs w t x).toNat = (colOf t.val + (x 0).val) * 512 + laneBin w t (x 0) := by
  rw [idxs_bv, colBV_val, binBV_val (pixAt w t 0 (x 0)) (pixAt w t 1 (x 0)) (pixAt w t 2 (x 0)) (hw _) (hw _) (hw _)]
  have hb := laneBin_lt w hw t (x 0)
  have hc : colOf t.val ≤ 184 := Nat.min_le_right _ _
  have hx : (x 0).val < 16 := (x 0).isLt
  change _ = (colOf t.val + (x 0).val) * 512 + binOf _ _ _
  change binOf _ _ _ < 512 at hb
  generalize binOf _ _ _ = n at *
  generalize colOf t.val = c at *
  generalize (x 0).val = y at *
  simp only [BitVec.toNat_add, BitVec.toNat_mul, BitVec.toNat_ofNat]
  omega

/-- The indices of a chunk of low colours are in the table. -/
theorem good_of_low (w : Pix F) (hw : Low w) : Good w := by
  intro t a x
  obtain rfl : a = (0 : Fin 1) := Subsingleton.elim (α := Fin 1) a 0
  change (idxs w t x).toNat < 102400
  rw [idxs_val w hw]
  have hb := laneBin_lt w hw t (x 0)
  have hc : colOf t.val ≤ 184 := Nat.min_le_right _ _
  have hx : (x 0).val < 16 := (x 0).isLt
  omega

/-- The lanes that trip `t` counts: those whose column is not counted by another trip. -/
theorem mask_val (t : Fin k0_t2_loop.trips) (x : S16.Idx) :
    k0_pay11 lanes t x = if 16 * (t.val % 16) ≤ colOf t.val + (x 0).val then 1#1 else 0#1 := by
  have h : ∀ (t : Fin k0_t2_loop.trips) (y : Fin 16), IntOp.cmpi .sge (IntOp.addi (colBV t) (BitVec.ofNat 32 y.val)) (askBV t)
      = if 16 * (t.val % 16) ≤ colOf t.val + y.val then 1#1 else 0#1 := by
    intro t y
    rw [colBV_val, askBV_val]
    have h' : ∀ (s : Fin 16) (y : Fin 16), IntOp.cmpi .sge (IntOp.addi (BitVec.ofNat 32 (min (16 * s.val) 184)) (BitVec.ofNat 32 y.val)) (BitVec.ofNat 32 (16 * s.val))
      = if 16 * s.val ≤ min (16 * s.val) 184 + y.val then 1#1 else 0#1 := by decide +kernel
    exact h' ⟨t.val % 16, Nat.mod_lt _ (by decide)⟩ y
  have e : k0_pay11 lanes t x = IntOp.cmpi .sge (IntOp.addi (colBV t) (lanes x)) (askBV t) := rfl
  rw [e, lanes_apply]
  exact h t (x 0)

end Cert.Hist
-- ==== Proof.Tile.lean ====
/-
  The histogram task as the launch asks for it: what the call hands to each vector subcore and gets back, and the proof
  that the task does it. A subcore gets a share of the transposed frames and its slice of the counts; it brings back the
  share, and the slice holding the counts of its chunks.
-/
module

public import proofs.«01_k».proof.Proof.Bins

@[expose] public section

noncomputable section

namespace Cert.Hist

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The transposed frames. -/
abbrev Frames (F : FTy → Type) : Type := S16x27x3x48x200.Idx → Elt F .i32

/-- Frames whose colours are all below 256. -/
def LowF (zf : Frames F) : Prop := ∀ p, BitVec.toNat (zf p) < 256

theorem low_chunk (zf : Frames F) (hz : LowF zf) (i : grid0.Coords) (k : ℕ) : Low (chunkOf i zf k) := by
  intro p
  unfold chunkOf
  split
  · exact hz _
  · show (0#32 : BitVec 32).toNat < 256; decide

theorem good_chunk (zf : Frames F) (hz : LowF zf) (i : grid0.Coords) (k : ℕ) : Good (chunkOf i zf k) :=
  good_of_low _ (low_chunk zf hz i k)

/-- What the subcore at `i` counts. -/
def tileCnt (zf : Frames F) (hz : LowF zf) (i : grid0.Coords) : Cnt F := counts i zf (good_chunk zf hz i) (more i + 1)

/-- The grid position of subcore `s` of core `c`. -/
def pos (c : Fin (grid0.bound 0)) (s : Fin (grid0.bound 1)) : grid0.Coords :=
  fun | 0 => c | 1 => s | ⟨_ + 2, h⟩ => absurd h (Nat.not_lt.2 (Nat.le_add_left _ _))
abbrev posK (c : Fin ((K (F := F)).nCore 0)) (s : Fin ((K (F := F)).nSub 0)) : grid0.Coords :=
  pos (Fin.cast nCore_zero c) (Fin.cast nSub_zero s)

/-- A core's share of the frames; a subcore's share of that. -/
abbrev coreShare (c : ℕ) : PosShare TreeShare := shareTokN fullShare c
abbrev subShare (c s : ℕ) : PosShare TreeShare := shareTokN (coreShare c) s

/-- The subcore's slice of the counts, holding anything. -/
def OutAny (d : Dev nD) (i : grid0.Coords) : sProp (MM F) :=
  iprop(∃ g, ((outDst oW i).view.loc (thr d i) ↦[(outDst oW i).view.set]{fullShare} g))

/-- The frames in main memory, as the TensorCore names them. -/
abbrev zLoc (d : Dev nD) : Loc nD τ sig := (SparseCore.T d).loc main_v0

/-! ## The task -/

section Tile

variable (d : Dev nD) (i : grid0.Coords)

abbrev semA : GSem nD τ sig := (thr d i, .dma cc0_scratch3.sem)
abbrev semB : GSem nD τ sig := (thr d i, .dma cc0_scratch4.sem)
abbrev semC : GSem nD τ sig := (thr d i, .dma cc0_scratch5.sem)

omit [FloatOps F] in
theorem dma_own (s : DmaSems sig S_) (h : (SemLoc.dma s.sem : SemLoc sig).isScoped .scVector = true) :
    ((thr d i, .dma s.sem) : GSem nD τ sig) ∈ ownCells (thr d i) := mem_ownCells.mpr ⟨rfl, h⟩

/-- The subcore's semaphores: the three of the copies, and the rest. -/
theorem sems_split : (ownSems0 (thr d i) : sProp (MM F)) = iprop(semVal (semA d i) 0 ∗ semVal (semB d i) 0 ∗ semVal (semC d i) 0
    ∗ bigSep ((((ownCells (thr d i)).erase (semA d i)).erase (semB d i)).erase (semC d i)) fun g => semVal g 0) := by
  have hA := dma_own d i cc0_scratch3 (by decide)
  have hB := dma_own d i cc0_scratch4 (by decide)
  have hC := dma_own d i cc0_scratch5 (by decide)
  have hBA : semB d i ≠ semA d i := by simp [semA, semB]; decide
  have hCA : semC d i ≠ semA d i := by simp [semA, semC]; decide
  have hCB : semC d i ≠ semB d i := by simp [semB, semC]; decide
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

abbrev scr (r : Ref sig .scVector) : DevRef τ sig := (Proc.scVector ((i 0).castLE hcore0) ((i 1).castLE hsub0)).devRef r

/-- The subcore's buffers: its three scratches, and the rest. -/
theorem bufs_split : (ownBufs (thr d i) : sProp (MM F)) = iprop((∃ f, (thr d i).loc cc0_scratch0 ↦{fullShare} f) ∗ (∃ f, (thr d i).loc cc0_scratch1 ↦{fullShare} f)
    ∗ (∃ f, (thr d i).loc cc0_scratch2 ↦{fullShare} f)
    ∗ bigSep ((((ownRefs (τ := τ) (.scVector ((i 0).castLE hcore0) ((i 1).castLE hsub0))).erase (scr i cc0_scratch0)).erase (scr i cc0_scratch1)).erase (scr i cc0_scratch2))
      fun b => iprop(∃ f, ((d, b) : Loc nD τ sig) ↦{fullShare} f)) := by
  have own : ∀ r : Ref sig .scVector, (scr i r).owner = .proc (.scVector ((i 0).castLE hcore0) ((i 1).castLE hsub0)) →
      scr i r ∈ ownRefs (τ := τ) (.scVector ((i 0).castLE hcore0) ((i 1).castLE hsub0)) :=
    fun r h => SparseCore.Cfg.mem_ownRefs_of_owner (p := Proc.scVector ((i 0).castLE hcore0) ((i 1).castLE hsub0)) (b := scr i r) h
  have ne : ∀ r r' : Ref sig .scVector, r ≠ r' → scr i r ≠ scr i r' := fun r r' h e => h (Proc.devRef_injective _ e)
  have h1 := ne cc0_scratch1 cc0_scratch0 (by decide)
  have h2 := ne cc0_scratch2 cc0_scratch0 (by decide)
  have h3 := ne cc0_scratch2 cc0_scratch1 (by decide)
  unfold SparseCore.Cfg.ownBufs
  refine (SparseCore.bigSep_erase' (own cc0_scratch0 rfl)).trans ?_
  rw [SparseCore.bigSep_erase' (Finset.mem_erase.mpr ⟨h1, own cc0_scratch1 rfl⟩),
    SparseCore.bigSep_erase' (Finset.mem_erase.mpr ⟨h3, Finset.mem_erase.mpr ⟨h2, own cc0_scratch2 rfl⟩⟩)]

theorem any0 : (Some' (F := F) d i (Memref.whole cc0_scratch0) : sProp (MM F)) = iprop(∃ f, (thr d i).loc cc0_scratch0 ↦{fullShare} f) := by
  unfold Some'; simp only [Memref.view_whole, View.set_whole]
theorem any1 : (Some' (F := F) d i (Memref.whole cc0_scratch1) : sProp (MM F)) = iprop(∃ f, (thr d i).loc cc0_scratch1 ↦{fullShare} f) := by
  unfold Some'; simp only [Memref.view_whole, View.set_whole]

/-- The kernel's function on the subcore at `i` of device `d`. -/
theorem tile_body (hF : (K (F := F)).Facts) (q : PosShare TreeShare) (zf : Frames F) (hz : LowF zf)
    (O : CellTallies nD τ sig (HIx 1)) (W : Waits sig (HIx 1)) (hO : ∀ g, O g none = 0) :
    iprop(levAts (K (F := F)).L (K (F := F)).lev ∗ emp ∗ (Img d i q zf ∗ OutAny d i)
        ∗ scopedBufs (thr d i) ∗ scopedSems0 (thr d i) ∗ owes (thr d i) O W)
      ⊢ Runs d i (cc0__sc_hist_body i zW (Memref.isWhole_whole _) oW (Memref.isWhole_whole _) (Memref.whole cc0_scratch0) (Memref.isWhole_whole _)
            (Memref.whole cc0_scratch1) (Memref.isWhole_whole _) sH (Memref.isWhole_whole _) cc0_scratch3 cc0_scratch4 cc0_scratch5)
          fun _ => iprop((Img d i q zf ∗ OutHolds d i (tileCnt zf hz i)) ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d ((i 0).castLE hcore0) ((i 1).castLE hsub0),
    SparseCore.Cfg.scopedSems0_V (Val := Elt F) d ((i 0).castLE hcore0) ((i 1).castLE hsub0), sems_split, bufs_split, ← any0, ← any1]
  unfold OutAny
  iintro ⟨#Hlv, -, ⟨Hz, Ho⟩, ⟨Ha, Hb, Hc, Hbufs⟩, ⟨HsA, HsB, HsC, Hsems⟩, HO⟩
  ihave Hm := ((K (F := F)).mayWaits_none (thr := thr d i) hO) $$ Hlv
  ihave Hw := (task_runs d i q zf (good_chunk zf hz i) (Memref.whole cc0_scratch0) (Memref.isWhole_whole _) (Memref.whole cc0_scratch1) (Memref.isWhole_whole _)
    (Memref.isWhole_whole _) cc0_scratch3 cc0_scratch4 cc0_scratch5 (more i) (fits i) O W) $$ [Hm Ha Hb Hc Hz Ho HsA HsB HsC HO]
  · isplitl [Hm]; · iexact Hm
    isplitl [Ha]; · iexact Ha
    isplitl [Hb]; · iexact Hb
    isplitl [Hc]; · iexact Hc
    isplitl [Hz]; · iexact Hz
    isplitl [Ho]; · iexact Ho
    isplitl [HsA]; · iexact HsA
    isplitl [HsB]; · iexact HsB
    isplitl [HsC]; · iexact HsC
    iexact HO
  iapply (wp_wand frame (wpE (defs₀ (F := F)) 𝒱₀ (thr d i) none) Set.univ) $$ Hw
  iintro %r ⟨Ho, Hz, Ha, Hb, Hc, HsA, HsB, HsC, HO⟩
  isplitl [Ho Hz]
  · isplitl [Hz]; · iexact Hz
    iexact Ho
  isplitl [Ha Hb Hc Hbufs]
  · isplitl [Ha]; · iexact Ha
    isplitl [Hb]; · iexact Hb
    isplitl [Hc]; · iexact Hc
    iexact Hbufs
  isplitl [HsA HsB HsC Hsems]
  · isplitl [HsA]; · iexact HsA
    isplitl [HsB]; · iexact HsB
    isplitl [HsC]; · iexact HsC
    iexact Hsems
  unfold Owes; iexact HO

end Tile

/-! ## What the call carries -/

section Launch

variable (zf : Dev nD → Frames F) (hz : ∀ d, LowF (zf d))

/-- A core takes its share of the frames and its subcores' slices; each subcore its share and its slice, and the slice
    comes back holding the counts. -/
def P : (K (F := F)).Pay (nD := nD) (Val := Elt F) (Name := ℕ) (U := UU) where
  st := fun q d c => match q with
    | 0 => iprop((zLoc d ↦{coreShare c.val} zf d) ∗ bigSep Finset.univ fun s => OutAny d (posK (F := F) c s))
  dn := fun q d c => match q with
    | 0 => iprop((zLoc d ↦{coreShare c.val} zf d) ∗ bigSep Finset.univ fun s => OutHolds d (posK (F := F) c s) (tileCnt (zf d) (hz d) (posK (F := F) c s)))
  go := fun q d c s => match q with
    | 0 => iprop((zLoc d ↦{subShare c.val s.val} zf d) ∗ OutAny d (posK (F := F) c s))
  td := fun q d c s => match q with
    | 0 => iprop((zLoc d ↦{subShare c.val s.val} zf d) ∗ OutHolds d (posK (F := F) c s) (tileCnt (zf d) (hz d) (posK (F := F) c s)))
  x := fun _ _ => iprop(emp)

instance outAny_storable (d : Dev nD) (i : grid0.Coords) : BI.Storable (upEmb : UEmb _ (MM F)) (OutAny (F := F) d i) := by
  unfold OutAny; infer_instance
instance outHolds_storable (d : Dev nD) (i : grid0.Coords) (h : Cnt F) : BI.Storable (upEmb : UEmb _ (MM F)) (OutHolds (F := F) d i h) := by
  unfold OutHolds; infer_instance

instance P_storable : (P (F := F) zf hz).IsStorable where
  st q d c := match q with
    | 0 => (inferInstance : BI.Storable (upEmb : UEmb _ (MM F)) iprop((zLoc d ↦{coreShare c.val} zf d) ∗ bigSep Finset.univ fun s => OutAny d (posK (F := F) c s)))
  dn q d c := match q with
    | 0 => (inferInstance : BI.Storable (upEmb : UEmb _ (MM F)) iprop((zLoc d ↦{coreShare c.val} zf d)
        ∗ bigSep Finset.univ fun s => OutHolds d (posK (F := F) c s) (tileCnt (zf d) (hz d) (posK (F := F) c s))))
  go q d c s := match q with
    | 0 => (inferInstance : BI.Storable (upEmb : UEmb _ (MM F)) iprop((zLoc d ↦{subShare c.val s.val} zf d) ∗ OutAny d (posK (F := F) c s)))
  td q d c s := match q with
    | 0 => (inferInstance : BI.Storable (upEmb : UEmb _ (MM F)) iprop((zLoc d ↦{subShare c.val s.val} zf d)
        ∗ OutHolds d (posK (F := F) c s) (tileCnt (zf d) (hz d) (posK (F := F) c s))))

theorem defs₀_vector (c : Fin τ.nSC) (s : Fin τ.nSub) :
    defs₀ (F := F) (.scVector c s) 0 ()
      = SparseCore.onTile hcore0 hsub0 (fun c s => cc0__sc_hist_body (pos c s) zW (Memref.isWhole_whole _) oW (Memref.isWhole_whole _)
          (Memref.whole cc0_scratch0) (Memref.isWhole_whole _) (Memref.whole cc0_scratch1) (Memref.isWhole_whole _) sH (Memref.isWhole_whole _)
          cc0_scratch3 cc0_scratch4 cc0_scratch5) ⟨⟩ c s := rfl

omit [FloatOps F] in
/-- The waits a task has made are among those the launch allows it. -/
theorem allowed {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe HA HB HC
  iexists W'; isplitr
  · ipureintro; exact fun p hp => (hW' p hp).imp_right Or.inl
  · iexact HO

set_option maxRecDepth 2048 in
theorem tileObl (hF : (K (F := F)).Facts) : (K (F := F)).TileObl (D (F := F)) 𝒱 (P zf hz) v₀ 0 := by
  intro d c s O W hO _ _
  simp only [show (P zf hz).ox = fun _ _ => 0 from rfl, add_zero]
  change _ ⊢ wp _ _ _ (Pipeline.liftProg (defs₀ (F := F) (.scVector ((K (F := F)).core 0 c) ((K (F := F)).sub 0 s)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (pos ⟨_, hc.1⟩ ⟨_, hc.2⟩) hF (subShare c.val s.val) (zf d) (hz d) O W hO).trans (wp_mono frame _ _ fun _ => allowed)

theorem vecSplit : (K (F := F)).VecSplit' (P zf hz) 0 := by
  intro d c
  show iprop((zLoc d ↦{coreShare c.val} zf d) ∗ bigSep Finset.univ fun s => OutAny d (posK (F := F) c s)) ⊢ |={Set.univ}=> iprop(
      (bigSep Finset.univ fun s : Fin ((K (F := F)).nSub 0) => iprop((zLoc d ↦{subShare c.val s.val} zf d) ∗ OutAny d (posK (F := F) c s)))
      ∗ ((bigSep Finset.univ fun s : Fin ((K (F := F)).nSub 0) =>
            iprop((zLoc d ↦{subShare c.val s.val} zf d) ∗ OutHolds d (posK (F := F) c s) (tileCnt (zf d) (hz d) (posK (F := F) c s))))
          -∗ iprop((zLoc d ↦{coreShare c.val} zf d) ∗ bigSep Finset.univ fun s => OutHolds d (posK (F := F) c s) (tileCnt (zf d) (hz d) (posK (F := F) c s)))))
  rw [bigSep_sep', bigSep_sep']
  iintro ⟨Hz, Ho⟩; imodintro
  ihave Hs := (pointsTo_toks_split (coreShare c.val) ((K (F := F)).nSub 0)) $$ Hz
  icases Hs with ⟨Hk, Ht⟩
  isplitl [Ht Ho]
  · isplitl [Ht]; · iexact Ht
    iexact Ho
  iintro ⟨Ht, Ho⟩
  isplitl [Hk Ht]
  · iapply (pointsTo_toks_join (coreShare c.val) ((K (F := F)).nSub 0))
    isplitl [Hk]; · iexact Hk
    iexact Ht
  · iexact Ho

end Launch

end Cert.Hist
-- ==== Proof.Slices.lean ====
/-
  The counts of all subcores in main memory: the 32 slices are disjoint and make up the whole array, so the array is
  handed out slice by slice and comes back as one array of counts.
-/
module

public import proofs.«01_k».proof.Proof.Tile

@[expose] public section

noncomputable section

namespace Cert.Hist

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The counts in main memory, as the TensorCore names them. -/
abbrev oLoc (d : Dev nD) : Loc nD τ sig := (SparseCore.T d).loc main_v1

/-- Where the slice of subcore `s` of core `c` begins. -/
theorem base_val : ∀ (c : Fin 2) (s : Fin 16), k0_off137 (pos c s) 0 = 102400 * (16 * c.val + s.val) := by decide

/-- The elements of that slice. -/
abbrev sl (cs : Fin 2 × Fin 16) : Finset S3276800.Idx := (outDst oW (pos cs.1 cs.2)).view.set

theorem mem_sl (cs : Fin 2 × Fin 16) (p : S3276800.Idx) :
    p ∈ sl cs ↔ 102400 * (16 * cs.1.val + cs.2.val) ≤ (p 0).val ∧ (p 0).val < 102400 * (16 * cs.1.val + cs.2.val) + 102400 := by
  have h : sl cs = (Rect.unit (s := S3276800) (k0_off137 (pos cs.1 cs.2)) S102400.size (k0_off137_inb (pos cs.1 cs.2))).set :=
    View.set_slice_whole main_v1_scv _
  rw [h, Rect.mem_set_unit, ← base_val]
  exact ⟨fun h => h 0, fun h a => by rw [Subsingleton.elim a 0]; exact h⟩

theorem sl_disjoint (a b : Fin 2 × Fin 16) (h : a ≠ b) : Disjoint (sl a) (sl b) := by
  rw [Finset.disjoint_left]
  intro p ha hb
  rw [mem_sl] at ha hb
  obtain ⟨⟨c, hc⟩, ⟨s, hs⟩⟩ := a
  obtain ⟨⟨c', hc'⟩, ⟨s', hs'⟩⟩ := b
  simp only at ha hb
  apply h
  have : 16 * c + s = 16 * c' + s' := by omega
  have : c = c' := by omega
  have : s = s' := by omega
  subst_vars; rfl

theorem sl_cover : (Finset.univ : Finset (Fin 2 × Fin 16)).biUnion sl = (Finset.univ : Finset S3276800.Idx) := by
  ext p
  simp only [Finset.mem_biUnion, Finset.mem_univ, true_and, iff_true]
  have hp : (p 0).val < 3276800 := (p 0).isLt
  refine ⟨(⟨(p 0).val / 1638400, by omega⟩, ⟨(p 0).val / 102400 % 16, by omega⟩), ?_⟩
  rw [mem_sl]
  simp only
  omega

/-- The counts of all the subcores, as one array: position `p` belongs to subcore `p / 102400 % 16` of core
    `p / 1638400`. -/
def allCnt (zf : Frames F) (hz : LowF zf) : S3276800.Idx → Elt F .f32 := fun p =>
  have hp : (p 0).val < 3276800 := (p 0).isLt
  tileCnt zf hz (pos ⟨(p 0).val / 1638400, by show _ < 2; omega⟩ ⟨(p 0).val / 102400 % 16, by show _ < 16; omega⟩)
    (fun a => ⟨(p 0).val % 102400, by rw [Subsingleton.elim a 0]; show _ < 102400; omega⟩)

theorem allCnt_on (zf : Frames F) (hz : LowF zf) (c : Fin 2) (s : Fin 16) (g : S3276800.Idx → Elt F .f32)
    (hg : (outDst oW (pos c s)).view.read (Elt F) g = tileCnt zf hz (pos c s)) (p : S3276800.Idx) (hp : p ∈ sl (c, s)) :
    g p = allCnt zf hz p := by
  rw [mem_sl] at hp
  simp only at hp
  have hq : (p 0).val - 102400 * (16 * c.val + s.val) < 102400 := by omega
  have h := congrFun hg (fun a => ⟨(p 0).val - 102400 * (16 * c.val + s.val), by rw [Subsingleton.elim a 0]; exact hq⟩)
  have hc : (⟨(p 0).val / 1638400, by have : (p 0).val < 3276800 := (p 0).isLt; omega⟩ : Fin 2) = c := Fin.ext (by have := s.isLt; show (p 0).val / 1638400 = c.val; omega)
  have hs : (⟨(p 0).val / 102400 % 16, by omega⟩ : Fin 16) = s := Fin.ext (by have := s.isLt; show (p 0).val / 102400 % 16 = s.val; omega)
  have hr : (p 0).val % 102400 = (p 0).val - 102400 * (16 * c.val + s.val) := by omega
  refine Eq.trans ?_ (h.trans ?_)
  · show g p = g ((Rect.unit (s := S3276800) (k0_off137 (pos c s)) S102400.size (k0_off137_inb (pos c s))).idx _)
    refine congrArg g (funext fun a => Fin.ext ?_)
    rw [Subsingleton.elim a 0]
    show (p 0).val = k0_off137 (pos c s) 0 + 1 * ((p 0).val - 102400 * (16 * c.val + s.val))
    rw [base_val]; omega
  · unfold allCnt
    have e : ∀ (c' : Fin 2) (s' : Fin 16) (r : ℕ) (hr' : r < 102400), c' = c → s' = s → r = (p 0).val - 102400 * (16 * c.val + s.val) →
        tileCnt zf hz (pos c s) (fun a => ⟨(p 0).val - 102400 * (16 * c.val + s.val), by rw [Subsingleton.elim a 0]; exact hq⟩)
          = tileCnt zf hz (pos c' s') (fun a => ⟨r, by rw [Subsingleton.elim a 0]; exact hr'⟩) := by
      rintro c' s' r hr' rfl rfl rfl; rfl
    exact e _ _ _ (by omega) hc hs hr

theorem deal_one (d : Dev nD) (c : Fin 2) (s : Fin 16) (g : S3276800.Idx → Elt F .f32) :
    ((oLoc d ↦[sl (c, s)]{fullShare} g) : sProp (MM F)) ⊢ OutAny d (pos c s) := by
  unfold OutAny
  iintro H
  iexists g
  iexact H

theorem gather_one (d : Dev nD) (zf : Frames F) (hz : LowF zf) (c : Fin 2) (s : Fin 16) :
    (OutHolds d (pos c s) (tileCnt zf hz (pos c s)) : sProp (MM F)) ⊢ (oLoc d ↦[sl (c, s)]{fullShare} (allCnt zf hz)) := by
  unfold OutHolds
  iintro ⟨%g, %hg, H⟩
  iapply (Entails.of_eq (pointsTo_congr (ℓ := oLoc d) (I := sl (c, s)) (q := fullShare) (f := g) (g := allCnt zf hz)
    (fun p hp => allCnt_on zf hz c s g hg p hp)))
  iexact H

/-- The array handed out: every core its subcores' slices. -/
theorem deal (d : Dev nD) (g : S3276800.Idx → Elt F .f32) :
    ((oLoc d ↦{fullShare} g) : sProp (MM F)) ⊢ bigSep Finset.univ fun c : Fin ((K (F := F)).nCore 0) =>
      bigSep Finset.univ fun s : Fin ((K (F := F)).nSub 0) => OutAny d (posK (F := F) c s) := by
  have h := pointsTo_biUnion (ℓ := oLoc d) (q := fullShare) (f := g) (Ix := HIx 1) (Name := ℕ) (U := UU) (Lvl := ℕ) (Val := Elt F)
    (Finset.univ : Finset (Fin 2 × Fin 16)) sl (fun a _ b _ h => sl_disjoint a b h)
  rw [sl_cover] at h
  rw [h, ← Finset.univ_product_univ, SparseCore.bigSep_product]
  exact bigSep_mono fun c _ => bigSep_mono fun s _ => deal_one d c s g

/-- The array taken back, holding all the counts. -/
theorem gather (d : Dev nD) (zf : Frames F) (hz : LowF zf) :
    (bigSep Finset.univ fun c : Fin ((K (F := F)).nCore 0) => bigSep Finset.univ fun s : Fin ((K (F := F)).nSub 0) =>
      OutHolds d (posK (F := F) c s) (tileCnt zf hz (posK (F := F) c s)) : sProp (MM F)) ⊢ (oLoc d ↦{fullShare} (allCnt zf hz)) := by
  have h := pointsTo_biUnion (ℓ := oLoc d) (q := fullShare) (f := allCnt zf hz) (Ix := HIx 1) (Name := ℕ) (U := UU) (Lvl := ℕ) (Val := Elt F)
    (Finset.univ : Finset (Fin 2 × Fin 16)) sl (fun a _ b _ h => sl_disjoint a b h)
  rw [sl_cover] at h
  rw [h, ← Finset.univ_product_univ, SparseCore.bigSep_product]
  exact bigSep_mono fun c _ => bigSep_mono fun s _ => gather_one d zf hz c s

end Cert.Hist
-- ==== Proof.TcBody.lean ====
/-
  The TensorCore kernel's body as five loads, one pure value and one store. The value is written once: the banded
  similarity rows are twenty-five blocks of eight, each the same cascade of conditional rolls of a slice.
-/
module

public import proofs.«01_k».proof.Proof.Gen.KernelIdeal.Skeleton

@[expose] public section

noncomputable section

namespace Cert.Hist

open Cert.KernelIdeal Cert.KernelIdeal.Gen
open Idealize.ShloMosaic
open Idealize.SL Idealize.SL.Sem

variable {F : FTy → Type} [FloatOps F]

/-- Row numbers within a block of eight rows. -/
def rowNo : IVec S8x128 32 := iota .tc S8x128 32 [0] iota_S8x128_d0_w32

/-- The rows whose number has the bit `b` set. -/
def hasBit (b : BitVec 32) : IVec S8x128 1 := cmpi .sgt (andi rowNo (broadcast S8x128 b)) (broadcast S8x128 0#32)

/-- A block with its columns turned left by one, by two and by four. -/
def turn1 (a : FVec F S8x128 .f32) : FVec F S8x128 .f32 :=
  concatenate S8x128 1 [⟨S8x127, extractStridedSlice S8x127 ![0, 1] a slices_S8x128_o0_1_S8x127⟩,
    ⟨S8x1, extractStridedSlice S8x1 ![0, 0] a slices_S8x128_o0_0_S8x1⟩] concatenates_S8x127_S8x1_S8x128_d1
def turn2 (a : FVec F S8x128 .f32) : FVec F S8x128 .f32 :=
  concatenate S8x128 1 [⟨S8x126, extractStridedSlice S8x126 ![0, 2] a slices_S8x128_o0_2_S8x126⟩,
    ⟨S8x2, extractStridedSlice S8x2 ![0, 0] a slices_S8x128_o0_0_S8x2⟩] concatenates_S8x126_S8x2_S8x128_d1
def turn4 (a : FVec F S8x128 .f32) : FVec F S8x128 .f32 :=
  concatenate S8x128 1 [⟨S8x124, extractStridedSlice S8x124 ![0, 4] a slices_S8x128_o0_4_S8x124⟩,
    ⟨S8x4, extractStridedSlice S8x4 ![0, 0] a slices_S8x128_o0_0_S8x4⟩] concatenates_S8x124_S8x4_S8x128_d1

/-- Each row of the block turned left by its number: bit by bit. -/
def step1 (a : FVec F S8x128 .f32) : FVec F S8x128 .f32 := select (hasBit 1#32) (turn1 a) a
def step2 (a : FVec F S8x128 .f32) : FVec F S8x128 .f32 := select (hasBit 2#32) (turn2 a) a
def step4 (a : FVec F S8x128 .f32) : FVec F S8x128 .f32 := select (hasBit 4#32) (turn4 a) a
def skew (a : FVec F S8x128 .f32) : FVec F S8x128 .f32 := step4 (step2 (step1 a))

theorem slicesAt (k : Fin 25) : Shape.Slices S200x320 ![8 * k.val, 8 * k.val] S8x128 := by
  revert k; decide

/-- The `k`-th block of the band, out of the padded table of similarities. -/
def band (g : FVec F S200x320 .f32) (k : Fin 25) : FVec F S8x128 .f32 :=
  skew (extractStridedSlice S8x128 ![8 * k.val, 8 * k.val] g (slicesAt k))

/-- All twenty-five blocks, one below the other. -/
def bands (g : FVec F S200x320 .f32) : FVec F S200x128 .f32 :=
  concatenate S200x128 0 (List.ofFn fun k : Fin 25 => (⟨S8x128, band g k⟩ : (s : Shape) × (s.Idx → F .f32)))
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S200x128_d0

/-- What the body stores, from the two halves of the table, the padded weights and the bias. -/
def tcVal (h₀ h₁ : Vec F S1x1x200x512 .f32) (w : Vec F S128x128 .f32) (b : Vec F S1x128 .f32) : FVec F S1x200x128 .f32 :=
  k1_pay1 (k1_pay61 (bands (k1_pay2 h₀ h₁)) w b)

/-- The body: two halves of the table, weights and bias loaded, an idle load of the result, and the store. -/
def tcProg (a1 : Memref sig .tc .vmem S2x1x200x512 .f32) (a2 : Memref sig .tc .vmem S128x128 .f32)
    (a3 : Memref sig .tc .vmem S1x128 .f32) (a4 : Memref sig .tc .vmem S1x200x128 .f32) :
    Prog (TpuEff nD τ sig (Elt F) Λ₀ .tc) PUnit := do
  let h₀ : Vec F S1x1x200x512 .f32 ← Prog.lift (.load a1 (Rect.unit (s := S2x1x200x512) ![0, 0, 0, 0] S1x1x200x512.size inb_S2x1x200x512_S1x1x200x512_0_0_0_0).toLoadRect (View.loadsAt_vmem h_S1x1x200x512))
  let h₁ : Vec F S1x1x200x512 .f32 ← Prog.lift (.load a1 (Rect.unit (s := S2x1x200x512) ![1, 0, 0, 0] S1x1x200x512.size inb_S2x1x200x512_S1x1x200x512_1_0_0_0).toLoadRect (View.loadsAt_vmem h_S1x1x200x512))
  let w : Vec F S128x128 .f32 ← Prog.lift (.load a2 (Rect.unit (s := S128x128) ![0, 0] S128x128.size inb_S128x128_S128x128_0_0).toLoadRect (View.loadsAt_vmem h_S128x128))
  let b : Vec F S1x128 .f32 ← Prog.lift (.load a3 (Rect.unit (s := S1x128) ![0, 0] S1x128.size inb_S1x128_S1x128_0_0).toLoadRect (View.loadsAt_vmem h_S1x128))
  let _o : Vec F S1x200x128 .f32 ← Prog.lift (.load a4 (Rect.unit (s := S1x200x128) ![0, 0, 0] S1x200x128.size inb_S1x200x128_S1x200x128_0_0_0).toLoadRect (View.loadsAt_vmem h_S1x200x128))
  Prog.lift (.store a4 (Rect.unit (s := S1x200x128) ![0, 0, 0] S1x200x128.size inb_S1x200x128_S1x200x128_0_0_0) (tcVal h₀ h₁ w b) Finset.univ (View.stores_vmem_bits_univ h_S1x200x128 rfl) (.inl rfl))
  pure ⟨⟩

set_option maxRecDepth 65536 in
theorem tc_body_eq (i : grid1.Coords) (a1 : Memref sig .tc .vmem S2x1x200x512 .f32) (h1 : a1.IsWhole)
    (a2 : Memref sig .tc .vmem S128x128 .f32) (h2 : a2.IsWhole) (a3 : Memref sig .tc .vmem S1x128 .f32) (h3 : a3.IsWhole)
    (a4 : Memref sig .tc .vmem S1x200x128 .f32) (h4 : a4.IsWhole) :
    cc1__tc_body (F := F) i a1 h1 a2 h2 a3 h3 a4 h4 = tcProg a1 a2 a3 a4 := by
  rw [cc1__tc_body_eq_skeleton]
  unfold cc1__tc_body_skel
  rw [k1_part14_eq_skeleton]
  unfold k1_part14_skel
  rw [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    k1_part11_eq_skeleton, k1_part12_eq_skeleton, k1_part13_eq_skeleton]
  rfl

end Cert.Hist
-- ==== Proof.Region.lean ====
/-
  The TensorCore call: its body run once over memrefs that hold anything, the data of its pipeline from an entry
  valuation, and the whole call as one region of the program over the thread state.
-/
module

public import proofs.«01_k».proof.Proof.TcBody
public import proofs.«01_k».proof.Proof.Setup
public import proofs.«01_k».proof.Proof.Gen.KernelIdeal.Launch
public import proofs.«01_k».proof.Proof.Gen.KernelIdeal.Points
public import Idealize.ShloMosaic.Lib.VecWindow
public import Idealize.ShloMosaic.Lib.Pipeline.RegionsLoop
public import Idealize.ShloMosaic.Lib.Tactic

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The two halves of a staged block of the table. -/
def half0 (X : S2x1x200x512.Idx → Elt F .f32) : Vec F S1x1x200x512 .f32 := fun x =>
  X ((Rect.unit (s := S2x1x200x512) ![0, 0, 0, 0] S1x1x200x512.size inb_S2x1x200x512_S1x1x200x512_0_0_0_0).idx x)
def half1 (X : S2x1x200x512.Idx → Elt F .f32) : Vec F S1x1x200x512 .f32 := fun x =>
  X ((Rect.unit (s := S2x1x200x512) ![1, 0, 0, 0] S1x1x200x512.size inb_S2x1x200x512_S1x1x200x512_1_0_0_0).idx x)

/-- What a block of the table, the weights and the bias become. -/
def blockVal (X : S2x1x200x512.Idx → Elt F .f32) (w : S128x128.Idx → Elt F .f32) (b : S1x128.Idx → Elt F .f32) :
    S1x200x128.Idx → Elt F .f32 := tcVal (half0 X) (half1 X) w b

/-! ### The body -/

theorem body_runs (c : Dev nD) (a1 : Memref sig .tc .vmem S2x1x200x512 .f32) (a2 : Memref sig .tc .vmem S128x128 .f32)
    (a3 : Memref sig .tc .vmem S1x128 .f32) (a4 : Memref sig .tc .vmem S1x200x128 .f32)
    (X1 : S2x1x200x512.Idx → Elt F .f32) (X2 : S128x128.Idx → Elt F .f32) (X3 : S1x128.Idx → Elt F .f32) (X4 : S1x200x128.Idx → Elt F .f32)
    (Q : PUnit → sProp (MM F)) :
    iprop(owns (c : Thread nD τ) a1 fullShare X1 ∗ owns (c : Thread nD τ) a2 fullShare X2 ∗ owns (c : Thread nD τ) a3 fullShare X3
        ∗ owns (c : Thread nD τ) a4 fullShare X4
        ∗ ((owns (c : Thread nD τ) a1 fullShare X1 ∗ owns (c : Thread nD τ) a2 fullShare X2 ∗ owns (c : Thread nD τ) a3 fullShare X3
            ∗ owns (c : Thread nD τ) a4 fullShare (blockVal X1 X2 X3)) -∗ Q ⟨⟩))
      ⊢ wp frame (wpE (defs₀ (F := F)) 𝒱₀ (c : Thread nD τ) none) Set.univ (tcProg a1 a2 a3 a4) Q := by
  unfold tcProg owns
  simp only [Prog.bind_lift]
  iintro ⟨⟨%f1, %h1, H1⟩, ⟨%f2, %h2, H2⟩, ⟨%f3, %h3, H3⟩, ⟨%f4, %h4, H4⟩, Hk⟩
  iapply (wp_load 𝒱₀ (c : Thread nD τ) none Set.univ (View.setOn_subset_set _ _)) $$ H1
  iintro H1
  iapply (wp_load 𝒱₀ (c : Thread nD τ) none Set.univ (View.setOn_subset_set _ _)) $$ H1
  iintro H1
  iapply (wp_load 𝒱₀ (c : Thread nD τ) none Set.univ (View.setOn_subset_set _ _)) $$ H2
  iintro H2
  iapply (wp_load 𝒱₀ (c : Thread nD τ) none Set.univ (View.setOn_subset_set _ _)) $$ H3
  iintro H3
  iapply (wp_load 𝒱₀ (c : Thread nD τ) none Set.univ (View.setOn_subset_set _ _)) $$ H4
  iintro H4
  ihave H4' := (Entails.of_eq (show (iprop(a4.view.loc (c : Thread nD τ) ↦[a4.view.set]{fullShare} f4) : sProp (MM F))
    = iprop((a4.access (Rect.unit (s := S1x200x128) ![0, 0, 0] S1x200x128.size inb_S1x200x128_S1x200x128_0_0_0)).loc (c : Thread nD τ) ↦[a4.view.set]{fullShare} f4)
      from rfl)) $$ H4
  iapply (wp_store 𝒱₀ (c : Thread nD τ) none Set.univ (m := a4) ((View.setOn_subset_set _ _).trans (View.set_slice_subset _ _))) $$ H4'
  iintro H4
  rw [Prog.pure_eq_ret, wp_ret]
  imodintro
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  iexists _; isplitr [H4]; rotate_left
  · iexact H4
  · ipureintro
    subst h1; subst h2; subst h3
    have e2 := View.readAt_full (Val := Elt F) a2.view f2 inb_S128x128_S128x128_0_0
    have e3 := View.readAt_full (Val := Elt F) a3.view f3 inb_S1x128_S1x128_0_0
    refine (View.read_writes_full (Val := Elt F) a4.view f4 inb_S1x200x128_S1x200x128_0_0_0 _ []).trans ?_
    exact congrArg₂ (tcVal _ _) e2 e3

/-! ### The data of the pipeline, from a valuation at entry -/

variable (V : (c : Dev nD) → (b : Ref sig .tc) → Buf (Elt F) ((c : Thread nD τ).loc b))

/-- The blocks the pipeline stages at a point. -/
abbrev tab (c : Dev nD) (t : Fin cfg1.N) : (cfg1.win 0).block.Idx → Elt F (cfg1.win 0).elt :=
  ((cfg1.win 0).blk t).view.read (Elt F) (V c main_v2)
abbrev wts (c : Dev nD) (t : Fin cfg1.N) : (cfg1.win 1).block.Idx → Elt F (cfg1.win 1).elt :=
  ((cfg1.win 1).blk t).view.read (Elt F) (V c main_v5)
abbrev bia (c : Dev nD) (t : Fin cfg1.N) : (cfg1.win 2).block.Idx → Elt F (cfg1.win 2).elt :=
  ((cfg1.win 2).blk t).view.read (Elt F) (V c main_v6)

/-- No scoped buffer is left beside the pipeline's own. -/
abbrev Φc (c : Dev nD) : sProp (MM F) := Pipeline.scopedRest (Ix := HIx 1) (Name := ℕ) (U := UU) (Lvl := ℕ) (Val := Elt F) spec1 c

/-- The waits recorded so far, all at low levels. -/
abbrev low (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => tab V c t
    | ⟨1, _⟩ => wts V c t
    | ⟨2, _⟩ => bia V c t
    | ⟨3, _⟩ => blockVal (tab V c t) (wts V c t) (bia V c t)
  Φ _ := Φc c
  q _ := fullShare
  owed _ := 0
  recorded _ := low (F := F) c

theorem before0 (c : Dev nD) (t : Fin cfg1.N) (d : (cfg1.win 0).block.Idx → Elt F (cfg1.win 0).elt) :
    (dat V c).before 0 t d = tab V c t :=
  (Dat.before_in_eq_fetched (dat V c) 0 rfl (fun _ => rfl) (fun _ _ _ => rfl) (fun _ => rfl) t d).trans rfl
theorem before1 (c : Dev nD) (t : Fin cfg1.N) (d : (cfg1.win 1).block.Idx → Elt F (cfg1.win 1).elt) :
    (dat V c).before 1 t d = wts V c t :=
  (Dat.before_in_eq_fetched (dat V c) 1 rfl (fun _ => rfl) (fun _ _ _ => rfl) (fun _ => rfl) t d).trans rfl
theorem before2 (c : Dev nD) (t : Fin cfg1.N) (d : (cfg1.win 2).block.Idx → Elt F (cfg1.win 2).elt) :
    (dat V c).before 2 t d = bia V c t :=
  (Dat.before_in_eq_fetched (dat V c) 2 rfl (fun _ => rfl) (fun _ _ _ => rfl) (fun _ => rfl) t d).trans rfl

theorem bodyCall (t : Fin cfg1.N) : defs₀ (F := F) .tc cfg1.body (cfg1.bodyArgs t (cfg1.slots t))
    = tcProg (st1_0 t) (st1_1 t) (st1_2 t) (st1_3 t) :=
  (show _ = bodyAt1 (F := F) t from rfl).trans (tc_body_eq _ _ _ _ _ _ _ _ _)

theorem body_obligation (c : Dev nD) : BodyObligation (dat V c) (defs₀ (F := F)) 𝒱₀ (none : HIx 1) Set.univ := fun t => by
  rw [bigSep_W1, bigSep_W1, bodyCall]
  rw [show (dat V c).Φ t.castSucc = Φc c from rfl, show (dat V c).Φ t.succ = Φc c from rfl,
    show (dat V c).owesAt (none : HIx 1) t.succ = (dat V c).owesAt none t.castSucc from rfl]
  iintro ⟨HΦ, Howes, ⟨%d0, H0⟩, ⟨%d1, H1⟩, ⟨%d2, H2⟩, ⟨%d3, H3⟩⟩
  rw [before0, before1, before2]
  iapply (body_runs (F := F) c (st1_0 t) (st1_1 t) (st1_2 t) (st1_3 t) _ _ _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ### The call as a region -/

abbrev adm : (p : Fin 1) → (pcfgs (F := F) p).Adm := fun p => (cfgs p).toPCfg_adm

abbrev pdats : (p : Fin 1) → (c : Dev nD) → Dat τ (Elt F) (HIx 1) ℕ UU ℕ (Pipeline.pin (pcfgs (F := F)) adm p) c
  | ⟨0, _⟩ => fun c => dat V c

/-- The references the TensorCore's thread state holds. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp (MM F)) = StableHlo.held (c : Thread nD τ) ucRefs W := by
  unfold unscopedBufs StableHlo.held ucRefs StableHlo.tcRefs
  rw [Finset.filter_map, bigSep_map]
  rfl

/-- The result after the call. -/
def outArr (c : Dev nD) : Buf (Elt F) ((c : Thread nD τ).loc main_v7) := (dat V c).arrAt 3 cfg1.N

/-- A core that owes nothing, every wait it recorded at a low level. -/
def Idle (c : Dev nD) : sProp (MM F) :=
  iprop(∃ W : Waits sig (HIx 1), ⌜(K (F := F)).WBelow (c : Thread nD τ) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- From every array at `V` the call runs to every array at `Vp`: the result's array rewritten, all others kept. -/
def reg (hout : ∀ c, Vp c main_v7 = outArr V c) (hne : ∀ c (b : Ref sig .tc), b ≠ main_v7 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Idle c)
  post c := iprop(unscopedBufs c (Vp c) ∗ Idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Idle Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v2 (by decide)).symm
        · exact ((pdats V 0 c).arrAt_in 1 rfl _).trans (hne c main_v5 (by decide)).symm
        · exact ((pdats V 0 c).arrAt_in 2 rfl _).trans (hne c main_v6 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Idle Pipeline.Dat.owesAt Pipeline.owesWithin
    icases HO with ⟨%W, %hW, HO⟩; iexists W; isplitr
    · ipureintro
      intro p hp
      rcases hW hp with h | ⟨w, s, h⟩
      · exact h
      · rw [h]; exact Nat.zero_le 8
    iexact HO

end Cert.Hist
-- ==== Proof.Launch.lean ====
/-
  The whole program's run, over any float values: the frames transposed, the SparseCore call, the small host
  operations, the TensorCore call. It ends with every array of the TensorCore at the contents named here.
-/
module

public import proofs.«01_k».proof.Proof.Slices
public import proofs.«01_k».proof.Proof.Region

@[expose] public section

noncomputable section

namespace Cert.Hist

open Cert.KernelIdeal Cert.KernelIdeal.Gen
open Idealize.ShloMosaic
open Idealize.ShloMosaic.TcCoe
open Idealize.ShloMosaic.SparseCore.Cfg (HIx)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ### @main's operations, and the contents between them -/

/-- The frames transposed, before the SparseCore call. -/
def opFirst : HloOp τ sig (Elt F) :=
  StableHlo.unary main_arg0 main_v0 ((transpose S16x27x3x48x200 [0, 2, 4, 3, 1] · transposes_S16x200x27x48x3_S16x27x3x48x200_0_2_4_3_1) : (⟨S16x200x27x48x3, .i32⟩ : BufTy).Contents (Elt F) → (⟨S16x27x3x48x200, .i32⟩ : BufTy).Contents (Elt F))

/-- Between the two calls: the counts seen as a table, the weights transposed and padded by zeros, the bias as a row. -/
def opsMid : List (HloOp τ sig (Elt F)) :=
  [StableHlo.reshape main_v1 main_v2 (rfl : (.f32 : EltTy) = .f32) shapeCasts_S3276800_S2x16x200x512,
   StableHlo.unary main_arg1 main_v3 ((transpose S101x128 [1, 0] · transposes_S128x101_S101x128_1_0) : (⟨S128x101, .f32⟩ : BufTy).Contents (Elt F) → (⟨S101x128, .f32⟩ : BufTy).Contents (Elt F)),
   StableHlo.nullary main_cst (constant S_ .f32 0x00000000#32),
   StableHlo.unary main_cst main_v4 (broadcastInDim S27x128 ![] bcast_S_S27x128 : (⟨S_, .f32⟩ : BufTy).Contents (Elt F) → (⟨S27x128, .f32⟩ : BufTy).Contents (Elt F)),
   StableHlo.binary main_v3 main_v4 main_v5 ((fun a b => concatenate S128x128 0 [⟨S101x128, a⟩, ⟨S27x128, b⟩] concatenates_S101x128_S27x128_S128x128_d0) : (⟨S101x128, .f32⟩ : BufTy).Contents (Elt F) → (⟨S27x128, .f32⟩ : BufTy).Contents (Elt F) → (⟨S128x128, .f32⟩ : BufTy).Contents (Elt F)),
   StableHlo.reshape main_arg2 main_v6 (rfl : (.f32 : EltTy) = .f32) shapeCasts_S128_S1x128]

theorem main_eq (d : Dev nD) : main (F := F) d = (hlo rfl opFirst (fun _ => .ret PUnit.unit) >>= fun _ => (K (F := F)).run d 0 >>= fun _ =>
    StableHlo.seq opsMid >>= fun _ => Prog.lift (.customCall (SparseCore.inner (Pipeline.entry 0)) ()) >>= fun _ => pure PUnit.unit) := by
  rfl

section Run

variable (m : (ℓ : Loc nD τ sig) → Buf (Elt F) ℓ) (ρ : Dev nD → PrngReg)

/-- The transposed frames the program makes of its first argument. -/
def frames (d : Dev nD) : Frames F :=
  transpose S16x27x3x48x200 [0, 2, 4, 3, 1] (m ((SparseCore.T d).loc main_arg0)) transposes_S16x200x27x48x3_S16x27x3x48x200_0_2_4_3_1

variable (hz : ∀ d, LowF (frames m d))

abbrev zR : DevRef τ sig := Proc.devRef .tc (main_v0 : Ref sig .tc)
abbrev oR : DevRef τ sig := Proc.devRef .tc (main_v1 : Ref sig .tc)
abbrev rR : DevRef τ sig := Proc.devRef .tc (main_v7 : Ref sig .tc)

/-- The contents at the start, after the transposition, after the SparseCore call, before the TensorCore call, and
    after it. -/
def V0 (d : Dev nD) : Valuation τ sig (Elt F) := fun b => m (d, b)
def V1 (d : Dev nD) : Valuation τ sig (Elt F) := (opFirst (F := F)).result (V0 m d)
def V2 (d : Dev nD) : Valuation τ sig (Elt F) := Function.update (V1 m d) oR (allCnt (frames m d) (hz d))
def V3 (d : Dev nD) : Valuation τ sig (Elt F) := after (opsMid (F := F)) (V2 m hz d)
abbrev V3r (d : Dev nD) (b : Ref sig .tc) : Buf (Elt F) ((d : Thread nD τ).loc b) := V3 m hz d b
def V4 (d : Dev nD) : Valuation τ sig (Elt F) := Function.update (V3 m hz d) rR (outArr (V3r m hz) d)
abbrev V4r (d : Dev nD) (b : Ref sig .tc) : Buf (Elt F) ((d : Thread nD τ).loc b) := V4 m hz d b

theorem V1_z (d : Dev nD) : V1 m d zR = frames m d := by
  unfold V1 opFirst frames
  exact StableHlo.unary_result _ _ _ _ _ _

theorem V2_o (d : Dev nD) : V2 m hz d oR = allCnt (frames m d) (hz d) := Function.update_self _ _ _
theorem V2_of_ne (d : Dev nD) (b : DevRef τ sig) (h : b ≠ oR) : V2 m hz d b = V1 m d b := Function.update_of_ne h _ _
theorem V4_r (d : Dev nD) : V4 m hz d rR = outArr (V3r m hz) d := Function.update_self _ _ _
theorem V4_of_ne (d : Dev nD) (b : DevRef τ sig) (h : b ≠ rR) : V4 m hz d b = V3 m hz d b := Function.update_of_ne h _ _

theorem z_mem : zR ∈ ucRefs := by decide
theorem o_mem : oR ∈ ucRefs.erase zR := by decide

/-- The arrays held: frames, counts, and the rest. -/
theorem held_zo (d : Dev nD) (W : Valuation τ sig (Elt F)) : (held (SparseCore.T d) ucRefs W : sProp (MM F))
    = iprop((zLoc d ↦{fullShare} W zR) ∗ (oLoc d ↦{fullShare} W oR) ∗ held (SparseCore.T d) ((ucRefs.erase zR).erase oR) W) := by
  unfold held
  rw [SparseCore.bigSep_erase' z_mem, SparseCore.bigSep_erase' o_mem]

theorem held_rest (d : Dev nD) : (held (SparseCore.T d) ((ucRefs.erase zR).erase oR) (V1 m d) : sProp (MM F))
    = held (SparseCore.T d) ((ucRefs.erase zR).erase oR) (V2 m hz d) := by
  unfold held
  exact bigSep_congr fun b hb => by rw [V2_of_ne m hz d b (Finset.ne_of_mem_erase hb)]

/-! ### What the call takes and gives back -/

theorem take (d : Dev nD) (zf : Dev nD → Frames F) (hzf : ∀ d, LowF (zf d)) (g : S3276800.Idx → Elt F .f32) :
    iprop((zLoc d ↦{fullShare} zf d) ∗ (oLoc d ↦{fullShare} g))
      ⊢ (iprop((zLoc d ↦{shareDrop fullShare 2} zf d) ∗ bigSep Finset.univ fun c : Fin ((K (F := F)).nCore 0) => (P zf hzf).st 0 d c) : sProp (MM F)) := by
  show _ ⊢ iprop(_ ∗ bigSep Finset.univ fun c : Fin ((K (F := F)).nCore 0) =>
    iprop((zLoc d ↦{coreShare c.val} zf d) ∗ bigSep Finset.univ fun s => OutAny d (posK (F := F) c s)))
  rw [bigSep_sep']
  iintro ⟨Hz, Ho⟩
  ihave Hs := (pointsTo_toks_split fullShare ((K (F := F)).nCore 0)) $$ Hz
  icases Hs with ⟨Hk, Ht⟩
  isplitl [Hk]; · iexact Hk
  isplitl [Ht]; · iexact Ht
  iapply (deal (F := F) d g)
  iexact Ho

theorem give (d : Dev nD) (zf : Dev nD → Frames F) (hzf : ∀ d, LowF (zf d)) :
    (iprop((zLoc d ↦{shareDrop fullShare 2} zf d) ∗ bigSep Finset.univ fun c : Fin ((K (F := F)).nCore 0) => (P zf hzf).dn 0 d c) : sProp (MM F))
      ⊢ iprop((zLoc d ↦{fullShare} zf d) ∗ (oLoc d ↦{fullShare} (allCnt (zf d) (hzf d)))) := by
  show iprop(_ ∗ bigSep Finset.univ fun c : Fin ((K (F := F)).nCore 0) =>
    iprop((zLoc d ↦{coreShare c.val} zf d) ∗ bigSep Finset.univ fun s => OutHolds d (posK (F := F) c s) (tileCnt (zf d) (hzf d) (posK (F := F) c s)))) ⊢ _
  rw [bigSep_sep']
  iintro ⟨Hk, Ht, Ho⟩
  isplitl [Hk Ht]
  · iapply (pointsTo_toks_join fullShare ((K (F := F)).nCore 0))
    isplitl [Hk]; · iexact Hk
    iexact Ht
  iapply (gather (F := F) d (zf d) (hzf d))
  iexact Ho

/-! ### The TensorCore call, inside the whole program -/

/-- What the TensorCore holds for its call's pipeline besides its arrays. -/
def Ghost (d : Dev nD) : sProp (MM F) :=
  iprop(Pipeline.cellsGhost (Pipeline.pin (pcfgs (F := F)) adm) (EP (F := F)) 0 d ∗ Pipeline.toksInit (Pipeline.pin (pcfgs (F := F)) adm) (EP (F := F)) 0 d)

theorem reg_pre (V Vp : (c : Dev nD) → (b : Ref sig .tc) → Buf (Elt F) ((c : Thread nD τ).loc b)) (h h') (c : Dev nD) :
    (reg V Vp h h').pre c = iprop(unscopedBufs c (V c) ∗ Idle c) := rfl
theorem reg_post (V Vp : (c : Dev nD) → (b : Ref sig .tc) → Buf (Elt F) ((c : Thread nD τ).loc b)) (h h') (c : Dev nD) :
    (reg V Vp h h').post c = iprop(unscopedBufs c (Vp c) ∗ Idle c) := rfl

set_option backward.isDefEq.respectTransparency.types false in
theorem region_call (d : Dev nD) (Q : PUnit → sProp (MM F)) :
    iprop((iprop(boundary (d : Thread nD τ) ∗ (unscopedBufs d (V4r m hz d) ∗ Idle d)) -∗ Q ⟨⟩)
        ∗ boundary (d : Thread nD τ) ∗ (unscopedBufs d (V3r m hz d) ∗ Idle d) ∗ levAts (K (F := F)).L (K (F := F)).lev ∗ Ghost d)
      ⊢ wp frame (wpE (D (F := F)) 𝒱 (d : Thread nD τ) none) Set.univ
          (.op (.customCall (Pipeline.entry 0) ()) fun _ => .ret PUnit.unit) Q := by
  have hR := Pipeline.RegionSeg.wp (pcfgs (F := F)) adm (pdats (V3r m hz)) (none : HIx 1) cellOf_inj (EP (F := F)) defs₀ 𝒱₀ (K (F := F)).L (K (F := F)).lev
    (reg (V3r m hz) (V4r m hz) (fun c => V4_r m hz c) (fun c b hb => V4_of_ne m hz c _ fun h => hb (Proc.devRef_injective _ h)))
    d none (fun _ h => nomatch h) (fun _ => .ret PUnit.unit) Q
  rw [reg_pre, reg_post] at hR
  refine BIBase.Entails.trans ?_ hR
  unfold Ghost
  iintro ⟨Hk, Hb, Hpre, Hlv, Hg, Ht⟩
  isplitl [Hk]
  · iintro H
    rw [wp_ret]
    imodintro
    iapply Hk
    iexact H
  isplitl [Hb]; · iexact Hb
  isplitl [Hpre]; · iexact Hpre
  isplitl [Hlv]; · iexact Hlv
  isplitl [Hg]; · iexact Hg
  iexact Ht

theorem region_runs (d : Dev nD) (Q : PUnit → sProp (MM F)) :
    iprop((iprop(boundary (d : Thread nD τ) ∗ (unscopedBufs d (V4r m hz d) ∗ Idle d)) -∗ Q ⟨⟩)
        ∗ boundary (d : Thread nD τ) ∗ (unscopedBufs d (V3r m hz d) ∗ Idle d) ∗ levAts (K (F := F)).L (K (F := F)).lev ∗ Ghost d)
      ⊢ wp frame (wpE ((K (F := F)).defs (D (F := F))) 𝒱 (SparseCore.T d) none) Set.univ
          (Prog.lift (.customCall (SparseCore.inner (Pipeline.entry 0)) ())) Q :=
  (region_call m hz d Q).trans ((K (F := F)).wp_liftProg (D (F := F)) 𝒱 (SparseCore.T d) Set.univ none
    (.op (.customCall (Pipeline.entry 0) ()) fun _ => .ret PUnit.unit) Q)

/-! ### The TensorCore's program -/

theorem opFirst_bufs : (opFirst (F := F)).bufs ⊆ ucRefs := by
  unfold opFirst; rw [StableHlo.unary_bufs]; decide

theorem opsMid_bufs : ∀ op ∈ opsMid (F := F), op.bufs ⊆ ucRefs := by
  intro op h
  simp only [opsMid, List.mem_cons, List.not_mem_nil, or_false] at h
  rcases h with rfl | rfl | rfl | rfl | rfl | rfl
  · rw [StableHlo.reshape_bufs]; decide
  · rw [StableHlo.unary_bufs]; decide
  · rw [StableHlo.nullary_bufs]; decide
  · rw [StableHlo.unary_bufs]; decide
  · rw [StableHlo.binary_bufs]; decide
  · rw [StableHlo.reshape_bufs]; decide

theorem opsMid_fresh : ∀ op ∈ opsMid (F := F), op.fresh = ∅ := by
  intro op h
  simp only [opsMid, List.mem_cons, List.not_mem_nil, or_false] at h
  rcases h with rfl | rfl | rfl | rfl | rfl | rfl <;> rfl

/-- After the only call the TensorCore owes nothing; what else its state holds is kept aside. -/
theorem tcSt_idle (d : Dev nD) : ((K (F := F)).tcSt EH d 1 : sProp (MM F))
    ⊢ iprop(Idle d ∗ (Idle d -∗ (K (F := F)).tcSt EH d 1)) := by
  unfold SparseCore.Cfg.tcSt Idle
  rw [(K (F := F)).Otc_end d (le_refl 1)]
  iintro ⟨HO, Hrest⟩
  isplitl [HO]; · iexact HO
  iintro HO
  isplitl [HO]; · iexact HO
  iexact Hrest

/-- What the TensorCore ends with. -/
abbrev FIN (d : Dev nD) : sProp (MM F) := held (SparseCore.T d) ucRefs (V4 m hz d)

theorem hmain (κ : GSem nD τ sig → ℕ) (d : Dev nD) :
    iprop((K (F := F)).ctx EH (P (frames m) hz) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m hz d ∗ (K (F := F)).tcEnd d) := by
  unfold SparseCore.Cfg.tcRes SparseCore.Cfg.tcEnd
  rw [show (unscopedBufs d (fun b => m ((SparseCore.T d).loc b)) : sProp (MM F)) = held (SparseCore.T d) ucRefs (V0 m d) from
    unscopedBufs_held d (V0 m d), main_eq, wp_bind]
  iintro ⟨#Hctx, Hst, ⟨Hb, Hheld, Hts, -⟩, Hg⟩
  iapply (StableHlo.wp_hlo_within 𝒱 (SparseCore.T d) none Set.univ (op := opFirst (F := F)) (S := ucRefs) opFirst_bufs (V := V0 m d)) $$ [Hb Hheld]
  · isplitl [Hb]; · iexact Hb
    iexact Hheld
  iintro ⟨Hb, Hheld⟩
  rw [wp_ret]; imodintro
  rw [wp_bind]
  ihave Hh := (Entails.of_eq (show (held (SparseCore.T d) ucRefs ((opFirst (F := F)).result (V0 m d)) : sProp (MM F)) = _ from held_zo (F := F) d (V1 m d))) $$ Hheld
  icases Hh with ⟨Hz, Ho, Hrest⟩
  ihave Ht := (take (F := F) d (frames m) hz (V1 m d oR)) $$ [Hz Ho]
  · isplitl [Hz]
    · rw [V1_z]; iexact Hz
    iexact Ho
  icases Ht with ⟨Hk, Hgo⟩
  iapply ((K (F := F)).wp_run (D (F := F)) 𝒱 (EH := EH) (P := P (frames m) hz) κ d 0)
  isplitr; · iexact Hctx
  isplitl [Hst]; · iexact Hst
  isplitl [Hgo]; · iexact Hgo
  iintro ⟨Hst, Hdn⟩
  ihave Hback := (give (F := F) d (frames m) hz) $$ [Hk Hdn]
  · isplitl [Hk]; · iexact Hk
    iexact Hdn
  icases Hback with ⟨Hz, Ho⟩
  ihave Hheld := (Entails.of_eq (held_zo (F := F) d (V2 m hz d)).symm) $$ [Hz Ho Hrest]
  · rw [V2_o, V2_of_ne m hz d zR (by decide), V1_z, ← held_rest]
    isplitl [Hz]; · iexact Hz
    isplitl [Ho]; · iexact Ho
    iexact Hrest
  iapply (StableHlo.wp_seq 𝒱 none Set.univ d ucRefs _ opsMid opsMid_bufs opsMid_fresh (V2 m hz d)) $$ [Hb Hheld]
  · isplitl [Hb]; · iexact Hb
    iexact Hheld
  iintro ⟨Hb, Hheld⟩
  rw [wp_bind]
  ihave Hst' := (Entails.of_eq (show ((K (F := F)).tcSt EH d ((0 : Fin 1).val + 1) : sProp (MM F)) = (K (F := F)).tcSt EH d 1 from rfl)) $$ Hst
  ihave Hi := (tcSt_idle (F := F) d) $$ Hst'
  icases Hi with ⟨Hi, Hst⟩
  ihave #Hlv := (SparseCore.Cfg.ctx_levAts (K := K (F := F)) (P := P (frames m) hz) κ) $$ Hctx
  iapply (region_runs m hz d)
  isplitr [Hb Hheld Hi Hg]
  · iintro ⟨Hb, Hu, Hi⟩
    rw [Prog.pure_eq_ret, wp_ret]
    imodintro
    isplitl [Hst Hi]
    · iapply Hst; iexact Hi
    isplitl [Hu]
    · iapply (Entails.of_eq (unscopedBufs_held (F := F) d (V4 m hz d))); iexact Hu
    isplitl [Hb]; · iexact Hb
    iexact Hts
  isplitl [Hb]; · iexact Hb
  isplitl [Hheld Hi]
  · isplitl [Hheld]
    · iapply (Entails.of_eq (unscopedBufs_held (F := F) d (V3 m hz d)).symm); iexact Hheld
    iexact Hi
  isplitr; · iexact Hlv
  iexact Hg

/-! ### The launch -/

/-- The launch element: the handshakes' rounds, and the rounds of the pipeline's staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp (MM F)) := bigSep_emp_const s

omit [FloatOps F] in
theorem bigSep_one (Φ : Fin 1 → sProp (MM F)) : bigSep Finset.univ Φ = Φ 0 := by
  rw [show (Finset.univ : Finset (Fin 1)) = {0} from rfl, bigSep_singleton]

theorem hu₀ : (ownU (u₀ (F := F)) : sProp (MM F))
    ⊢ |={Set.univ}=> iprop(BI.own (EH (initOf (K (F := F)).hsCells (K (F := F)).hsToks)) ∗ (bigSep Finset.univ fun d : Dev nD => Ghost (F := F) d)
        ∗ bigSep Finset.univ fun t : Thread nD τ => bigSep Finset.univ fun q : Fin 1 => (P (frames m) hz).x q t) := by
  unfold u₀
  iintro Hu
  ihave H := (ownU_pair _ _) $$ Hu
  icases H with ⟨HH, HR⟩
  ihave HR' := (own_pair_emb (embR : Emb (UP × Counters) (MM F)) _ _) $$ HR
  icases HR' with ⟨HP, -⟩
  imod (Pipeline.fund_ghost (nD := nD) (τ := τ) (Pipeline.pin (pcfgs (F := F)) adm) (EP (F := F)) cellOf_inj) $$ HP with ⟨Hg, Ht⟩
  imodintro
  isplitl [HH]; · iexact HH
  isplitl [Hg Ht]
  · unfold Ghost
    rw [bigSep_sep']
    isplitl [Hg]
    · iapply (Entails.of_eq (bigSep_congr fun d _ => bigSep_one _)) $$ Hg
    · iapply (Entails.of_eq (bigSep_congr fun d _ => bigSep_one _)) $$ Ht
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-- At the end every array of the TensorCore is at the named contents. -/
def fq (d : Dev nD) (s' : Phys nD τ sig (Elt F)) : Prop := ∀ b ∈ ucRefs, s'.mem.mem (d, b) = V4 m hz d b

theorem hfin (d : Dev nD) (s' : Phys nD τ sig (Elt F)) : iprop(FIN m hz d ∗ SI s') ⊢ (⌜fq m hz d s'⌝ : sProp (MM F)) := by
  unfold FIN held
  iintro ⟨Hh, HSI⟩
  iapply (SI_pointsTo_bufs_agree (qs := fun _ => fullShare) (F := V4 m hz d) ucRefs)
  isplitl [HSI]; · iexact HSI
  iexact Hh

/-- What the whole program leaves. -/
def Ends : PUnit × MemSt nD τ sig (Elt F) → Prop := fun r => (∀ d : Dev nD, ∀ b ∈ ucRefs, r.2.mem (d, b) = V4 m hz d b) ∧ r.2.sem = fun _ => 0

theorem run_main [∀ e, Nonempty (Elt F e)] :
    θ_run (Cert.KernelIdeal.defs (F := F)) (Cert.KernelIdeal.threads (F := F)) ⟨m, fun _ => 0, ρ⟩ (Ends m hz) :=
  SparseCore.Cfg.θ_run_sc_quiescent (K := K (F := F)) (D := D (F := F)) (𝒱 := 𝒱) (EH := EH) (P := P (frames m) hz) (A := ∅) facts v₀
    (fun q hq => match q with | 0 => nomatch hq)
    (fun q _ => match q with | 0 => tileObl (frames m) hz facts)
    (fun q _ => match q with | 0 => SparseCore.Cfg.VecSplit.of_plain (vecSplit (frames m) hz))
    m ρ main (fun d => Ghost d) (FIN m hz) (u₀ (F := F)) (sep_elim_left.trans (hu₀ m hz)) (hmain m ρ hz) (fq m hz) (hfin m hz) (Ends m hz)
    (fun _ h hs => ⟨h, hs⟩)

/-! ### The arguments are kept -/

theorem V4_arg (d : Dev nD) (r : Ref sig .tc) (hr : r ∉ [main_v0, main_v1, main_v2, main_v3, main_cst, main_v4, main_v5, main_v6, main_v7]) :
    V4 m hz d (Proc.devRef .tc r) = m (d, Proc.devRef .tc r) := by
  have ne : ∀ r' : Ref sig .tc, r' ∈ [main_v0, main_v1, main_v2, main_v3, main_cst, main_v4, main_v5, main_v6, main_v7] →
      (Proc.devRef .tc r : DevRef τ sig) ≠ Proc.devRef .tc r' := fun r' h e => hr (by rw [Proc.devRef_injective _ e]; exact h)
  rw [V4_of_ne m hz d _ (ne main_v7 (by decide))]
  unfold V3
  rw [StableHlo.after_of_forall_not_mem _ _ ?_, V2_of_ne m hz d _ (ne main_v1 (by decide))]
  · unfold V1 opFirst
    exact StableHlo.unary_result_ne _ _ _ _ _ _ (fun e => ne main_v0 (by decide) (by rw [e]))
  · intro op h
    simp only [opsMid, List.mem_cons, List.not_mem_nil, or_false] at h
    rcases h with rfl | rfl | rfl | rfl | rfl | rfl
    · rw [StableHlo.reshape_writes, Finset.mem_singleton]; exact ne main_v2 (by decide)
    · rw [StableHlo.unary_writes, Finset.mem_singleton]; exact ne main_v3 (by decide)
    · rw [StableHlo.nullary_writes, Finset.mem_singleton]; exact ne main_cst (by decide)
    · rw [StableHlo.unary_writes, Finset.mem_singleton]; exact ne main_v4 (by decide)
    · rw [StableHlo.binary_writes, Finset.mem_singleton]; exact ne main_v5 (by decide)
    · rw [StableHlo.reshape_writes, Finset.mem_singleton]; exact ne main_v6 (by decide)

end Run

end Cert.Hist
-- ==== Proof.Frames.lean ====
/-
  The frames of the kernel, at the machine's own floats and at the ideal ones, from the one run. The precondition
  says that every colour lies between 0 and 255; that is what makes every histogram index lie inside the table.
-/
module

public import proofs.«01_k».proof.Defs
public import proofs.«01_k».proof.Proof.Launch
public import proofs.«01_k».proof.Proof.Gen.Kernel
public import proofs.«01_k».proof.Proof.Gen.Pre_colours_in_range
public import Idealize.ShloMosaic.Lib.ReduceAll
public import Idealize.ShloMosaic.Lib.Pointwise

@[expose] public section

noncomputable section

namespace Cert.Hist

open Cert.KernelIdeal Cert.KernelIdeal.Gen
open Idealize.ShloMosaic Idealize.SL.Sem

variable {F : FTy → Type} [FloatOps F]

attribute [local instance] Cert.Pre_colours_in_range.Gen.facts

/-- A signed word between 0 and 255 is its own value below 256. -/
theorem low_of_between (v : BitVec 32) (e : IntOp.andi (IntOp.cmpi .sge v 0#32) (IntOp.cmpi .slt v 256#32) = 1#1) : v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition read: every colour of the frames is below 256. -/
theorem low_of_pre (x : IVec S16x200x27x48x3 32) (w : FVec F S128x101 .f32) (b : FVec F S128 .f32)
    (h : Cert.Pre_colours_in_range.fn (F := F) x w b = fun _ => 1#1) (p : S16x200x27x48x3.Idx) : (x p).toNat < 256 := by
  haveI : Subsingleton Cert.Pre_colours_in_range.S_.Idx := ⟨fun a b => funext fun i => i.elim0⟩
  have e := Host.reduce_andi_all _ _ _ _ _ (congrFun h fun i => i.elim0) p
  exact low_of_between _ e

/-- The transposed frames hold the same colours. -/
theorem frames_low (m : (ℓ : Loc nD τ sig) → Buf (Elt F) ℓ)
    (h : ∀ c : Dev nD, Cert.Pre_colours_in_range.fn (F := F) (m ((c.tc : Thread nD τ).loc main_arg0)) (m ((c.tc : Thread nD τ).loc main_arg1)) (m ((c.tc : Thread nD τ).loc main_arg2)) = fun _ => 1#1)
    (d : Dev nD) : LowF (frames m d) := fun p => low_of_pre (F := F) _ _ _ (h d) _

/-- What the run leaves in an argument: what was there. -/
theorem arg_kept (m : (ℓ : Loc nD τ sig) → Buf (Elt F) ℓ) (hz : ∀ d, LowF (frames m d))
    (r : PUnit × MemSt nD τ sig (Elt F)) (h : Ends m hz r) (c : Dev nD) (a : Ref sig .tc) (ha : Proc.devRef .tc a ∈ ucRefs)
    (hn : a ∉ [main_v0, main_v1, main_v2, main_v3, main_cst, main_v4, main_v5, main_v6, main_v7]) :
    r.2.mem ((c.tc : Thread nD τ).loc a) = m ((c.tc : Thread nD τ).loc a) :=
  (h.1 c _ ha).trans (V4_arg m hz c a hn)

/-- The run leaves the three arguments as they were, and every counter at zero. -/
theorem frame_any [∀ e, Nonempty (Elt F e)] (m : (ℓ : Loc nD τ sig) → Buf (Elt F) ℓ) (g : Dev nD → PrngReg) (hz : ∀ d, LowF (frames m d)) :
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run Cert.KernelIdeal.defs _ _).mono
    (fun r h => ⟨fun c => ⟨arg_kept m hz r h c main_arg0 (by decide) (by decide),
      arg_kept m hz r h c main_arg1 (by decide) (by decide),
      arg_kept m hz r h c main_arg2 (by decide) (by decide)⟩, h.2⟩)
    (run_main (F := F) m g hz)

theorem frame_kernelIdeal : Cert.quiescent_KernelIdeal := fun m g hpre => frame_any (F := Ideal) m g (frames_low m hpre)

/-- The two printed texts of the program define the same kernels. -/
theorem bodies_eq : Cert.Kernel.defs₀ (F := F) = Cert.KernelIdeal.defs₀ (F := F) := by
  funext p ℓ a
  cases p <;> fin_cases ℓ <;> rfl
theorem defs_eq : Cert.Kernel.defs (F := F) = Cert.KernelIdeal.defs (F := F) :=
  congrArg (fun d => Cert.KernelIdeal.sc.defs (Pipeline.defs Cert.KernelIdeal.pcfgs d)) bodies_eq

theorem frame_kernel : Cert.quiescent_Kernel := fun m g hpre => by
  rw [defs_eq]
  exact frame_any (F := Bits) m g (frames_low (F := Bits) m hpre)

end Cert.Hist

end
-- ==== Proof.Sums.lean ====
/-
  Sums over natural numbers, cut into blocks: what the counting loops add up to.
-/
module

public import Mathlib.Algebra.BigOperators.Intervals
public import Mathlib.Tactic.Ring

@[expose] public section

namespace Cert.Hist

open Finset

/-- A sum over `a * b` numbers as `a` sums over `b`. -/
theorem sum_blocks (f : ℕ → ℕ) (a b : ℕ) : ∑ n ∈ range (a * b), f n = ∑ i ∈ range a, ∑ j ∈ range b, f (i * b + j) := by
  induction a with
  | zero => simp
  | succ a ih => rw [Nat.succ_mul, sum_range_add, ih, sum_range_succ]

/-- One of sixteen-lane groups that cover two hundred columns: column `u` is asked for by group `u / 16` alone, in one lane. -/
theorem group_sum (lb : ℕ → ℕ) (hlb : ∀ u, lb u < 512) (u c : ℕ) (hu : u < 200) (hc : c < 512) :
    (∑ q ∈ range 16, ∑ x ∈ range 16, if 16 * q ≤ min (16 * q) 184 + x ∧ (min (16 * q) 184 + x) * 512 + lb (min (16 * q) 184 + x) = u * 512 + c then 1 else 0)
      = if lb u = c then 1 else 0 := by
  have key : ∀ q x, (16 * q ≤ min (16 * q) 184 + x ∧ (min (16 * q) 184 + x) * 512 + lb (min (16 * q) 184 + x) = u * 512 + c)
      ↔ (16 * q ≤ u ∧ min (16 * q) 184 + x = u ∧ lb u = c) := by
    intro q x
    have h := hlb (min (16 * q) 184 + x)
    constructor
    · rintro ⟨h1, h2⟩
      have e : min (16 * q) 184 + x = u := by omega
      rw [e] at h1 h2
      exact ⟨h1, e, by omega⟩
    · rintro ⟨h1, h2, h3⟩
      rw [h2]
      exact ⟨h1, by omega⟩
  simp only [key]
  rw [sum_eq_single (u / 16), sum_eq_single (u - min (16 * (u / 16)) 184)]
  · refine if_congr ?_ rfl rfl
    constructor
    · exact fun h => h.2.2
    · exact fun h => ⟨by omega, by omega, h⟩
  · intro x _ hx
    rw [if_neg]
    rintro ⟨_, h, _⟩; omega
  · intro h; simp only [mem_range] at h; omega
  · intro q _ hq
    refine sum_eq_zero fun x hx => if_neg ?_
    rintro ⟨h1, h, _⟩
    simp only [mem_range] at hx
    omega
  · intro h; simp only [mem_range] at h; omega

/-- The trips over a chunk count, at column `u` and bin `c`, the chunk's pixels of that column and bin. -/
theorem trip_sum (lb : ℕ → ℕ → ℕ) (hlb : ∀ w u, lb w u < 512) (u c : ℕ) (hu : u < 200) (hc : c < 512) :
    (∑ t ∈ range 256, ∑ x ∈ range 16, if 16 * (t % 16) ≤ min (16 * (t % 16)) 184 + x
        ∧ (min (16 * (t % 16)) 184 + x) * 512 + lb (t / 16) (min (16 * (t % 16)) 184 + x) = u * 512 + c then 1 else 0)
      = ∑ w ∈ range 16, if lb w u = c then 1 else 0 := by
  rw [show 256 = 16 * 16 from rfl, sum_blocks]
  refine sum_congr rfl fun w _ => ?_
  rw [← group_sum (lb w) (hlb w) u c hu hc]
  refine sum_congr rfl fun q hq => ?_
  simp only [mem_range] at hq
  rw [show (w * 16 + q) % 16 = q by omega, show (w * 16 + q) / 16 = w by omega]

/-- The chunks of `R` rows: three blocks of sixteen columns each. -/
theorem chunk_sum (f : ℕ → ℕ → ℕ) (R : ℕ) :
    (∑ k ∈ range (R * 3), ∑ w ∈ range 16, f (k / 3) (16 * (k % 3) + w)) = ∑ r ∈ range R, ∑ w ∈ range 48, f r w := by
  rw [sum_blocks]
  refine sum_congr rfl fun r _ => ?_
  rw [show 48 = 3 * 16 from rfl, sum_blocks]
  refine sum_congr rfl fun j hj => ?_
  simp only [mem_range] at hj
  rw [show (r * 3 + j) / 3 = r by omega, show (r * 3 + j) % 3 = j by omega, Nat.mul_comm]

/-- The two halves of the rows. -/
theorem half_sum (f : ℕ → ℕ) : (∑ r ∈ range 14, f r) + (∑ r ∈ range 13, f (14 + r)) = ∑ r ∈ range 27, f r :=
  (sum_range_add f 14 13).symm

/-- A count over all the pixels of all the images, at image `r` and bin `c`, is the count over that image's pixels. -/
theorem image_sum (bin : ℕ → ℕ → ℕ) (n m r c : ℕ) (hr : r < n) (hbin : ∀ i j, bin i j < 512) (hc : c < 512) :
    (∑ k ∈ range (n * m), if k / m * 512 + bin (k / m) (k % m) = r * 512 + c then 1 else 0) = ∑ j ∈ range m, if bin r j = c then 1 else 0 := by
  rw [sum_blocks, sum_eq_single r]
  · refine sum_congr rfl fun j hj => ?_
    simp only [mem_range] at hj
    have hm : 0 < m := by omega
    rw [Nat.mul_comm r m, Nat.mul_add_div hm, Nat.div_eq_of_lt hj, Nat.mul_add_mod, Nat.mod_eq_of_lt hj, Nat.add_zero]
    exact if_congr ⟨fun h => by omega, fun h => by omega⟩ rfl rfl
  · intro i _ hi
    refine sum_eq_zero fun j hj => if_neg ?_
    simp only [mem_range] at hj
    have hm : 0 < m := by omega
    rw [Nat.mul_comm i m, Nat.mul_add_div hm, Nat.div_eq_of_lt hj, Nat.mul_add_mod, Nat.mod_eq_of_lt hj, Nat.add_zero]
    have := hbin i j
    omega
  · intro h; simp only [mem_range] at h; omega

end Cert.Hist
-- ==== Proof.Spec.lean ====
/-
  The function that both programs compute, on the extended reals: the colour histogram of every frame, scaled to length
  one, the inner products of frames at most fifty apart, and the linear layer over them.
-/
module

public import proofs.«01_k».proof.Proof.Sums
public import proofs.«01_k».proof.Proof.Bins
public import Idealize.ShloMosaic.Lib.ValueIdx
public import Idealize.ShloMosaic.PureOps.Ideal
public import Idealize.ShloMosaic.PureOps.Ideal.Laws

@[expose] public section

noncomputable section

namespace Cert.Hist

open Idealize.ShloMosaic Idealize.ShloMosaic.ValueIdx Finset

/-- The frames: sixteen films of two hundred frames of 27 by 48 pixels in three colours. -/
abbrev Films : Type := (⟨5, ![16, 200, 27, 48, 3]⟩ : Shape).Idx → BitVec 32

/-- A colour of a pixel; zero outside the frame. -/
def pixN (x : Films) (b : Fin 16) (t : Fin 200) (ch : Fin 3) (h w : ℕ) : ℕ :=
  if hw : h < 27 ∧ w < 48 then (x (ix5 b t ⟨h, hw.1⟩ ⟨w, hw.2⟩ ch)).toNat else 0

/-- The bin of a pixel. -/
def binN (x : Films) (b : Fin 16) (t : Fin 200) (h w : ℕ) : ℕ := binOf (pixN x b t 0 h w) (pixN x b t 1 h w) (pixN x b t 2 h w)

theorem pixN_lt (x : Films) (hx : ∀ p, (x p).toNat < 256) (b : Fin 16) (t : Fin 200) (ch : Fin 3) (h w : ℕ) : pixN x b t ch h w < 256 := by
  unfold pixN
  split
  · exact hx _
  · decide

theorem binN_lt (x : Films) (hx : ∀ p, (x p).toNat < 256) (b : Fin 16) (t : Fin 200) (h w : ℕ) : binN x b t h w < 512 :=
  binOf_lt _ _ _ (pixN_lt x hx b t 0 h w) (pixN_lt x hx b t 1 h w) (pixN_lt x hx b t 2 h w)

/-- The pixels of row `h` of a frame that fall in bin `c`; the pixels of the frame that do. -/
def rowCnt (x : Films) (b : Fin 16) (t : Fin 200) (c h : ℕ) : ℕ := ∑ w ∈ range 48, if binN x b t h w = c then 1 else 0
def cnt (x : Films) (b : Fin 16) (t : Fin 200) (c : ℕ) : ℕ := ∑ h ∈ range 27, rowCnt x b t c h

/-- The squared length of a frame's histogram. -/
def sqLen (x : Films) (b : Fin 16) (t : Fin 200) : ℕ := ∑ c ∈ range 512, cnt x b t c * cnt x b t c

/-- The histogram scaled to length one. -/
def feat (x : Films) (b : Fin 16) (t : Fin 200) (c : Fin 512) : EReal := (((cnt x b t c.val : ℝ) * (Real.sqrt (sqLen x b t : ℝ))⁻¹ : ℝ) : EReal)

/-- The inner product of two frames of a film. -/
def simil (x : Films) (b : Fin 16) (t s : Fin 200) : EReal := ∑ c : Fin 512, feat x b t c * feat x b s c

/-- The inner product of frame `t` with the frame `j - 50` later; zero beyond the film's ends. -/
def near (x : Films) (b : Fin 16) (t : Fin 200) (j : ℕ) : EReal :=
  if h : 50 ≤ t.val + j ∧ t.val + j < 250 then simil x b t ⟨t.val + j - 50, by omega⟩ else 0

/-- The layer's output. -/
def outAt (x : Films) (W : (⟨2, ![128, 101]⟩ : Shape).Idx → EReal) (β : (⟨1, ![128]⟩ : Shape).Idx → EReal) (b : Fin 16) (t : Fin 200) (o : Fin 128) : EReal :=
  max ((∑ j : Fin 101, near x b t j.val * W (ix2 o j)) + β (ix1 o)) 0

/-! ### The length is not zero -/

theorem sum_bins (x : Films) (hx : ∀ p, (x p).toNat < 256) (b : Fin 16) (t : Fin 200) : ∑ c ∈ range 512, cnt x b t c = 1296 := by
  unfold cnt rowCnt
  rw [sum_comm]
  have h : ∀ h ∈ range 27, (∑ c ∈ range 512, ∑ w ∈ range 48, if binN x b t h w = c then 1 else 0) = 48 := by
    intro h _
    rw [sum_comm]
    have : ∀ w ∈ range 48, (∑ c ∈ range 512, if binN x b t h w = c then 1 else 0) = 1 := by
      intro w _
      rw [sum_ite_eq, if_pos (mem_range.mpr (binN_lt x hx b t h w))]
    rw [sum_congr rfl this]; simp
  rw [sum_congr rfl h]; simp

theorem cnt_le (x : Films) (b : Fin 16) (t : Fin 200) (c : ℕ) : cnt x b t c ≤ 1296 := by
  unfold cnt rowCnt
  refine (sum_le_sum fun h _ => sum_le_sum fun w _ => (show (if binN x b t h w = c then 1 else 0) ≤ 1 by split <;> omega)).trans ?_
  simp

theorem sqLen_pos (x : Films) (hx : ∀ p, (x p).toNat < 256) (b : Fin 16) (t : Fin 200) : 1 ≤ sqLen x b t := by
  by_contra hlt
  have h0 : sqLen x b t = 0 := by omega
  have h1 := sum_bins x hx b t
  unfold sqLen at h0
  rw [sum_eq_zero_iff] at h0
  have : ∑ c ∈ range 512, cnt x b t c = 0 := sum_eq_zero fun c hc => by simpa using h0 c hc
  omega

end Cert.Hist

end
-- ==== Proof.Counts.lean ====
/-
  What a subcore counts, at the ideal floats: every entry of its table is the number of its pixels of that frame and bin.
-/
module

public import proofs.«01_k».proof.Proof.Spec
public import proofs.«01_k».proof.Proof.Launch
public import Idealize.ShloMosaic.Lib.IdealHost

@[expose] public section

noncomputable section

namespace Cert.Hist

open Cert.KernelIdeal Cert.KernelIdeal.Gen
open Idealize.ShloMosaic Idealize.ShloMosaic.ValueIdx Finset

/-- A scatter that adds ones, onto natural numbers: each entry grows by the number of its lanes. -/
theorem store_ones {s : Shape} {d : Fin 1 → ℕ} (idxs : Fin s.rank → IVec ⟨1, d⟩ 32) (v : Vec Ideal ⟨1, d⟩ .f32) (mask : IVec ⟨1, d⟩ 1)
    (h : ∀ a x, (idxs a x).toNat < s.size a) (hv : ∀ x, v x = (1 : EReal)) (f : Vec Ideal s .f32) (g : s.Idx → ℕ)
    (hfg : ∀ p, f p = ((g p : ℕ) : EReal)) (p : s.Idx) :
    storeIdx f idxs v mask true h p
      = ((g p + ((List.finRange (d 0)).map fun k => if mask (Shape.ofLane k) = 1 ∧ p = idxAt idxs h (Shape.ofLane k) then 1 else 0).sum : ℕ) : EReal) := by
  unfold storeIdx
  generalize List.finRange (d 0) = L
  induction L generalizing f g with
  | nil => simp [hfg]
  | cons k L ih =>
    rw [List.foldl_cons, ih _ (fun j => g j + if mask (Shape.ofLane k) = 1 ∧ j = idxAt idxs h (Shape.ofLane k) then 1 else 0)]
    · rw [List.map_cons, List.sum_cons, Nat.add_assoc]
    · intro j
      dsimp only
      by_cases hk : mask (Shape.ofLane k) = 1
      · rw [if_pos hk]
        by_cases hj : j = idxAt idxs h (Shape.ofLane k)
        · have hl : ∀ a, (j a).val = (idxAt idxs h (Shape.ofLane k) a).val := fun a => by rw [hj]
          rw [if_pos hl, if_pos rfl, if_pos (show mask (Shape.ofLane k) = 1 ∧ j = idxAt idxs h (Shape.ofLane k) from ⟨hk, hj⟩), ← hj, Elt.idxAdd_f32, hv, hfg]
          simp
        · have : ¬ ∀ a, (j a).val = (idxAt idxs h (Shape.ofLane k) a).val := fun h => hj (funext fun a => Fin.ext (h a))
          rw [if_neg this, if_neg (fun h => hj h.2), hfg, Nat.add_zero]
      · rw [if_neg hk, if_neg (fun h => hk h.1), hfg, Nat.add_zero]

theorem ones_val (x : S16.Idx) : (k0_pay8 (F := Ideal)) x = (1 : EReal) := Ideal.ofBits_one_f32

/-- The pixel's bin in a chunk: row `w` of the chunk, column `u`. -/
def chunkBin (w : Pix Ideal) (r u : ℕ) : ℕ :=
  if h : r < 16 ∧ u < 200 then binOf (w (ix3 0 ⟨r, h.1⟩ ⟨u, h.2⟩)).toNat (w (ix3 1 ⟨r, h.1⟩ ⟨u, h.2⟩)).toNat (w (ix3 2 ⟨r, h.1⟩ ⟨u, h.2⟩)).toNat else 0

theorem chunkBin_lt (w : Pix Ideal) (hw : Low w) (r u : ℕ) : chunkBin w r u < 512 := by
  unfold chunkBin
  split
  · exact binOf_lt _ _ _ (hw _) (hw _) (hw _)
  · decide

theorem pixAt_eq (w : Pix Ideal) (t : Fin k0_t2_loop.trips) (c : Fin 3) (x : Fin 16) (h : t.val / 16 < 16) (h' : min (16 * (t.val % 16)) 184 + x.val < 200) :
    pixAt w t c x = w (ix3 c ⟨t.val / 16, h⟩ ⟨min (16 * (t.val % 16)) 184 + x.val, h'⟩) := by
  unfold pixAt
  congr 1
  funext a
  match a with
  | 0 => rfl
  | 1 => rfl
  | 2 => rfl

theorem laneBin_eq (w : Pix Ideal) (t : Fin k0_t2_loop.trips) (x : Fin 16) :
    laneBin w t x = chunkBin w (t.val / 16) (min (16 * (t.val % 16)) 184 + x.val) := by
  have ht : t.val < 256 := lt_of_lt_of_eq t.isLt trips_eq
  have hx := x.isLt
  have h : t.val / 16 < 16 ∧ min (16 * (t.val % 16)) 184 + x.val < 200 := ⟨by omega, by omega⟩
  unfold laneBin chunkBin
  rw [dif_pos h, pixAt_eq w t 0 x h.1 h.2, pixAt_eq w t 1 x h.1 h.2, pixAt_eq w t 2 x h.1 h.2]

/-- How many lanes of trip `t` count at position `p`. -/
def tripCnt (w : Pix Ideal) (p t : ℕ) : ℕ :=
  ∑ x ∈ range 16, if 16 * (t % 16) ≤ min (16 * (t % 16)) 184 + x
    ∧ (min (16 * (t % 16)) 184 + x) * 512 + chunkBin w (t / 16) (min (16 * (t % 16)) 184 + x) = p then 1 else 0

theorem tripVal_nat (w : Pix Ideal) (hw : Low w) (hg : Good w) (t : Fin k0_t2_loop.trips) (f : Cnt Ideal) (g : S102400.Idx → ℕ)
    (hfg : ∀ p, f p = ((g p : ℕ) : EReal)) (p : S102400.Idx) :
    tripVal w hg t f p = ((g p + tripCnt w (p 0).val t.val : ℕ) : EReal) := by
  unfold tripVal
  rw [store_ones _ _ _ _ ones_val f g hfg p]
  refine congrArg (fun n : ℕ => ((g p + n : ℕ) : EReal)) ?_
  unfold tripCnt
  rw [Finset.sum_range, ← List.sum_ofFn, List.ofFn_eq_map]
  show _ = List.sum ((List.finRange 16).map _)
  refine congrArg List.sum (List.map_congr_left fun k _ => ?_)
  refine if_congr (and_congr ?_ ?_) rfl rfl
  · have hm : k0_pay11 lanes t (Shape.ofLane k : S16.Idx) = if 16 * (t.val % 16) ≤ min (16 * (t.val % 16)) 184 + k.val then 1#1 else 0#1 := mask_val t _
    rw [hm]
    split <;> simp_all
  · have hi : (idxs w t (Shape.ofLane k : S16.Idx)).toNat = (min (16 * (t.val % 16)) 184 + k.val) * 512 + chunkBin w (t.val / 16) (min (16 * (t.val % 16)) 184 + k.val) :=
      (idxs_val w hw t _).trans (congrArg (_ + ·) (laneBin_eq w t k))
    constructor
    · rintro rfl; exact hi.symm
    · intro h
      funext a
      obtain rfl : a = (0 : Fin 1) := Subsingleton.elim (α := Fin 1) a 0
      exact Fin.ext (h.symm.trans hi.symm)

/-- A chunk's counts: at column `u` and bin `c`, its pixels of that column and bin. -/
theorem count_nat (w : Pix Ideal) (hw : Low w) (hg : Good w) (f : Cnt Ideal) (g : S102400.Idx → ℕ)
    (hfg : ∀ p, f p = ((g p : ℕ) : EReal)) (p : S102400.Idx) (u c : ℕ) (hu : u < 200) (hc : c < 512) (hp : (p 0).val = u * 512 + c) :
    count w hg f p = ((g p + ∑ r ∈ range 16, (if chunkBin w r u = c then 1 else 0) : ℕ) : EReal) := by
  have key : ∀ n, n ≤ 256 → ∀ q : S102400.Idx, countTo w hg f n q = ((g q + ∑ t ∈ range n, tripCnt w (q 0).val t : ℕ) : EReal) := by
    intro n
    induction n with
    | zero => intro _ q; simp [countTo, hfg]
    | succ n ih =>
      intro hn q
      have hlt : n < k0_t2_loop.trips := lt_of_lt_of_eq (by omega) trips_eq.symm
      rw [countTo, dif_pos hlt, tripVal_nat w hw hg ⟨n, hlt⟩ _ _ (ih (by omega)) q, sum_range_succ, Nat.add_assoc]
  have h := (congrArg (fun n => countTo w hg f n p) trips_eq).trans (key 256 le_rfl p)
  have e : ∑ t ∈ range 256, tripCnt w (p 0).val t = ∑ r ∈ range 16, (if chunkBin w r u = c then 1 else 0) := by
    rw [hp]
    exact trip_sum (chunkBin w) (chunkBin_lt w hw) u c hu hc
  rw [e] at h
  exact h

theorem zero_nat (p : S102400.Idx) : zeroCnt (F := Ideal) p = ((0 : ℕ) : EReal) := by
  show Ideal.ofBits .f32 0x00000000#32 = _
  simp

end Cert.Hist

end
-- ==== Proof.KerCnt.lean ====
/-
  The two subcores of a film together count its histogram: a chunk of the transposed frames holds sixteen pixel columns of
  one pixel row, for all the frames of a film; one subcore takes the first fourteen rows and the other the last thirteen.
-/
module

public import proofs.«01_k».proof.Proof.Counts

@[expose] public section

noncomputable section

namespace Cert.Hist

open Cert.KernelIdeal Cert.KernelIdeal.Gen
open Idealize.ShloMosaic Idealize.ShloMosaic.ValueIdx Finset

/-- What the program's memory holds. -/
abbrev Mems (F : FTy → Type) : Type := (b : Loc nD τ sig) → Buf (Elt F) b

/-- The frames the program is given. -/
abbrev films {F : FTy → Type} (m : Mems F) (d : Dev nD) : Films := m ((SparseCore.T d).loc main_arg0)

theorem frames_apply {F : FTy → Type} [FloatOps F] (m : Mems F) (d : Dev nD)
    (b : Fin 16) (h : Fin 27) (ch : Fin 3) (w : Fin 48) (t : Fin 200) : frames m d (ix5 b h ch w t) = films m d (ix5 b t h w ch) := by
  unfold frames
  refine transpose_apply _ _ _ _ (ix5 b t h w ch) ?_
  intro a
  fin_cases a <;> rfl

theorem chunk_apply {F : FTy → Type} [FloatOps F] (i : grid0.Coords) (zf : Frames F) (k : ℕ) (hk : k ≤ more i) (c : Fin 3) (r : Fin 16) (u : Fin 200)
    (b : Fin 16) (hb : b.val = (i 1).val) (h : Fin 27) (hh : h.val = 14 * (i 0).val + k / 3) (w : Fin 48) (hw : w.val = 16 * (k % 3) + r.val) :
    chunkOf i zf k (ix3 c r u) = zf (ix5 b h c w u) := by
  have hf : Fits i k := fits i k (by omega)
  have hk' : k < 42 := by unfold more at hk; split at hk <;> omega
  unfold chunkOf
  rw [dif_pos hf]
  refine (congrFun (Memref.read_squeeze_slice zW (Rect.unit (s := S16x27x3x48x200) (chOff i k) S1x1x3x16x200.size hf) (fun _ => rfl)
    squeezes_S1x1x3x16x200_S3x16x200 squeezes_S1x1x3x16x200_S3x16x200.numel_eq zf) (ix3 c r u)).trans ?_
  refine (shapeCast_apply (s := S1x1x3x16x200) (t := S3x16x200) _ _ (ix3 c r u) (ix5 0 0 c r u) ?_).trans ?_
  · rw [Shape.rowMajor_val_three, Shape.rowMajor_val_five]
    show (((0 * 1 + 0) * 3 + c.val) * 16 + r.val) * 200 + u.val = (c.val * 16 + r.val) * 200 + u.val
    omega
  · refine congrArg zf (funext fun a => Fin.ext ?_)
    have e := chOff_val i k hk'
    have e' : ∀ a, chOff i k a = ![(i 1).val, 14 * (i 0).val + k / 3, 0, 16 * (k % 3), 0] a := congrFun e
    fin_cases a
    · show chOff i k 0 + 1 * 0 = b.val; rw [e']; show (i 1).val + 1 * 0 = _; omega
    · show chOff i k 1 + 1 * 0 = h.val; rw [e']; show 14 * (i 0).val + k / 3 + 1 * 0 = _; omega
    · show chOff i k 2 + 1 * c.val = c.val; rw [e']; show 0 + 1 * c.val = _; omega
    · show chOff i k 3 + 1 * r.val = w.val; rw [e']; show 16 * (k % 3) + 1 * r.val = _; omega
    · show chOff i k 4 + 1 * u.val = u.val; rw [e']; show 0 + 1 * u.val = _; omega

/-- A chunk's bins are the frame's, at the chunk's row and columns. -/
theorem chunkBin_frames (m : Mems Ideal) (d : Dev nD) (i : grid0.Coords) (k : ℕ) (hk : k ≤ more i) (r u : ℕ)
    (hr : r < 16) (hu : u < 200) (b : Fin 16) (hb : b.val = (i 1).val) :
    chunkBin (chunkOf i (frames m d) k) r u = binN (films m d) b ⟨u, hu⟩ (14 * (i 0).val + k / 3) (16 * (k % 3) + r) := by
  have hi0 : (i 0).val < 2 := (i 0).isLt
  have hp : 14 * (i 0).val + k / 3 < 27 ∧ 16 * (k % 3) + r < 48 := by
    unfold more at hk; constructor
    · split at hk <;> omega
    · omega
  have e : ∀ c : Fin 3, ((chunkOf i (frames m d) k) (ix3 c ⟨r, hr⟩ ⟨u, hu⟩)).toNat = pixN (films m d) b ⟨u, hu⟩ c (14 * (i 0).val + k / 3) (16 * (k % 3) + r) := by
    intro c
    unfold pixN
    rw [dif_pos hp, chunk_apply i _ k hk c ⟨r, hr⟩ ⟨u, hu⟩ b hb ⟨_, hp.1⟩ rfl ⟨_, hp.2⟩ rfl, frames_apply]
  unfold chunkBin binN
  rw [dif_pos ⟨hr, hu⟩, e, e, e]

theorem counts_nat (zf : Frames Ideal) (hz : LowF zf) (i : grid0.Coords) (n : ℕ) : ∀ p : S102400.Idx,
    counts i zf (good_chunk zf hz i) n p
      = ((∑ k ∈ range n, ∑ r ∈ range 16, if chunkBin (chunkOf i zf k) r ((p 0).val / 512) = (p 0).val % 512 then 1 else 0 : ℕ) : EReal) := by
  induction n with
  | zero => intro p; rw [counts, zero_nat]; simp
  | succ n ih =>
    intro p
    have hp : (p 0).val < 102400 := (p 0).isLt
    rw [counts, count_nat _ (low_chunk zf hz i n) _ _ _ ih p ((p 0).val / 512) ((p 0).val % 512) (by omega) (by omega) (by omega)]
    exact congrArg (fun n : ℕ => ((n : ℕ) : EReal)) (sum_range_succ (fun k => ∑ r ∈ range 16, if chunkBin (chunkOf i zf k) r ((p 0).val / 512) = (p 0).val % 512 then 1 else 0) n).symm

/-- What a subcore counts of frame `t` in bin `c`: its rows' pixels. -/
theorem tileCnt_nat (m : Mems Ideal) (d : Dev nD) (hz : LowF (frames m d)) (i : grid0.Coords) (b : Fin 16) (hb : b.val = (i 1).val) (p : S102400.Idx)
    (t : Fin 200) (c : ℕ) (hc : c < 512) (hp : (p 0).val = t.val * 512 + c) (R : ℕ) (hR : more i + 1 = R * 3) :
    tileCnt (frames m d) hz i p = ((∑ r ∈ range R, rowCnt (films m d) b t c (14 * (i 0).val + r) : ℕ) : EReal) := by
  unfold tileCnt
  rw [counts_nat _ hz, hR]
  refine congrArg (fun n : ℕ => ((n : ℕ) : EReal)) ?_
  refine Eq.trans ?_ (chunk_sum (fun r w => if binN (films m d) b t (14 * (i 0).val + r) w = c then 1 else 0) R)
  refine sum_congr rfl fun k hk => sum_congr rfl fun r hr => ?_
  simp only [mem_range] at hk hr
  have ht := t.isLt
  have e1 : (p 0).val / 512 = t.val := by omega
  have e2 : (p 0).val % 512 = c := by omega
  rw [e1, e2, chunkBin_frames m d i k (by omega) r t.val hr ht b hb]

/-- The two subcores of film `b` together: the histogram of frame `t`. -/
theorem two_halves (m : Mems Ideal) (d : Dev nD) (hz : LowF (frames m d)) (b : Fin 16) (t : Fin 200) (c : ℕ) (hc : c < 512) (p q : S3276800.Idx)
    (hp : (p 0).val = b.val * 102400 + t.val * 512 + c) (hq : (q 0).val = (16 + b.val) * 102400 + t.val * 512 + c) :
    allCnt (frames m d) hz p + allCnt (frames m d) hz q = ((cnt (films m d) b t c : ℕ) : EReal) := by
  have hb := b.isLt
  have ht := t.isLt
  have one : ∀ (p : S3276800.Idx) (R : ℕ) (h : ℕ), (p 0).val = (16 * h + b.val) * 102400 + t.val * 512 + c → (h = 0 ∧ R = 14 ∨ h = 1 ∧ R = 13) →
      allCnt (frames m d) hz p = ((∑ r ∈ range R, rowCnt (films m d) b t c (14 * h + r) : ℕ) : EReal) := by
    intro p R h e hh
    have e0 : (p 0).val / 1638400 = h := by omega
    unfold allCnt
    refine (tileCnt_nat m d hz _ b ?_ _ t c hc ?_ R ?_).trans ?_
    · show b.val = (p 0).val / 102400 % 16; omega
    · show (p 0).val % 102400 = _; omega
    · show (if (p 0).val / 1638400 = 0 then 41 else 38) + 1 = _
      rw [e0]; rcases hh with ⟨rfl, rfl⟩ | ⟨rfl, rfl⟩ <;> rfl
    · show ((∑ r ∈ range R, rowCnt (films m d) b t c (14 * ((p 0).val / 1638400) + r) : ℕ) : EReal) = _
      rw [e0]
  have hp' : (p 0).val = (16 * 0 + b.val) * 102400 + t.val * 512 + c := hp.trans (by rw [Nat.mul_zero, Nat.zero_add])
  have hq' : (q 0).val = (16 * 1 + b.val) * 102400 + t.val * 512 + c := hq.trans (by rw [Nat.mul_one])
  rw [one p 14 0 hp' (Or.inl ⟨rfl, rfl⟩), one q 13 1 hq' (Or.inr ⟨rfl, rfl⟩), ← Nat.cast_add]
  refine congrArg (fun n : ℕ => ((n : ℕ) : EReal)) ?_
  refine Eq.trans ?_ (half_sum (rowCnt (films m d) b t c))
  simp only [Nat.mul_zero, Nat.zero_add, Nat.mul_one]

end Cert.Hist

end
-- ==== Proof.KerVal.lean ====
/-
  What the TensorCore body stores, at the ideal floats, from the two halves of a film's histograms: the layer's output.
-/
module

public import proofs.«01_k».proof.Proof.Spec
public import proofs.«01_k».proof.Proof.TcBody
public import Idealize.ShloMosaic.Lib.ValueIdx
public import Idealize.ShloMosaic.Lib.MatmulPlain
public import Idealize.ShloMosaic.Lib.ValueLayout
public import Idealize.ShloMosaic.Lib.IdealHost
public import Idealize.ShloMosaic.Lib.Pipeline.Value

@[expose] public section

noncomputable section

namespace Cert.Hist

open Cert.KernelIdeal Cert.KernelIdeal.Gen
open Idealize.ShloMosaic Idealize.ShloMosaic.ValueIdx Finset

/-! ### Natural numbers among the extended reals -/

theorem nat_real (n : ℕ) : ((n : ℕ) : EReal) = (((n : ℝ)) : EReal) := (EReal.coe_natCast).symm

theorem nat_mul (n k : ℕ) : ((n : ℕ) : EReal) * ((k : ℕ) : EReal) = ((n * k : ℕ) : EReal) := by
  rw [nat_real, nat_real, nat_real, ← EReal.coe_mul, Nat.cast_mul]

theorem nat_sum {ι : Type} (s : Finset ι) (f : ι → ℕ) : (∑ i ∈ s, ((f i : ℕ) : EReal)) = ((∑ i ∈ s, f i : ℕ) : EReal) := by
  classical
  induction s using Finset.induction_on with
  | empty => simp
  | insert a s ha ih => rw [sum_insert ha, sum_insert ha, ih, Nat.cast_add]

theorem one_le_nat (n : ℕ) (h : 1 ≤ n) : (1 : EReal) ≤ ((n : ℕ) : EReal) := by exact_mod_cast h

/-- The least squared length the kernel divides by is at most one. -/
theorem tiny_le : Ideal.ofBits .f32 0x179ABE15#32 ≤ 1 := by
  simp [Ideal.ofBits, Ideal.ieee]
  rw [← EReal.coe_mul, ← EReal.coe_one, EReal.coe_le_coe_iff]
  norm_num

/-- One over the square root of a positive number. -/
theorem rsqrt_nat (n : ℕ) (h : 1 ≤ n) : Ideal.rsqrt ((n : ℕ) : EReal) = (((Real.sqrt (n : ℝ))⁻¹ : ℝ) : EReal) := by
  have h' : (0 : ℝ) < (n : ℝ) := by exact_mod_cast h
  rw [nat_real]
  show (if (n : ℝ) < 0 then (⊥ : EReal) else if (n : ℝ) = 0 then ⊤ else (((Real.sqrt (n : ℝ))⁻¹ : ℝ) : EReal)) = _
  rw [if_neg (not_lt.mpr h'.le), if_neg h'.ne']

/-! ### The padded table of similarities -/

section Table

variable (x : Films) (hx : ∀ p, (x p).toNat < 256) (b : Fin 16) (h₀ h₁ : Vec Ideal S1x1x200x512 .f32)
  (hh : ∀ (t : Fin 200) (c : Fin 512), (h₀ (ix4 0 0 t c) + h₁ (ix4 0 0 t c) : EReal) = ((cnt x b t c.val : ℕ) : EReal))

/-- The film's histograms, and their rows scaled to length one, as the body computes them. -/
def histV : FVec Ideal S200x512 .f32 :=
  addf (shapeCast S200x512 h₀ shapeCasts_S1x1x200x512_S200x512) (shapeCast S200x512 h₁ shapeCasts_S1x1x200x512_S200x512)
def lenV : FVec Ideal S200 .f32 := multiReduction .add [1] S200 (mulf (histV h₀ h₁) (histV h₀ h₁)) 0x00000000#32 reduces_S200x512_S200 (.inl rfl) rfl
def unitV : FVec Ideal S200x512 .f32 :=
  mulf (histV h₀ h₁) (broadcastTo S200x512 (rsqrt (maximumf (shapeCast S200x1 (lenV h₀ h₁) shapeCasts_S200_S200x1)
    (broadcast S200x1 (Scalar.ofBits .f32 0x179ABE15#32)))) broadcasts_S200x1_S200x512)
def similV : FVec Ideal S200x200 .f32 :=
  matmul dot_S200x512_S200x512_S200x200_1_1_0_0_n_n none (unitV h₀ h₁) (unitV h₀ h₁) (constant S200x200 .f32 0x00000000#32)

theorem pay2_eq : k1_pay2 h₀ h₁ = concatenate S200x320 1 [⟨S200x50, broadcast S200x50 (Scalar.ofBits (F := Ideal) .f32 0x00000000#32)⟩, ⟨S200x200, similV h₀ h₁⟩,
    ⟨S200x70, broadcast S200x70 (Scalar.ofBits (F := Ideal) .f32 0x00000000#32)⟩] concatenates_S200x50_S200x200_S200x70_S200x320_d1 := rfl

include hh in
theorem histV_apply (t : Fin 200) (c : Fin 512) : histV h₀ h₁ (ix2 t c) = ((cnt x b t c.val : ℕ) : EReal) := by
  have e : ∀ h : Vec Ideal S1x1x200x512 .f32, shapeCast S200x512 h shapeCasts_S1x1x200x512_S200x512 (ix2 t c) = h (ix4 0 0 t c) := by
    intro h
    refine shapeCast_apply _ _ _ _ ?_
    rw [Shape.rowMajor_val_two, Shape.rowMajor_val_four]
    show ((0 * 1 + 0) * 200 + t.val) * 512 + c.val = t.val * 512 + c.val
    omega
  show (shapeCast S200x512 h₀ shapeCasts_S1x1x200x512_S200x512 (ix2 t c) + shapeCast S200x512 h₁ shapeCasts_S1x1x200x512_S200x512 (ix2 t c) : EReal) = _
  rw [e, e, hh]

include hh in
theorem lenV_apply (t : Fin 200) : lenV h₀ h₁ (ix1 t) = ((sqLen x b t : ℕ) : EReal) := by
  refine (Ideal.multiReduction_add_single _ _ reduces_S200x512_S200 _ _ (ix1 t)).trans ?_
  have e : ∀ k : Fin 512, (mulf (histV h₀ h₁) (histV h₀ h₁)) (reduces_S200x512_S200.lift (ix1 t) k) = ((cnt x b t k.val * cnt x b t k.val : ℕ) : EReal) := by
    intro k
    have ei : reduces_S200x512_S200.lift (ix1 t) k = ix2 t k := by
      funext a; apply Fin.ext
      match a with
      | ⟨0, _⟩ => rfl
      | ⟨1, _⟩ => rfl
    rw [ei]
    show (histV h₀ h₁ (ix2 t k) * histV h₀ h₁ (ix2 t k) : EReal) = _
    rw [histV_apply x b h₀ h₁ hh, nat_mul]
  show (∑ k : Fin 512, (mulf (histV h₀ h₁) (histV h₀ h₁)) (reduces_S200x512_S200.lift (ix1 t) k) : EReal) = _
  rw [sum_congr rfl fun k _ => e k, nat_sum]
  unfold sqLen
  rw [sum_range]

include hx hh in
theorem unitV_apply (t : Fin 200) (c : Fin 512) : unitV h₀ h₁ (ix2 t c) = feat x b t c := by
  have e1 : shapeCast S200x1 (lenV h₀ h₁) shapeCasts_S200_S200x1 (ix2 t 0) = ((sqLen x b t : ℕ) : EReal) := by
    refine (shapeCast_apply _ _ _ (ix1 t) ?_).trans (lenV_apply x b h₀ h₁ hh t)
    rw [Shape.rowMajor_val_two, Shape.rowMajor_val_one]
    show t.val = t.val * 1 + 0
    omega
  have e2 : (rsqrt (maximumf (shapeCast S200x1 (lenV h₀ h₁) shapeCasts_S200_S200x1) (broadcast S200x1 (Scalar.ofBits .f32 0x179ABE15#32)))) (ix2 t 0)
      = (((Real.sqrt (sqLen x b t : ℝ))⁻¹ : ℝ) : EReal) := by
    show Ideal.rsqrt (max (shapeCast S200x1 (lenV h₀ h₁) shapeCasts_S200_S200x1 (ix2 t 0)) (Ideal.ofBits .f32 0x179ABE15#32)) = _
    rw [e1, max_eq_left (tiny_le.trans (one_le_nat _ (sqLen_pos x hx b t))), rsqrt_nat _ (sqLen_pos x hx b t)]
  unfold unitV
  show (histV h₀ h₁ (ix2 t c) * broadcastTo S200x512 _ broadcasts_S200x1_S200x512 (ix2 t c) : EReal) = _
  rw [histV_apply x b h₀ h₁ hh, broadcastTo_apply _ broadcasts_S200x1_S200x512 (ix2 t c) (ix2 t 0) (by intro a; fin_cases a <;> rfl), e2, nat_real, ← EReal.coe_mul]
  rfl

include hx hh in
theorem similV_apply (t s : Fin 200) : similV h₀ h₁ (ix2 t s) = simil x b t s := by
  refine (Ideal.matmul_transposedRhs_apply none (unitV h₀ h₁) (unitV h₀ h₁) (constant S200x200 .f32 0x00000000#32) t s).trans ?_
  show Ideal.ofBits .f32 0x00000000#32 + _ = _
  rw [Ideal.ofBits_zero_f32, zero_add]
  unfold simil
  exact sum_congr rfl fun c _ => by rw [unitV_apply x hx b h₀ h₁ hh, unitV_apply x hx b h₀ h₁ hh]

/-- The padded table at row `t`: fifty zeros, the similarities, zeros. -/
def padN (t : Fin 200) (j : ℕ) : EReal := if h : 50 ≤ j ∧ j < 250 then simil x b t ⟨j - 50, by omega⟩ else 0

include hx hh in
theorem pay2_apply (t : Fin 200) (j : Fin 320) : k1_pay2 h₀ h₁ (ix2 t j) = padN x b t j.val := by
  rw [pay2_eq]
  unfold padN
  have hj := j.isLt
  by_cases h1 : j.val < 50
  · rw [dif_neg (by omega)]
    refine (concatenate_apply_piece (t := S200x320) 1 _ _ (ix2 t j) 0 (by exact (show 0 < 3 by decide)) S200x50 _ rfl rfl 0 rfl (ix2 t ⟨j.val, h1⟩) ?_ ?_).trans Ideal.ofBits_zero_f32
    · intro a ha; fin_cases a
      · rfl
      · exact absurd rfl ha
    · exact Nat.zero_add _
  · by_cases h2 : j.val < 250
    · rw [dif_pos ⟨by omega, h2⟩, ← similV_apply x hx b h₀ h₁ hh]
      refine (concatenate_apply_piece (t := S200x320) 1 _ _ (ix2 t j) 1 (by exact (show 1 < 3 by decide)) S200x200 _ rfl rfl 50 rfl (ix2 t ⟨j.val - 50, by omega⟩) ?_ ?_)
      · intro a ha; fin_cases a
        · rfl
        · exact absurd rfl ha
      · show 50 + (j.val - 50) = j.val; omega
    · rw [dif_neg (by omega)]
      refine (concatenate_apply_piece (t := S200x320) 1 _ _ (ix2 t j) 2 (by exact (show 2 < 3 by decide)) S200x70 _ rfl rfl 250 rfl (ix2 t ⟨j.val - 250, by omega⟩) ?_ ?_).trans Ideal.ofBits_zero_f32
      · intro a ha; fin_cases a
        · rfl
        · exact absurd rfl ha
      · show 250 + (j.val - 250) = j.val; omega

end Table

/-! ### The band -/

theorem turn1_apply (a : FVec Ideal S8x128 .f32) (r : Fin 8) (c : ℕ) (hc : c + 1 < 128) : turn1 a (ix2 r ⟨c, by omega⟩) = a (ix2 r ⟨c + 1, hc⟩) := by
  unfold turn1
  refine (concatenate_pair_apply_left (t := S8x128) (s₁ := S8x127) (s₂ := S8x1) 1 _ _ _ _ rfl (ix2 r ⟨c, by omega⟩) (by intro b; fin_cases b <;> rfl)).trans ?_
  refine extractStridedSlice_apply _ _ _ _ (ix2 r ⟨c + 1, hc⟩) ?_
  intro b; fin_cases b
  · show r.val = 0 + r.val; omega
  · show c + 1 = 1 + c; omega
theorem turn2_apply (a : FVec Ideal S8x128 .f32) (r : Fin 8) (c : ℕ) (hc : c + 2 < 128) : turn2 a (ix2 r ⟨c, by omega⟩) = a (ix2 r ⟨c + 2, hc⟩) := by
  unfold turn2
  refine (concatenate_pair_apply_left (t := S8x128) (s₁ := S8x126) (s₂ := S8x2) 1 _ _ _ _ rfl (ix2 r ⟨c, by omega⟩) (by intro b; fin_cases b <;> rfl)).trans ?_
  refine extractStridedSlice_apply _ _ _ _ (ix2 r ⟨c + 2, hc⟩) ?_
  intro b; fin_cases b
  · show r.val = 0 + r.val; omega
  · show c + 2 = 2 + c; omega
theorem turn4_apply (a : FVec Ideal S8x128 .f32) (r : Fin 8) (c : ℕ) (hc : c + 4 < 128) : turn4 a (ix2 r ⟨c, by omega⟩) = a (ix2 r ⟨c + 4, hc⟩) := by
  unfold turn4
  refine (concatenate_pair_apply_left (t := S8x128) (s₁ := S8x124) (s₂ := S8x4) 1 _ _ _ _ rfl (ix2 r ⟨c, by omega⟩) (by intro b; fin_cases b <;> rfl)).trans ?_
  refine extractStridedSlice_apply _ _ _ _ (ix2 r ⟨c + 4, hc⟩) ?_
  intro b; fin_cases b
  · show r.val = 0 + r.val; omega
  · show c + 4 = 4 + c; omega

theorem hasBit_apply (v : BitVec 32) (r : Fin 8) (c : Fin 128) : hasBit v (ix2 r c) = IntOp.cmpi .sgt (IntOp.andi (BitVec.ofNat 32 r.val) v) 0#32 := by
  have e : rowNo (ix2 r c) = BitVec.ofNat 32 r.val := iota_single_apply _ _ _ _ _ _
  show IntOp.cmpi .sgt (IntOp.andi (rowNo (ix2 r c)) v) 0#32 = _
  rw [e]

theorem bits_val : ∀ r : Fin 8, (IntOp.cmpi .sgt (IntOp.andi (BitVec.ofNat 32 r.val) 1#32) 0#32 = if r.val % 2 = 1 then 1#1 else 0#1)
    ∧ (IntOp.cmpi .sgt (IntOp.andi (BitVec.ofNat 32 r.val) 2#32) 0#32 = if r.val / 2 % 2 = 1 then 1#1 else 0#1)
    ∧ (IntOp.cmpi .sgt (IntOp.andi (BitVec.ofNat 32 r.val) 4#32) 0#32 = if r.val / 4 = 1 then 1#1 else 0#1) := by decide +kernel

theorem sel_one (x y : EReal) : Scalar.select 1#1 x y = x := if_pos rfl
theorem sel_zero (x y : EReal) : Scalar.select 0#1 x y = y := if_neg (by decide)

theorem step1_apply (a : FVec Ideal S8x128 .f32) (r : Fin 8) (c : ℕ) (hc : c + r.val % 2 < 128) : step1 a (ix2 r ⟨c, by omega⟩) = a (ix2 r ⟨c + r.val % 2, hc⟩) := by
  unfold step1
  rw [select_apply, hasBit_apply, (bits_val r).1]
  by_cases h : r.val % 2 = 1
  · rw [if_pos h, sel_one, turn1_apply a r c (by omega)]; simp only [h]
  · have h' : r.val % 2 = 0 := by omega
    rw [if_neg h, sel_zero]; simp [h']
theorem step2_apply (a : FVec Ideal S8x128 .f32) (r : Fin 8) (c : ℕ) (hc : c + r.val / 2 % 2 * 2 < 128) : step2 a (ix2 r ⟨c, by omega⟩) = a (ix2 r ⟨c + r.val / 2 % 2 * 2, hc⟩) := by
  unfold step2
  rw [select_apply, hasBit_apply, (bits_val r).2.1]
  by_cases h : r.val / 2 % 2 = 1
  · rw [if_pos h, sel_one, turn2_apply a r c (by omega)]; simp only [h, Nat.one_mul]
  · have h' : r.val / 2 % 2 = 0 := by omega
    rw [if_neg h, sel_zero]; simp [h']
theorem step4_apply (a : FVec Ideal S8x128 .f32) (r : Fin 8) (c : ℕ) (hc : c + r.val / 4 * 4 < 128) : step4 a (ix2 r ⟨c, by omega⟩) = a (ix2 r ⟨c + r.val / 4 * 4, hc⟩) := by
  have hr := r.isLt
  unfold step4
  rw [select_apply, hasBit_apply, (bits_val r).2.2]
  by_cases h : r.val / 4 = 1
  · rw [if_pos h, sel_one, turn4_apply a r c (by omega)]; simp only [h, Nat.one_mul]
  · have h' : r.val / 4 = 0 := by omega
    rw [if_neg h, sel_zero]; simp [h']

/-- Row `r` of a block is turned left by `r`. -/
theorem skew_apply (a : FVec Ideal S8x128 .f32) (r : Fin 8) (c : ℕ) (hc : c + r.val < 128) : skew a (ix2 r ⟨c, by omega⟩) = a (ix2 r ⟨c + r.val, hc⟩) := by
  have hr := r.isLt
  unfold skew
  rw [step4_apply _ r c (by omega), step2_apply _ r _ (by omega), step1_apply _ r _ (by omega)]
  refine congrArg (fun k => a (ix2 r k)) (Fin.ext ?_)
  show c + r.val / 4 * 4 + r.val / 2 % 2 * 2 + r.val % 2 = c + r.val
  omega

/-- The band at row `t` and column `c`: the padded table at column `t + c`. -/
theorem bands_apply (g : FVec Ideal S200x320 .f32) (t : Fin 200) (c : ℕ) (hc : c < 101) :
    bands g (ix2 t ⟨c, by omega⟩) = g (ix2 t ⟨t.val + c, by omega⟩) := by
  have ht := t.isLt
  unfold bands
  refine (concatenate_ofFn_apply (t := S200x128) (s₁ := S8x128) 0 (fun k : Fin 25 => band g k) _ rfl 8 rfl (ix2 t ⟨c, by omega⟩) ⟨t.val / 8, by omega⟩ rfl
    (ix2 ⟨t.val % 8, by omega⟩ ⟨c, by omega⟩) rfl ?_).trans ?_
  · intro b hb; fin_cases b
    · exact absurd rfl hb
    · rfl
  · unfold band
    rw [skew_apply _ ⟨t.val % 8, by omega⟩ c (by show c + t.val % 8 < 128; omega)]
    refine extractStridedSlice_apply _ _ _ _ (ix2 t ⟨t.val + c, by omega⟩) ?_
    intro b; fin_cases b
    · show t.val = 8 * (t.val / 8) + t.val % 8; omega
    · show t.val + c = 8 * (t.val / 8) + (c + t.val % 8); omega

/-! ### The layer -/

/-- What the body stores for film `b`. -/
theorem tcVal_apply (x : Films) (hx : ∀ p, (x p).toNat < 256) (b : Fin 16) (h₀ h₁ : Vec Ideal S1x1x200x512 .f32)
    (hh : ∀ (t : Fin 200) (c : Fin 512), (h₀ (ix4 0 0 t c) + h₁ (ix4 0 0 t c) : EReal) = ((cnt x b t c.val : ℕ) : EReal))
    (w : Vec Ideal S128x128 .f32) (W : (⟨2, ![128, 101]⟩ : Shape).Idx → EReal) (hw : ∀ (k : Fin 101) (o : Fin 128), w (ix2 ⟨k.val, by omega⟩ o) = W (ix2 o k))
    (hw0 : ∀ k o : Fin 128, 101 ≤ k.val → w (ix2 k o) = (0 : EReal))
    (v : Vec Ideal S1x128 .f32) (β : (⟨1, ![128]⟩ : Shape).Idx → EReal) (hv : ∀ o : Fin 128, v (ix2 0 o) = β (ix1 o)) (t : Fin 200) (o : Fin 128) :
    tcVal h₀ h₁ w v (ix3 0 t o) = outAt x W β b t o := by
  have ht := t.isLt
  unfold tcVal k1_pay1
  refine (shapeCast_apply (s := S200x128) (t := S1x200x128) _ _ (ix3 0 t o) (ix2 t o) ?_).trans ?_
  · rw [Shape.rowMajor_val_two, Shape.rowMajor_val_three]
    show t.val * 128 + o.val = (0 * 200 + t.val) * 128 + o.val
    omega
  unfold k1_pay61
  show max (matmul dot_S200x128_S128x128_S200x128_1_0_0_1_n_n none (bands (k1_pay2 h₀ h₁)) (shapeCast S128x128 w shapeCasts_S128x128_S128x128 : FVec Ideal S128x128 .f32)
      (constant S200x128 .f32 0x00000000#32) (ix2 t o)
    + broadcastTo S200x128 (shapeCast S1x128 v shapeCasts_S1x128_S1x128) broadcasts_S1x128_S200x128 (ix2 t o) : EReal) (Ideal.ofBits .f32 0x00000000#32) = _
  have e1 : broadcastTo S200x128 (shapeCast S1x128 v shapeCasts_S1x128_S1x128) broadcasts_S1x128_S200x128 (ix2 t o) = β (ix1 o) := by
    rw [broadcastTo_apply _ broadcasts_S1x128_S200x128 (ix2 t o) (ix2 0 o) (by intro a; fin_cases a <;> rfl), shapeCast_apply _ _ _ (ix2 0 o) rfl, hv]
  have e2 : matmul dot_S200x128_S128x128_S200x128_1_0_0_1_n_n none (bands (k1_pay2 h₀ h₁)) (shapeCast S128x128 w shapeCasts_S128x128_S128x128 : FVec Ideal S128x128 .f32)
      (constant S200x128 .f32 0x00000000#32) (ix2 t o) = (∑ j : Fin 101, near x b t j.val * W (ix2 o j) : EReal) := by
    refine (Ideal.matmul_plain_apply none (bands (k1_pay2 h₀ h₁)) (shapeCast S128x128 w shapeCasts_S128x128_S128x128 : FVec Ideal S128x128 .f32) (constant S200x128 .f32 0x00000000#32) t o).trans ?_
    show Ideal.ofBits .f32 0x00000000#32 + _ = _
    rw [Ideal.ofBits_zero_f32, zero_add]
    have ew : ∀ k : Fin 128, shapeCast S128x128 w shapeCasts_S128x128_S128x128 (ix2 k o) = w (ix2 k o) := fun k => shapeCast_apply _ _ _ _ rfl
    refine (Fin.sum_univ_add (a := 101) (b := 27) (fun k : Fin (101 + 27) => bands (k1_pay2 h₀ h₁) (ix2 t k) * shapeCast S128x128 w shapeCasts_S128x128_S128x128 (ix2 k o))).trans ?_
    rw [sum_eq_zero (s := univ) (f := fun i : Fin 27 => _) (fun i _ => by
      rw [ew, hw0 (Fin.natAdd 101 i) o (by show 101 ≤ 101 + i.val; omega), mul_zero]), add_zero]
    refine sum_congr rfl fun k _ => ?_
    rw [ew]
    refine congrArg₂ (fun a c : EReal => a * c) ?_ (hw k o)
    refine (bands_apply (k1_pay2 h₀ h₁) t k.val k.isLt).trans ?_
    rw [pay2_apply x hx b h₀ h₁ hh]
    rfl
  rw [e1, e2, Ideal.ofBits_zero_f32]
  rfl

end Cert.Hist

end
-- ==== Proof.KerOut.lean ====
/-
  The kernel's result, element by element: the TensorCore call's sixteen blocks cover the result, and the block of a film
  is the network's last layer applied to the film's similarities.
-/
module

public import proofs.«01_k».proof.Proof.KerCnt
public import proofs.«01_k».proof.Proof.KerVal
public import proofs.«01_k».proof.Proof.Launch
public import Idealize.ShloMosaic.Lib.Pipeline.ValueKit
public import Idealize.ShloMosaic.Lib.StableHlo.RunRead

@[expose] public section

noncomputable section

namespace Cert.Hist

open Cert.KernelIdeal Cert.KernelIdeal.Gen
open Idealize.ShloMosaic hiding ix1 ix2 ix3 ix4 ix5
open Idealize.ShloMosaic.Pipeline Idealize.ShloMosaic.ValueIdx Idealize.ShloMosaic.TcCoe Finset

/-! ### The operations between the two calls -/

section Between

variable (V : Valuation τ sig (Elt Ideal))

theorem mid_tab : StableHlo.after (opsMid (F := Ideal)) V (Proc.devRef .tc main_v2)
    = shapeCast S2x16x200x512 (V (Proc.devRef .tc main_v1)) shapeCasts_S3276800_S2x16x200x512 := by
  unfold opsMid
  after_reads_simp
  rfl

theorem mid_wts : StableHlo.after (opsMid (F := Ideal)) V (Proc.devRef .tc main_v5)
    = concatenate S128x128 0 [⟨S101x128, transpose S101x128 [1, 0] (V (Proc.devRef .tc main_arg1)) transposes_S128x101_S101x128_1_0⟩,
      ⟨S27x128, broadcastInDim S27x128 ![] bcast_S_S27x128 (constant (F := Ideal) S_ .f32 0x00000000#32 : S_.Idx → EReal)⟩] concatenates_S101x128_S27x128_S128x128_d0 := by
  unfold opsMid
  after_reads_simp
  refine congrArg₂ (fun (a : S101x128.Idx → EReal) (b : S27x128.Idx → EReal) => concatenate S128x128 0 [⟨S101x128, a⟩, ⟨S27x128, b⟩] concatenates_S101x128_S27x128_S128x128_d0) ?_ ?_ <;>
  · after_reads_simp

theorem mid_bia : StableHlo.after (opsMid (F := Ideal)) V (Proc.devRef .tc main_v6)
    = shapeCast S1x128 (V (Proc.devRef .tc main_arg2)) shapeCasts_S128_S1x128 := by
  unfold opsMid
  after_reads_simp
  rfl

end Between

section Mid

variable (m : Mems Ideal) (hz : ∀ d, LowF (frames m d)) (d : Dev nD)

/-- The weights the program is given. -/
abbrev weights (m : Mems Ideal) (d : Dev nD) : S128x101.Idx → EReal := m ((SparseCore.T d).loc main_arg1)
/-- The bias the program is given. -/
abbrev bias (m : Mems Ideal) (d : Dev nD) : S128.Idx → EReal := m ((SparseCore.T d).loc main_arg2)

theorem V2_arg (r : Ref sig .tc) (h0 : r ≠ main_v0) (h1 : r ≠ main_v1) :
    V2 m hz d (Proc.devRef .tc r) = m (d, Proc.devRef .tc r) := by
  rw [V2_of_ne m hz d _ (fun e => h1 (Proc.devRef_injective _ e))]
  unfold V1 opFirst
  exact StableHlo.unary_result_ne _ _ _ _ _ _ (fun e => h0 (by rw [e]))

theorem V3_tab : V3r m hz d main_v2
    = shapeCast S2x16x200x512 (allCnt (frames m d) (hz d)) shapeCasts_S3276800_S2x16x200x512 :=
  (mid_tab (V2 m hz d)).trans (congrArg (fun X : S3276800.Idx → EReal => shapeCast S2x16x200x512 X shapeCasts_S3276800_S2x16x200x512) (V2_o m hz d))

theorem V3_wts : V3r m hz d main_v5
    = concatenate S128x128 0 [⟨S101x128, transpose S101x128 [1, 0] (weights m d) transposes_S128x101_S101x128_1_0⟩,
      ⟨S27x128, broadcastInDim S27x128 ![] bcast_S_S27x128 (constant (F := Ideal) S_ .f32 0x00000000#32 : S_.Idx → EReal)⟩] concatenates_S101x128_S27x128_S128x128_d0 :=
  (mid_wts (V2 m hz d)).trans (congrArg (fun X : S128x101.Idx → EReal => concatenate S128x128 0 [⟨S101x128, transpose S101x128 [1, 0] X transposes_S128x101_S101x128_1_0⟩,
      ⟨S27x128, broadcastInDim S27x128 ![] bcast_S_S27x128 (constant (F := Ideal) S_ .f32 0x00000000#32 : S_.Idx → EReal)⟩] concatenates_S101x128_S27x128_S128x128_d0)
    (V2_arg m hz d main_arg1 (by decide) (by decide)))

theorem V3_bia : V3r m hz d main_v6 = shapeCast S1x128 (bias m d) shapeCasts_S128_S1x128 :=
  (mid_bia (V2 m hz d)).trans (congrArg (fun X : S128.Idx → EReal => shapeCast S1x128 X shapeCasts_S128_S1x128)
    (V2_arg m hz d main_arg2 (by decide) (by decide)))

theorem tab_at (h : Fin 2) (b : Fin 16) (u : Fin 200) (k : Fin 512) (p : S3276800.Idx)
    (hp : (p 0).val = (h.val * 16 + b.val) * 102400 + u.val * 512 + k.val) :
    V3r m hz d main_v2 (ix4 h b u k) = allCnt (frames m d) (hz d) p := by
  rw [V3_tab]
  refine shapeCast_apply _ _ _ p ?_
  rw [Shape.rowMajor_val_one, Shape.rowMajor_val_four]
  show (p 0).val = ((h.val * 16 + b.val) * 200 + u.val) * 512 + k.val
  omega

theorem wts_low (k : Fin 101) (o : Fin 128) : V3r m hz d main_v5 (ix2 ⟨k.val, by omega⟩ o) = weights m d (ix2 o k) := by
  rw [V3_wts]
  refine (concatenate_pair_apply_left (t := S128x128) (s₁ := S101x128) (s₂ := S27x128) 0 _ _ _ (ix2 ⟨k.val, by omega⟩ o) rfl (ix2 k o) ?_).trans ?_
  · intro a
    fin_cases a <;> rfl
  · refine transpose_apply _ _ _ _ (ix2 o k) ?_
    intro a
    fin_cases a <;> rfl

theorem wts_high (k o : Fin 128) (h : 101 ≤ k.val) : V3r m hz d main_v5 (ix2 k o) = (0 : EReal) := by
  rw [V3_wts]
  refine (concatenate_pair_apply_right (t := S128x128) (s₁ := S101x128) (s₂ := S27x128) 0 _ _ _ (ix2 k o) rfl rfl
    (ix2 ⟨k.val - 101, by omega⟩ o) ?_ ?_).trans ?_
  · intro a
    fin_cases a
    · intro h; exact absurd rfl h
    · intro _; rfl
  · show k.val - 101 + 101 = k.val
    omega
  · show constant (F := Ideal) S_ .f32 0x00000000#32 _ = _
    exact Ideal.ofBits_zero_f32

theorem bia_at (o : Fin 128) : V3r m hz d main_v6 (ix2 0 o) = bias m d (ix1 o) := by
  rw [V3_bia]
  refine shapeCast_apply _ _ _ (ix1 o) ?_
  rw [Shape.rowMajor_val_one, Shape.rowMajor_val_two]
  show o.val = 0 * 128 + o.val
  omega

end Mid

/-! ### The blocks -/

theorem at0 : ∀ t : Fin cfg1.N, win1_0.index t = ![0, (grid1.coords t 0).val, 0, 0] := (by decide +kernel : ∀ t : Fin grid1.N, _)
theorem at1 : ∀ t : Fin cfg1.N, win1_1.index t = ![0, 0] := (by decide +kernel : ∀ t : Fin grid1.N, _)
theorem at2 : ∀ t : Fin cfg1.N, win1_2.index t = ![0, 0] := (by decide +kernel : ∀ t : Fin grid1.N, _)
theorem at3 : ∀ t : Fin cfg1.N, win1_3.index t = ![(grid1.coords t 0).val, 0, 0] := (by decide +kernel : ∀ t : Fin grid1.N, _)

variable (V : (c : Dev nD) → (b : Ref sig .tc) → Buf (Elt Ideal) ((c : Thread nD τ).loc b)) (c : Dev nD)

theorem tab_apply (t : Fin cfg1.N) (b : Fin 16) (hb : b.val = (grid1.coords t 0).val) (h : Fin 2) (u : Fin 200) (k : Fin 512) :
    tab V c t (ix4 h 0 u k) = V c main_v2 (ix4 h b u k) := by
  show V c main_v2 (((cfg1.win 0).blk t).view.emb (ix4 h 0 u k)) = _
  congr 1
  blk_ext [at0, hb]

theorem wts_apply (t : Fin cfg1.N) (k o : Fin 128) : wts V c t (ix2 k o) = V c main_v5 (ix2 k o) := by
  show V c main_v5 (((cfg1.win 1).blk t).view.emb (ix2 k o)) = _
  congr 1
  blk_ext [at1]

theorem bia_apply (t : Fin cfg1.N) (o : Fin 128) : bia V c t (ix2 0 o) = V c main_v6 (ix2 0 o) := by
  show V c main_v6 (((cfg1.win 2).blk t).view.emb (ix2 0 o)) = _
  congr 1
  blk_ext [at2]

/-! ### The result -/

variable (m : Mems Ideal) (hz : ∀ d, LowF (frames m d)) (d : Dev nD)

theorem half0_apply (X : S2x1x200x512.Idx → EReal) (u : Fin 200) (k : Fin 512) : half0 (F := Ideal) X (ix4 0 0 u k) = X (ix4 0 0 u k) := by
  unfold half0
  refine congrArg X (funext fun a => Fin.ext ?_)
  show _ + 1 * _ = _
  rw [Nat.one_mul]
  fin_cases a <;> exact Nat.zero_add _

theorem half1_apply (X : S2x1x200x512.Idx → EReal) (u : Fin 200) (k : Fin 512) : half1 (F := Ideal) X (ix4 0 0 u k) = X (ix4 1 0 u k) := by
  unfold half1
  refine congrArg X (funext fun a => Fin.ext ?_)
  show _ + 1 * _ = _
  rw [Nat.one_mul]
  fin_cases a
  · rfl
  all_goals exact Nat.zero_add _

theorem block_apply (hx : ∀ p, (films m d p).toNat < 256) (t : Fin cfg1.N) (b : Fin 16) (hb : b.val = (grid1.coords t 0).val) (u : Fin 200) (o : Fin 128) :
    blockVal (tab (V3r m hz) d t) (wts (V3r m hz) d t) (bia (V3r m hz) d t) (ix3 0 u o) = outAt (films m d) (weights m d) (bias m d) b u o := by
  unfold blockVal
  refine tcVal_apply _ hx b _ _ (fun u k => ?_) _ _ (fun k o => ?_) (fun k o hk => ?_) _ _ (fun o => ?_) u o
  · rw [half0_apply, half1_apply, tab_apply (V3r m hz) d t b hb, tab_apply (V3r m hz) d t b hb]
    have hu := u.isLt
    have hk := k.isLt
    have hb' := b.isLt
    have h0 : b.val * 102400 + u.val * 512 + k.val < 3276800 := by omega
    have h1 : (16 + b.val) * 102400 + u.val * 512 + k.val < 3276800 := by
      have hs : 16 + b.val ≤ 31 := by omega
      exact lt_of_le_of_lt (Nat.add_le_add (Nat.add_le_add (Nat.mul_le_mul_right 102400 hs)
        (Nat.mul_le_mul_right 512 (Nat.le_of_lt_succ hu : u.val ≤ 199))) (Nat.le_of_lt_succ hk : k.val ≤ 511)) (by norm_num)
    have f0 : b.val * 102400 + u.val * 512 + k.val = ((0 : Fin 2).val * 16 + b.val) * 102400 + u.val * 512 + k.val := by
      rw [Fin.val_zero, Nat.zero_mul, Nat.zero_add]
    have f1 : (16 + b.val) * 102400 + u.val * 512 + k.val = ((1 : Fin 2).val * 16 + b.val) * 102400 + u.val * 512 + k.val := by
      rw [Fin.val_one, Nat.one_mul]
    rw [tab_at m hz d 0 b u k (ix1 ⟨_, h0⟩) f0, tab_at m hz d 1 b u k (ix1 ⟨_, h1⟩) f1]
    exact two_halves m d (hz d) b u k.val k.isLt _ _ rfl rfl
  · rw [wts_apply, wts_low]
  · rw [wts_apply, wts_high m hz d k o hk]
  · rw [bia_apply, bia_at]

theorem out_apply (hx : ∀ p, (films m d p).toNat < 256) :
    outArr (V3r m hz) d = fun i : S16x200x128.Idx => outAt (films m d) (weights m d) (bias m d) (i 0) (i 1) (i 2) := by
  refine (dat (V3r m hz) d).arrAt_eq_of_covers 3 _ (by decide +kernel) fun t hf y => ?_
  blk_simp
  have e : y = (ix3 0 (y 1) (y 2) : S1x200x128.Idx) := by
    funext a
    fin_cases a
    · exact Subsingleton.elim (α := Fin 1) _ _
    · rfl
    · rfl
  have hb : (grid1.coords t 0).val < 16 := (grid1.coords t 0).isLt
  have e0 : ((win1_3.blk t).view.emb y 0 : Fin 16) = ⟨(grid1.coords t 0).val, hb⟩ := Fin.ext (by
    blk_simp [at3])
  have e1 : ((win1_3.blk t).view.emb y 1 : Fin 200) = y 1 := Fin.ext (by
    blk_simp [at3])
  have e2 : ((win1_3.blk t).view.emb y 2 : Fin 128) = y 2 := Fin.ext (by
    blk_simp [at3])
  rw [e0, e1, e2]
  refine Eq.trans ?_ (block_apply m hz d hx t _ rfl (y 1) (y 2))
  rw [← e]
  rfl

/-- What the program leaves as its result. -/
theorem result_apply (hx : ∀ p, (films m d p).toNat < 256) :
    V4 m hz d rR = fun i : S16x200x128.Idx => outAt (films m d) (weights m d) (bias m d) (i 0) (i 1) (i 2) :=
  (V4_r m hz d).trans (out_apply m hz d hx)

end Cert.Hist
-- ==== Proof.RefScatter.lean ====
/-
  A scatter that adds ones onto a table of zeros, read at an entry: how many of the indices name that entry.
-/
module

public import Idealize.ShloMosaic.Lib.Routing.Ops
public import Idealize.ShloMosaic.Lib.Routing.OpsPair
public import Idealize.ShloMosaic.Lib.StableHlo.Predicate
public import Mathlib.Algebra.BigOperators.Fin

@[expose] public section

namespace Cert.Hist

open Idealize.ShloMosaic Idealize.ShloMosaic.ValueIdx Idealize.ShloMosaic.Routing Finset

/-- Adding one at each listed element that satisfies `P` counts those elements. -/
theorem foldl_ones {ι : Type} (P : ι → Prop) [DecidablePred P] (l : List ι) (a : ℕ) :
    l.foldl (fun v n => if P n then IntOp.addi v 1#32 else v) (BitVec.ofNat 32 a)
      = BitVec.ofNat 32 (a + (l.map fun n => if P n then 1 else 0).sum) := by
  induction l generalizing a with
  | nil => simp
  | cons n l ih =>
    rw [List.foldl_cons, List.map_cons, List.sum_cons, ← Nat.add_assoc]
    by_cases h : P n
    · rw [if_pos h, if_pos h, ← ih]
      congr 1
      exact (BitVec.ofNat_add a 1).symm
    · rw [if_neg h, if_neg h, ← ih, Nat.add_zero]

section

variable {N E : ℕ} (d : ScatterDims (shape1 E) (shape2 N 1) (shape1 N)) (hw : d.insertedWindowDims = [0])
  (hs : d.scatterDimsToOperandDims = [0]) (hv : d.indexVectorDim = 1)

include hw in
theorem window_zero (i : Fin N) : d.window (ix1 i) 0 = 0 := by
  have h : (0 : Fin 1) ∉ d.sKept := by
    intro h
    have := of_decide_eq_true (List.mem_filter.1 h).2
    rw [hw] at this
    exact this (List.mem_singleton.2 rfl)
  exact dif_neg h

include hs hv in
theorem start_word (idx : IVec (shape2 N 1) 32) (i : Fin N) : d.start (ix1 i) idx 0 = (idx (ix2 i 0)).toInt := by
  have hm : (0 : Fin 1) ∈ d.scatterDimsToOperandDims := hs ▸ List.mem_singleton.2 rfl
  refine (dif_pos hm).trans (congrArg (fun p => (idx p).toInt) (funext fun a => Fin.ext ?_))
  have one : ∀ y : Fin 1, (ix1 i y).val = i.val := fun y => by rw [Subsingleton.elim y 0]
  unfold ScatterDims.siIdx
  match a with
  | ⟨0, _⟩ =>
    rw [dif_neg (by rw [hv]; exact Nat.zero_ne_one)]
    unfold ScatterDims.siCoord
    simp only [Fin.val_cast]
    exact one _
  | ⟨1, _⟩ =>
    rw [dif_pos (by rw [hv])]
    show List.idxOf (0 : Fin 1) d.scatterDimsToOperandDims = 0
    rw [hs]; rfl

include hw hs hv in
/-- Entry `e` of `zeros.at[idx].add(1)`: the number of positions whose index is `e`. -/
theorem scatter_ones (x0 : IVec (shape1 E) 32) (h0 : ∀ i, x0 i = 0#32) (idx : IVec (shape2 N 1) 32) (upd : IVec (shape1 N) 32) (h1 : ∀ i, upd i = 1#32)
    (g : ℕ → ℕ) (hg : ∀ i : Fin N, idx (ix2 i 0) = BitVec.ofNat 32 (g i.val)) (hlt : ∀ i : Fin N, g i.val < 2 ^ 31) (e : Fin E) :
    Host.scatter d IntOp.addi x0 idx upd (ix1 e) = BitVec.ofNat 32 (∑ k ∈ range N, if g k = e.val then 1 else 0) := by
  have lands : ∀ i : Fin N, d.resultIdx? (ix1 i) idx = some (ix1 e) ↔ g i.val = e.val := by
    intro i
    rw [resultIdx?_ix1, start_word d hs hv, window_zero d hw, hg, StableHlo.Predicate.toInt_ofNat_small _ (hlt i)]
    omega
  rw [scatter_at, h0]
  have step : (fun (a : BitVec 32) (n : Fin (shape1 N).numel) => if d.resultIdx? ((shape1 N).rowMajor.symm n) idx = some (ix1 e)
      then IntOp.addi a (upd ((shape1 N).rowMajor.symm n)) else a) = fun a n => if g n.val = e.val then IntOp.addi a 1#32 else a := by
    funext a n
    rw [symm1, h1]
    exact if_congr (lands _) rfl rfl
  rw [step]
  refine (foldl_ones (fun n : Fin (shape1 N).numel => g n.val = e.val) _ 0).trans (congrArg (BitVec.ofNat 32) ?_)
  rw [Nat.zero_add, ← Fin.sum_univ_def, Fin.sum_univ_eq_sum_range (fun k => if g k = e.val then 1 else 0), numel1]

end

end Cert.Hist
-- ==== Proof.RefCnt.lean ====
/-
  The reference's histogram: each pixel's index into the table of all frames' bins, and the table as counts.
-/
module

public import proofs.«01_k».proof.Proof.Gen.ReferenceIdeal.Read
public import proofs.«01_k».proof.Proof.RefScatter
public import proofs.«01_k».proof.Proof.Spec

@[expose] public section

noncomputable section

namespace Cert.Hist.Ref

open Cert.ReferenceIdeal Cert.ReferenceIdeal.Gen Cert.ReferenceIdeal.Read
open Idealize.ShloMosaic Idealize.ShloMosaic.ValueIdx Finset

variable {F : FTy → Type} [FloatOps F]

/-! ### The words -/

theorem shr5 (x : BitVec 32) : IntOp.shrsi .host x 5#32 = x.sshiftRight 5 := if_pos (by decide)
theorem shl6 (x : BitVec 32) : IntOp.shli .host x 6#32 = x <<< 6 := if_pos (by decide)
theorem shl3 (x : BitVec 32) : IntOp.shli .host x 3#32 = x <<< 3 := if_pos (by decide)
theorem shl9 (x : BitVec 32) : IntOp.shli .host x 9#32 = x <<< 9 := if_pos (by decide)

theorem join8 : ∀ r g b : Fin 8, (BitVec.ofNat 32 r.val <<< 6 + BitVec.ofNat 32 g.val <<< 3) + BitVec.ofNat 32 b.val
    = BitVec.ofNat 32 (r.val * 64 + g.val * 8 + b.val) := by decide +kernel

theorem top3 (r : BitVec 32) (h : r.toNat < 256) : r.sshiftRight 5 = BitVec.ofNat 32 (r.toNat / 32) := by
  have e := blue_val ⟨r.toNat, h⟩
  simp only [BitVec.ofNat_toNat, BitVec.setWidth_eq] at e
  exact e

/-- The bin of a pixel as the reference computes it. -/
theorem bin_word (r g b : BitVec 32) (hr : r.toNat < 256) (hg : g.toNat < 256) (hb : b.toNat < 256) :
    IntOp.addi (IntOp.addi (IntOp.shli .host (IntOp.shrsi .host r 5#32) 6#32) (IntOp.shli .host (IntOp.shrsi .host g 5#32) 3#32))
      (IntOp.shrsi .host b 5#32) = BitVec.ofNat 32 (binOf r.toNat g.toNat b.toNat) := by
  rw [shr5, shr5, shr5, shl6, shl3, top3 r hr, top3 g hg, top3 b hb]
  exact join8 ⟨r.toNat / 32, by omega⟩ ⟨g.toNat / 32, by omega⟩ ⟨b.toNat / 32, by omega⟩

/-- A frame's first table entry. -/
theorem frame_word (f : ℕ) : IntOp.shli .host (BitVec.ofNat 32 f) 9#32 = BitVec.ofNat 32 (f * 512) := by
  rw [shl9]
  apply BitVec.eq_of_toNat_eq
  rw [BitVec.toNat_shiftLeft, BitVec.toNat_ofNat, BitVec.toNat_ofNat, Nat.shiftLeft_eq]
  omega

/-! ### A pixel's index -/

variable (x : Films)

theorem pixel (f : Fin 3200) (p : Fin 1296) (ch : Fin 3) :
    val_main_v0 (F := F) x (ix3 f p ch) = x (ix5 ⟨f.val / 200, by omega⟩ ⟨f.val % 200, by omega⟩ ⟨p.val / 48, by omega⟩ ⟨p.val % 48, by omega⟩ ch) := by
  rw [val_main_v0_apply]
  refine congrArg x (funext fun a => Fin.ext ?_)
  have hf := f.isLt
  have hp := p.isLt
  have hc := ch.isLt
  match a with
  | ⟨0, _⟩ => show ((f.val * 1296 + p.val) * 3 + ch.val) / 777600 = f.val / 200; omega
  | ⟨1, _⟩ => show ((f.val * 1296 + p.val) * 3 + ch.val) / 3888 % 200 = f.val % 200; omega
  | ⟨2, _⟩ => show ((f.val * 1296 + p.val) * 3 + ch.val) / 144 % 27 = p.val / 48; omega
  | ⟨3, _⟩ => show ((f.val * 1296 + p.val) * 3 + ch.val) / 3 % 48 = p.val % 48; omega
  | ⟨4, _⟩ => show ((f.val * 1296 + p.val) * 3 + ch.val) % 3 = ch.val; omega

theorem red (f : Fin 3200) (p : Fin 1296) : val_main_v2 (F := F) x (ix2 f p) = val_main_v0 (F := F) x (ix3 f p 0) := by
  rw [val_main_v2_apply, val_main_v1_apply]
  refine congrArg (val_main_v0 (F := F) x) (funext fun a => Fin.ext ?_)
  have hf := f.isLt
  have hp := p.isLt
  match a with
  | ⟨0, _⟩ => show (f.val * 1296 + p.val) / 1296 = f.val; omega
  | ⟨1, _⟩ => show (f.val * 1296 + p.val) / 1 % 1296 = p.val; omega
  | ⟨2, _⟩ => rfl

theorem green (f : Fin 3200) (p : Fin 1296) : val_main_v6 (F := F) x (ix2 f p) = val_main_v0 (F := F) x (ix3 f p 1) := by
  rw [val_main_v6_apply, val_main_v5_apply]
  refine congrArg (val_main_v0 (F := F) x) (funext fun a => Fin.ext ?_)
  have hf := f.isLt
  have hp := p.isLt
  match a with
  | ⟨0, _⟩ => show (f.val * 1296 + p.val) / 1296 = f.val; omega
  | ⟨1, _⟩ => show (f.val * 1296 + p.val) / 1 % 1296 = p.val; omega
  | ⟨2, _⟩ => rfl

theorem blue (f : Fin 3200) (p : Fin 1296) : val_main_v10 (F := F) x (ix2 f p) = val_main_v0 (F := F) x (ix3 f p 2) := by
  rw [val_main_v10_apply, val_main_v9_apply]
  refine congrArg (val_main_v0 (F := F) x) (funext fun a => Fin.ext ?_)
  have hf := f.isLt
  have hp := p.isLt
  match a with
  | ⟨0, _⟩ => show (f.val * 1296 + p.val) / 1296 = f.val; omega
  | ⟨1, _⟩ => show (f.val * 1296 + p.val) / 1 % 1296 = p.val; omega
  | ⟨2, _⟩ => rfl

/-- The bin of pixel `j` of frame `i`, the frames and the pixels numbered from the first on. -/
def binAt (i j : ℕ) : ℕ := if h : i < 3200 then binN x ⟨i / 200, by omega⟩ ⟨i % 200, by omega⟩ (j / 48) (j % 48) else 0

theorem binAt_lt (hx : ∀ p, (x p).toNat < 256) (i j : ℕ) : binAt x i j < 512 := by
  unfold binAt
  split
  · exact binN_lt x hx _ _ _ _
  · decide

theorem binAt_frame (b : Fin 16) (t : Fin 200) (j : ℕ) : binAt x (b.val * 200 + t.val) j = binN x b t (j / 48) (j % 48) := by
  have hb := b.isLt
  have ht := t.isLt
  unfold binAt
  rw [dif_pos (by omega)]
  have e0 : (⟨(b.val * 200 + t.val) / 200, by omega⟩ : Fin 16) = b := Fin.ext (by show (b.val * 200 + t.val) / 200 = b.val; omega)
  have e1 : (⟨(b.val * 200 + t.val) % 200, by omega⟩ : Fin 200) = t := Fin.ext (by show (b.val * 200 + t.val) % 200 = t.val; omega)
  rw [e0, e1]

theorem pixN_val (b : Fin 16) (t : Fin 200) (ch : Fin 3) (p : Fin 1296) :
    pixN x b t ch (p.val / 48) (p.val % 48) = (x (ix5 b t ⟨p.val / 48, by omega⟩ ⟨p.val % 48, by omega⟩ ch)).toNat :=
  dif_pos ⟨by omega, by omega⟩

theorem v18_val (hx : ∀ p, (x p).toNat < 256) (f : Fin 3200) (p : Fin 1296) :
    val_main_v18 (F := F) x (ix2 f p) = BitVec.ofNat 32 (binAt x f.val p.val) := by
  rw [val_main_v18_apply, val_main_v17_apply, val_main_v14_apply, val_main_v16_apply, val_main_v4_apply, val_main_v8_apply, val_main_v12_apply,
    val_main_v3_apply, val_main_v7_apply, val_main_v11_apply, val_main_v13_apply, val_main_v15_apply, val_main_c_apply, val_main_c_0_apply,
    val_main_c_1_apply, val_main_c_2_apply, val_main_c_3_apply, red, green, blue, pixel, pixel, pixel, bin_word _ _ _ (hx _) (hx _) (hx _)]
  unfold binAt binN
  rw [dif_pos f.isLt, pixN_val, pixN_val, pixN_val]

theorem v24_val (hx : ∀ p, (x p).toNat < 256) (f : Fin 3200) (p : Fin 1296) :
    val_main_v24 (F := F) x (ix2 f p) = BitVec.ofNat 32 (f.val * 512 + binAt x f.val p.val) := by
  rw [val_main_v24_apply, v18_val x hx, val_main_v23_apply, val_main_v22_apply, val_main_v21_apply, val_main_v19_apply, val_main_v20_apply,
    val_main_c_4_apply]
  refine (congrArg (IntOp.addi _) (frame_word f.val)).trans ?_
  rw [Nat.add_comm (f.val * 512)]
  exact (BitVec.ofNat_add _ _).symm

theorem v33_val (hx : ∀ p, (x p).toNat < 256) (k : Fin 4147200) :
    val_main_v33 (F := F) x (ix2 k 0) = BitVec.ofNat 32 (k.val / 1296 * 512 + binAt x (k.val / 1296) (k.val % 1296)) := by
  have hk := k.isLt
  have e25 : val_main_v25 (F := F) x (ix1 k) = BitVec.ofNat 32 (k.val / 1296 * 512 + binAt x (k.val / 1296) (k.val % 1296)) := by
    rw [val_main_v25_apply]
    refine Eq.trans (congrArg _ (funext fun a => Fin.ext ?_)) (v24_val x hx ⟨k.val / 1296, by omega⟩ ⟨k.val % 1296, by omega⟩)
    match a with
    | ⟨0, _⟩ => rfl
    | ⟨1, _⟩ => rfl
  rw [val_main_v33_apply]
  have ei : idx_main_v33 (ix2 k 0) = ix1 k := funext fun a => by match a with | ⟨0, _⟩ => rfl
  rw [ei, val_main_v32_apply, val_main_v29_apply, val_main_v28_apply, val_main_c_7_apply, e25]
  refine Routing.wrap_of_lt _ _ ?_
  have hb := binAt_lt x hx (k.val / 1296) (k.val % 1296)
  rw [BitVec.toNat_ofNat]
  refine lt_of_le_of_lt (Nat.mod_le _ _) ?_
  omega

/-! ### The counts -/

theorem v34_val (hx : ∀ p, (x p).toNat < 256) (e : Fin 1638400) : val_main_v34 (F := F) x (ix1 e)
    = BitVec.ofNat 32 (∑ k ∈ range 4147200, if k / 1296 * 512 + binAt x (k / 1296) (k % 1296) = e.val then 1 else 0) := by
  unfold val_main_v34
  refine scatter_ones (N := 4147200) (E := 1638400) _ rfl rfl rfl _ (fun i => ?_) _ _ (fun i => ?_)
    (fun k => k / 1296 * 512 + binAt x (k / 1296) (k % 1296)) (fun i => v33_val x hx i) (fun i => ?_) e
  · rw [val_main_v26_apply, val_main_c_5_apply]
  · rw [val_main_v27_apply, val_main_c_6_apply]
  · have hb := binAt_lt x hx (i.val / 1296) (i.val % 1296)
    have hi := i.isLt
    show i.val / 1296 * 512 + binAt x (i.val / 1296) (i.val % 1296) < 2147483648
    omega

theorem frame_cnt (b : Fin 16) (t : Fin 200) (c : ℕ) : (∑ j ∈ range 1296, if binAt x (b.val * 200 + t.val) j = c then 1 else 0) = cnt x b t c := by
  have h : (∑ j ∈ range (27 * 48), if binAt x (b.val * 200 + t.val) j = c then 1 else 0) = cnt x b t c := by
    rw [sum_blocks]
    unfold cnt rowCnt
    refine sum_congr rfl fun h _ => sum_congr rfl fun w hw => ?_
    have hw' := mem_range.1 hw
    rw [binAt_frame, show (h * 48 + w) / 48 = h by omega, show (h * 48 + w) % 48 = w by omega]
  exact h

/-- The table of bins: the count of each frame's pixels in each bin. -/
theorem v35_val (hx : ∀ p, (x p).toNat < 256) (b : Fin 16) (t : Fin 200) (c : Fin 512) :
    val_main_v35 (F := F) x (ix3 b t c) = BitVec.ofNat 32 (cnt x b t c.val) := by
  have hb := b.isLt
  have ht := t.isLt
  have hc := c.isLt
  rw [val_main_v35_apply]
  have ei : idx_main_v35 (ix3 b t c) = ix1 ⟨(b.val * 200 + t.val) * 512 + c.val, by omega⟩ := funext fun a => by match a with | ⟨0, _⟩ => rfl
  rw [ei, v34_val x hx]
  refine congrArg (BitVec.ofNat 32) ?_
  refine Eq.trans ?_ (frame_cnt x b t c.val)
  exact image_sum (binAt x) 3200 1296 (b.val * 200 + t.val) c.val (by omega) (binAt_lt x hx) hc

theorem sitofp_small (n : ℕ) (h : n ≤ 1296) : (FloatOps.sitofp (F := Ideal) .f32 (BitVec.ofNat 32 n) : EReal) = ((n : ℝ) : EReal) := by
  show (((BitVec.ofNat 32 n).toInt : ℝ) : EReal) = _
  rw [StableHlo.Predicate.toInt_ofNat_small _ (lt_of_le_of_lt h (by norm_num))]
  exact congrArg _ (Int.cast_natCast n)

/-- The histograms as extended reals. -/
theorem v36_val (hx : ∀ p, (x p).toNat < 256) (b : Fin 16) (t : Fin 200) (c : Fin 512) :
    (val_main_v36 (F := Ideal) x (ix3 b t c) : EReal) = (((cnt x b t c.val : ℕ) : ℝ) : EReal) := by
  rw [val_main_v36_apply, v35_val x hx]
  exact sitofp_small _ (cnt_le x b t c.val)

end Cert.Hist.Ref
-- ==== Proof.RefFeat.lean ====
/-
  The reference's histograms scaled to length one, and their inner products. A frame has 1296 pixels, so its histogram's
  length is at least one, and the small constant the reference divides by at least never matters.
-/
module

public import proofs.«01_k».proof.Proof.RefCnt
public import proofs.«01_k».proof.Proof.KerVal

@[expose] public section

noncomputable section

namespace Cert.Hist.Ref

open Cert.ReferenceIdeal Cert.ReferenceIdeal.Gen Cert.ReferenceIdeal.Read
open Idealize.ShloMosaic Idealize.ShloMosaic.ValueIdx Finset

/-- The least length the reference divides by is at most one. -/
theorem small_le : Ideal.ofBits .f32 0x2B8CBCCC#32 ≤ 1 := by
  simp [Ideal.ofBits, Ideal.ieee]
  rw [← EReal.coe_mul, ← EReal.coe_one, EReal.coe_le_coe_iff]
  norm_num

variable (x : Films)

/-- A frame's squared length. -/
theorem call0_v1_val (hx : ∀ p, (x p).toNat < 256) (b : Fin 16) (t : Fin 200) :
    (val_main_call0_v1 (F := Ideal) x (ix2 b t) : EReal) = (((sqLen x b t : ℕ) : ℝ) : EReal) := by
  rw [val_main_call0_v1_apply]
  have e : ∀ k : Fin 512, (val_main_call0_v0 (F := Ideal) x (idx_main_call0_v1 (ix2 b t) k) : EReal)
      = ((cnt x b t k.val * cnt x b t k.val : ℕ) : EReal) := by
    intro k
    have ei : idx_main_call0_v1 (ix2 b t) k = ix3 b t k := funext fun a => by
      match a with
      | ⟨0, _⟩ => rfl
      | ⟨1, _⟩ => rfl
      | ⟨2, _⟩ => rfl
    rw [ei, val_main_call0_v0_apply]
    show (val_main_v36 (F := Ideal) x (ix3 b t k) * val_main_v36 (F := Ideal) x (ix3 b t k) : EReal) = _
    rw [v36_val x hx, ← nat_real, nat_mul]
  rw [sum_congr rfl fun k _ => e k, nat_sum]
  show (Ideal.ofBits .f32 0x00000000#32 + _ : EReal) = _
  rw [Ideal.ofBits_zero_f32, zero_add, ← nat_real]
  unfold sqLen
  rw [sum_range]

/-- The number a frame's histogram is divided by: its length. -/
theorem v39_val (hx : ∀ p, (x p).toNat < 256) (b : Fin 16) (t : Fin 200) :
    (val_main_v39 (F := Ideal) x (ix3 b t 0) : EReal) = ((Real.sqrt (sqLen x b t : ℝ) : ℝ) : EReal) := by
  have h1 : (1 : ℝ) ≤ (sqLen x b t : ℝ) := by exact_mod_cast sqLen_pos x hx b t
  have ei : idx_main_call0_v2 (ix3 b t 0) = ix2 b t := funext fun a => by
    match a with
    | ⟨0, _⟩ => rfl
    | ⟨1, _⟩ => rfl
  rw [val_main_v39_apply, val_main_v37_apply, val_main_call0_v2_apply, ei, val_main_v38_apply, val_main_cst_apply]
  refine (congrArg (fun y : EReal => max (Ideal.sqrt y) (Ideal.ofBits .f32 0x2B8CBCCC#32)) (call0_v1_val x hx b t)).trans ?_
  show max (if ((sqLen x b t : ℕ) : ℝ) < 0 then (⊥ : EReal) else ((Real.sqrt (sqLen x b t : ℝ) : ℝ) : EReal)) _ = _
  rw [if_neg (by linarith)]
  refine max_eq_left (small_le.trans ?_)
  rw [← EReal.coe_one, EReal.coe_le_coe_iff]
  exact Real.one_le_sqrt.mpr h1

theorem v41_val (hx : ∀ p, (x p).toNat < 256) (b : Fin 16) (t : Fin 200) (c : Fin 512) :
    (val_main_v41 (F := Ideal) x (ix3 b t c) : EReal) = feat x b t c := by
  have h1 : (1 : ℝ) ≤ (sqLen x b t : ℝ) := by exact_mod_cast sqLen_pos x hx b t
  have ei : idx_main_v40 (ix3 b t c) = ix3 b t 0 := funext fun a => by
    match a with
    | ⟨0, _⟩ => rfl
    | ⟨1, _⟩ => rfl
    | ⟨2, _⟩ => rfl
  rw [val_main_v41_apply, val_main_v40_apply, ei]
  refine (congrArg₂ Ideal.div (v36_val x hx b t c) (v39_val x hx b t)).trans ?_
  unfold Ideal.div feat
  have hp : 0 < Real.sqrt (sqLen x b t : ℝ) := Real.sqrt_pos.mpr (by linarith)
  rw [if_neg (fun h => hp.ne' (EReal.coe_eq_zero.mp h)), ← EReal.coe_inv, ← EReal.coe_mul]

/-- The inner products. -/
theorem v42_val (hx : ∀ p, (x p).toNat < 256) (b : Fin 16) (t s : Fin 200) :
    (val_main_v42 (F := Ideal) x (ix3 b t s) : EReal) = simil x b t s := by
  rw [val_main_v42_apply]
  unfold simil
  refine sum_congr rfl fun k _ => ?_
  have el : lidx_main_v42 (ix3 b t s) k = ix3 b t k := funext fun a => by
    match a with
    | ⟨0, _⟩ => rfl
    | ⟨1, _⟩ => rfl
    | ⟨2, _⟩ => rfl
  have er : ridx_main_v42 (ix3 b t s) k = ix3 b s k := funext fun a => by
    match a with
    | ⟨0, _⟩ => rfl
    | ⟨1, _⟩ => rfl
    | ⟨2, _⟩ => rfl
  rw [el, er, v41_val x hx, v41_val x hx]

end Cert.Hist.Ref
-- ==== Proof.RefOut.lean ====
/-
  The reference's window and linear layer: the inner products padded by fifty zeros on both sides, the 101 entries around
  each frame gathered, and the layer over them.
-/
module

public import proofs.«01_k».proof.Proof.RefFeat
public import Idealize.ShloMosaic.Lib.KernelVsHost
public import Idealize.ShloMosaic.Lib.Pipeline.Value
public import Idealize.ShloMosaic.Lib.Routing.OpsPair

@[expose] public section

noncomputable section

namespace Cert.Hist.Ref

open Cert.ReferenceIdeal Cert.ReferenceIdeal.Gen Cert.ReferenceIdeal.Read
open Idealize.ShloMosaic Finset
open Idealize.ShloMosaic.ValueIdx (ix1 ix2 ix3 ix4 ix5)

variable (x : Films)

/-- The padded inner products: zero in the first and in the last fifty columns. -/
theorem v43_val (hx : ∀ p, (x p).toNat < 256) (b : Fin 16) (t : Fin 200) (k : Fin 300) :
    (val_main_v43 (F := Ideal) x (ix3 b t k) : EReal)
      = if h : 50 ≤ k.val ∧ k.val < 250 then simil x b t ⟨k.val - 50, by omega⟩ else 0 := by
  unfold val_main_v43
  by_cases h : 50 ≤ k.val ∧ k.val < 250
  · rw [dif_pos h]
    refine Eq.trans (pad_apply_of_inside _ _ _ _ _ _ _ _ (ix3 b t (⟨k.val - 50, by omega⟩ : Fin 200)) fun a => ?_) (v42_val x hx b t _)
    match a with
    | ⟨0, _⟩ => show b.val = 0 + b.val * (0 + 1); omega
    | ⟨1, _⟩ => show t.val = 0 + t.val * (0 + 1); omega
    | ⟨2, _⟩ => show k.val = 50 + (k.val - 50) * (0 + 1); omega
  · rw [dif_neg h]
    refine Eq.trans (pad_apply_of_not_inside _ _ _ _ _ _ _ _ (2 : Fin 3) fun hh => h ?_) ?_
    · have h1 : 50 ≤ k.val := hh.1
      have h2 : (k.val - 50) / (0 + 1) < 200 := hh.2.2
      rw [Nat.zero_add, Nat.div_one] at h2
      exact ⟨h1, by omega⟩
    · rw [val_main_call1_v0_apply, val_main_c_9_apply]
      exact (sitofp_small 0 (Nat.zero_le _)).trans (by simp)

/-! ### The indices gathered at -/

/-- A small word is not negative, so the wrap of negative indices leaves it. -/
theorem wrap_small (n : ℕ) (h : n < 1000) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat]
  omega

variable {F : FTy → Type} [FloatOps F]

theorem v71_val (b : Fin 16) (t : Fin 200) (j : Fin 101) : val_main_v71 (F := F) (ix4 b t j 0) = BitVec.ofNat 32 b.val := by
  rw [val_main_v71_apply, val_main_v68_apply, val_main_v57_apply, val_main_v54_apply, val_main_v45_apply, val_main_v44_apply, val_main_v53_apply,
    val_main_c_10_apply]
  exact wrap_small b.val (by omega) _

theorem v72_val (b : Fin 16) (t : Fin 200) (j : Fin 101) : val_main_v72 (F := F) (ix4 b t j 0) = BitVec.ofNat 32 t.val := by
  rw [val_main_v72_apply, val_main_v69_apply, val_main_v62_apply, val_main_v59_apply, val_main_v47_apply, val_main_v46_apply, val_main_v58_apply,
    val_main_c_12_apply]
  exact wrap_small t.val (by omega) _

theorem v52_val (t : Fin 200) (j : Fin 101) : val_main_v52 (F := F) (ix3 0 t j) = BitVec.ofNat 32 (t.val + j.val) := by
  rw [val_main_v52_apply, val_main_v50_apply, val_main_v49_apply, val_main_v48_apply, val_main_v51_apply, val_main_v47_apply, val_main_v46_apply,
    Nat.add_comm t.val]
  exact (BitVec.ofNat_add _ _).symm

theorem v73_val (b : Fin 16) (t : Fin 200) (j : Fin 101) : val_main_v73 (F := F) (ix4 b t j 0) = BitVec.ofNat 32 (t.val + j.val) := by
  have ei : idx_main_v70 (idx_main_v73 (ix4 b t j 0)) = ix3 0 t j := funext fun a => by
    match a with
    | ⟨0, _⟩ => rfl
    | ⟨1, _⟩ => rfl
    | ⟨2, _⟩ => rfl
  rw [val_main_v73_apply, val_main_v70_apply, ei, val_main_v67_apply, val_main_v64_apply, v52_val, val_main_v63_apply, val_main_c_14_apply]
  exact wrap_small _ (by omega) _

section Join

variable (y0 y1 y2 : S16x200x101x1.Idx → BitVec 32)

/-- Three words joined along the last axis. -/
abbrev joined : S16x200x101x3.Idx → BitVec 32 :=
  concatenate S16x200x101x3 3 [⟨S16x200x101x1, y0⟩, ⟨S16x200x101x1, y1⟩, ⟨S16x200x101x1, y2⟩]
    concatenates_S16x200x101x1_S16x200x101x1_S16x200x101x1_S16x200x101x3_d3

theorem joined_zero (b : Fin 16) (t : Fin 200) (j : Fin 101) : joined y0 y1 y2 (ix4 b t j 0) = y0 (ix4 b t j 0) := by
  refine concatenate_apply_piece (t := S16x200x101x3) 3 [⟨S16x200x101x1, y0⟩, ⟨S16x200x101x1, y1⟩, ⟨S16x200x101x1, y2⟩] _ (ix4 b t j 0) 0
    (by exact (show 0 < 3 by decide)) S16x200x101x1 y0 rfl rfl 0 rfl (ix4 b t j 0) (fun a _ => ?_) rfl
  match a with
  | ⟨0, _⟩ => rfl
  | ⟨1, _⟩ => rfl
  | ⟨2, _⟩ => rfl
  | ⟨3, _⟩ => rfl

theorem joined_one (b : Fin 16) (t : Fin 200) (j : Fin 101) : joined y0 y1 y2 (ix4 b t j 1) = y1 (ix4 b t j 0) := by
  refine concatenate_apply_piece (t := S16x200x101x3) 3 [⟨S16x200x101x1, y0⟩, ⟨S16x200x101x1, y1⟩, ⟨S16x200x101x1, y2⟩] _ (ix4 b t j 1) 1
    (by exact (show 1 < 3 by decide)) S16x200x101x1 y1 rfl rfl 1 rfl (ix4 b t j 0) (fun a ha => ?_) rfl
  match a with
  | ⟨0, _⟩ => rfl
  | ⟨1, _⟩ => rfl
  | ⟨2, _⟩ => rfl
  | ⟨3, _⟩ => exact absurd rfl ha

theorem joined_two (b : Fin 16) (t : Fin 200) (j : Fin 101) : joined y0 y1 y2 (ix4 b t j 2) = y2 (ix4 b t j 0) := by
  refine concatenate_apply_piece (t := S16x200x101x3) 3 [⟨S16x200x101x1, y0⟩, ⟨S16x200x101x1, y1⟩, ⟨S16x200x101x1, y2⟩] _ (ix4 b t j 2) 2
    (by exact (show 2 < 3 by decide)) S16x200x101x1 y2 rfl rfl 2 rfl (ix4 b t j 0) (fun a ha => ?_) rfl
  match a with
  | ⟨0, _⟩ => rfl
  | ⟨1, _⟩ => rfl
  | ⟨2, _⟩ => rfl
  | ⟨3, _⟩ => exact absurd rfl ha

end Join

theorem v74_film (b : Fin 16) (t : Fin 200) (j : Fin 101) : val_main_v74 (F := F) (ix4 b t j 0) = BitVec.ofNat 32 b.val :=
  (joined_zero _ _ _ b t j).trans (v71_val (F := F) b t j)

theorem v74_frame (b : Fin 16) (t : Fin 200) (j : Fin 101) : val_main_v74 (F := F) (ix4 b t j 1) = BitVec.ofNat 32 t.val :=
  (joined_one _ _ _ b t j).trans (v72_val (F := F) b t j)

theorem v74_column (b : Fin 16) (t : Fin 200) (j : Fin 101) : val_main_v74 (F := F) (ix4 b t j 2) = BitVec.ofNat 32 (t.val + j.val) :=
  (joined_two _ _ _ b t j).trans (v73_val (F := F) b t j)

/-! ### The gather -/

/-- The gather's attributes. -/
abbrev gd : GatherDims S16x200x300 S16x200x101x3 S16x200x101 := gather_S16x200x300_S16x200x101x3_S16x200x101_n_012_n_n_012_3_111

/-- Where component `q` of the index of an entry is read. -/
theorem component (b : Fin 16) (t : Fin 200) (j : Fin 101) (q : Fin 3) : gd.siIdx (ix3 b t j) q = ix4 b t j q := by
  funext a
  match a with
  | ⟨0, _⟩ => rfl
  | ⟨1, _⟩ => rfl
  | ⟨2, _⟩ => rfl
  | ⟨3, _⟩ => rfl

/-- A coordinate that is read off a small word within the axis is that word's number. -/
theorem coordinate (idx : IVec S16x200x101x3 32) (b : Fin 16) (t : Fin 200) (j : Fin 101) (q : Fin 3) (n : ℕ) (hq : idx (ix4 b t j q) = BitVec.ofNat 32 n)
    (hn : n < S16x200x300.size q) : gd.start (ix3 b t j) idx q + gd.batchCoord (ix3 b t j) q + gd.offCoord (ix3 b t j) q = n := by
  have hc : q ∈ gd.collapsedSliceDims := (show ∀ q : Fin 3, q ∈ gd.collapsedSliceDims by decide) q
  have hm : q ∈ gd.startIndexMap := by exact hc
  have hs : S16x200x300.size q ≤ 300 := by fin_cases q <;> decide
  rw [gd.batchCoord_eq_zero _ _ (by exact List.not_mem_nil), gd.offCoord_eq_zero _ _ (fun h => ((gd.mem_sKept q).1 h).1 hc)]
  unfold GatherDims.start
  rw [dif_pos hm, gd.slice_collapsed q hc]
  have e : (⟨gd.startIndexMap.idxOf q, List.idxOf_lt_length_iff.2 hm⟩ : Fin gd.startIndexMap.length) = q := by
    apply Fin.ext
    fin_cases q <;> rfl
  rw [e, component, hq, StableHlo.Predicate.toInt_ofNat_small _ (by omega)]
  show min ((n : Int)).toNat (S16x200x300.size q - 1) = n
  omega

/-- The gathered entries: the window around the frame. -/
theorem v75_val (hx : ∀ p, (x p).toNat < 256) (b : Fin 16) (t : Fin 200) (j : Fin 101) :
    (val_main_v75 (F := Ideal) x (ix3 b t j) : EReal) = near x b t j.val := by
  have hb := b.isLt
  have ht := t.isLt
  have hj := j.isLt
  unfold val_main_v75 Host.gather
  refine Eq.trans (congrArg (val_main_v43 (F := Ideal) x) (funext fun a => Fin.ext ?_)) (v43_val x hx b t ⟨t.val + j.val, by omega⟩)
  match a with
  | ⟨0, _⟩ => exact coordinate _ b t j 0 b.val (v74_film b t j) hb
  | ⟨1, _⟩ => exact coordinate _ b t j 1 t.val (v74_frame b t j) ht
  | ⟨2, _⟩ => exact coordinate _ b t j 2 (t.val + j.val) (v74_column b t j) (show t.val + j.val < 300 by omega)

/-! ### The layer -/

/-- What the reference computes. -/
theorem v81_val (hx : ∀ p, (x p).toNat < 256) (W : S128x101.Idx → EReal) (β : S128.Idx → EReal) (b : Fin 16) (t : Fin 200) (o : Fin 128) :
    (val_main_v81 (F := Ideal) x W β (ix3 b t o) : EReal) = outAt x W β b t o := by
  have hw : (val_main_v77 (F := Ideal) x W (ix3 b t o) : EReal) = ∑ j : Fin 101, near x b t j.val * W (ix2 o j) := by
    rw [val_main_v77_apply]
    refine sum_congr rfl fun k _ => ?_
    have el : lidx_main_v77 (ix3 b t o) k = ix3 b t k := funext fun a => by
      match a with
      | ⟨0, _⟩ => rfl
      | ⟨1, _⟩ => rfl
      | ⟨2, _⟩ => rfl
    have er : idx_main_v76 (ridx_main_v77 (ix3 b t o) k) = ix2 o k := funext fun a => by
      match a with
      | ⟨0, _⟩ => rfl
      | ⟨1, _⟩ => rfl
    rw [el, v75_val x hx, val_main_v76_apply, er]
  have hb : val_main_v79 (F := Ideal) β (ix3 b t o) = β (ix1 o) := by
    rw [val_main_v79_apply, val_main_v78_apply]
    exact congrArg β (funext fun a => by match a with | ⟨0, _⟩ => rfl)
  rw [val_main_v81_apply, val_main_v80_apply, val_main_call2_v0_apply, val_main_call2_cst_apply, hb]
  refine (congrArg (fun y : EReal => max (y + β (ix1 o)) (Ideal.ofBits .f32 0x00000000#32)) hw).trans ?_
  rw [Ideal.ofBits_zero_f32]
  rfl

end Cert.Hist.Ref
-- ==== Proof.Value.lean ====
/-
  The value claim: from the same frames, weights and bias, with every colour between 0 and 255, the kernel and the
  reference leave the same result on the extended reals. Both leave the function `outAt` of Proof/Spec.lean.
-/
module

public import proofs.«01_k».proof.Defs
public import proofs.«01_k».proof.Proof.Frames
public import proofs.«01_k».proof.Proof.KerOut
public import proofs.«01_k».proof.Proof.RefOut
public import proofs.«01_k».proof.Proof.Gen.ReferenceIdeal.Run

@[expose] public section

noncomputable section

namespace Cert.Hist

open Idealize.ShloMosaic hiding ix1 ix2 ix3 ix4 ix5
open Idealize.SL.Sem
open Idealize.ShloMosaic.ValueIdx (ix1 ix2 ix3 ix4 ix5)

attribute [local instance] Cert.Pre_colours_in_range.Gen.facts

/-- The result, of the arguments. -/
def result (x : Films) (W : (⟨2, ![128, 101]⟩ : Shape).Idx → EReal) (β : (⟨1, ![128]⟩ : Shape).Idx → EReal) : (⟨3, ![16, 200, 128]⟩ : Shape).Idx → EReal :=
  fun i => outAt x W β (i 0) (i 1) (i 2)

/-- Two arrays of the result's shape that agree entry by entry. -/
theorem agree_entries (f g : (⟨3, ![16, 200, 128]⟩ : Shape).Idx → EReal) (h : ∀ (b : Fin 16) (t : Fin 200) (o : Fin 128), f (ix3 b t o) = g (ix3 b t o)) : f = g := by
  funext i
  have ei : i = ix3 (i 0) (i 1) (i 2) := funext fun a => by
    match a with
    | ⟨0, _⟩ => rfl
    | ⟨1, _⟩ => rfl
    | ⟨2, _⟩ => rfl
  rw [ei]
  exact h _ _ _

/-- The reference's result. -/
theorem reference_result (x : Films) (W : (⟨2, ![128, 101]⟩ : Shape).Idx → EReal) (β : (⟨1, ![128]⟩ : Shape).Idx → EReal) (hx : ∀ p, (x p).toNat < 256) :
    (Cert.ReferenceIdeal.Read.val_main_v81 (F := Ideal) x W β : (⟨3, ![16, 200, 128]⟩ : Shape).Idx → EReal) = result x W β :=
  agree_entries _ _ fun b t o => Ref.v81_val x hx W β b t o

/-- The kernel's run and the reference's run leave the same result, and each leaves its arguments as they were. -/
theorem values_agree : Cert.algebraic_KernelIdeal_ReferenceIdeal := by
  intro m g m' g' hpre hargs
  have hz := frames_low m hpre
  have hx : ∀ c p, (films m c p).toNat < 256 := fun c p => low_of_pre (F := Ideal) _ _ _ (hpre c) p
  refine ⟨fun c => result (films m c) (weights m c) (bias m c), ?_, ?_⟩
  · refine (θ_run Cert.KernelIdeal.defs _ _).mono (fun r h c => ⟨?_, arg_kept m hz r h c Cert.KernelIdeal.main_arg0 (by decide) (by decide),
      arg_kept m hz r h c Cert.KernelIdeal.main_arg1 (by decide) (by decide),
      arg_kept m hz r h c Cert.KernelIdeal.main_arg2 (by decide) (by decide)⟩) (run_main (F := Ideal) m g hz)
    exact (h.1 c rR (by decide)).trans (result_apply m hz c (hx c))
  · refine (θ_run Cert.ReferenceIdeal.defs _ _).mono (fun r h c => ⟨(h c).1.trans ?_, (h c).2⟩)
      (Cert.ReferenceIdeal.Value.run (F := Ideal) m' g')
    refine (Cert.ReferenceIdeal.Read.val_main_v81_eq (F := Ideal) m' c).trans ?_
    rw [(hargs c).1, (hargs c).2.1, (hargs c).2.2]
    exact reference_result (films m c) (weights m c) (bias m c) (hx c)

end Cert.Hist

end
-- ==== Proof.lean ====
/- The certificate: the two frames of the kernel come from one run (Proof/Frames.lean); the reference's is its generated run;
   the value claim joins the two runs' results (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import proofs.«01_k».proof.Proof.Gen.Pre_colours_in_range
public import Idealize.ShloMosaic.Adequacy
public import Idealize.ShloMosaic.Init

@[expose] public section

noncomputable section

namespace Cert.Proof

open Idealize.ShloMosaic Idealize.SL.Sem

/-- The reference's frame: its run, and it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Pre_colours_in_range.Gen.facts,
  Cert.Hist.frame_kernel, Cert.Hist.frame_kernelIdeal, frame_reference, trivial, Cert.Hist.values_agree⟩

end Cert.Proof

end
